-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "thousandth" .f32 0x3A83126F#32 ((1 / 1000 : ℝ) : EReal)
  ∧ IdealRules.named_const.Statement Cert.KernelIdeal.κ "neg_lr_wd" .f32 0xB8D1B717#32 ((-1 / 10000 : ℝ) : EReal)
  ∧ IdealRules.named_const.Statement Cert.KernelIdeal.κ "beta1" .f32 0x3F666666#32 ((9 / 10 : ℝ) : EReal)
  ∧ IdealRules.named_const.Statement Cert.KernelIdeal.κ "log_beta1" .f32 0xBDD7C741#32 ((Real.log (9 / 10) : ℝ) : EReal)
  ∧ IdealRules.named_const.Statement Cert.KernelIdeal.κ "log_beta2" .f32 0xBA832338#32 ((Real.log (999 / 1000) : ℝ) : EReal)
  ∧ IdealRules.named_const.Statement Cert.KernelIdeal.κ "eps" .f32 0x322BCC77#32 ((1 / 100000000 : ℝ) : EReal)
  ∧ IdealRules.named_const.Statement Cert.KernelIdeal.κ "tenth" .f32 0x3DCCCCCD#32 ((1 / 10 : ℝ) : EReal)
  ∧ IdealRules.named_const.Statement Cert.KernelIdeal.κ "inv_fp8_max" .f32 0x3B124925#32 ((1 / 448 : ℝ) : EReal)
  ∧ IdealRules.named_const.Statement Cert.KernelIdeal.κ "gamma" .f32 0x3F8147AE#32 ((101 / 100 : ℝ) : EReal)

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![24, 1024, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![24, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨1, ![24]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨3, ![24, 320, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v0_3) i = v3 c i)
          ∧ (∀ i : (⟨3, ![24, 320, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v0_4) i = v4 c i)
          ∧ (∀ i : (⟨3, ![24, 320, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.KernelIdeal.nD Cert.KernelIdeal.τ).loc Cert.KernelIdeal.main_v0_5) i = v5 c i)
          ∧ (∀ i : (⟨3, ![24, 320, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![24, 1024, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v7) i = v0 c i)
          ∧ (∀ i : (⟨2, ![24, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v8) i = v1 c i)
          ∧ (∀ i : (⟨1, ![24]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v6_2) i = v2 c i)
          ∧ (∀ i : (⟨3, ![24, 320, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v9) i = v3 c i)
          ∧ (∀ i : (⟨3, ![24, 320, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v6_4) i = v4 c i)
          ∧ (∀ i : (⟨3, ![24, 320, 6144]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.ReferenceIdeal.nD Cert.ReferenceIdeal.τ).loc Cert.ReferenceIdeal.main_v10) i = v5 c i)
          ∧ (∀ i : (⟨3, ![24, 320, 48]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 i = 1#1 → r.2.mem ((c.tc : Thread Cert.ReferenceIdeal.nD Cert.ReferenceIdeal.τ).loc Cert.ReferenceIdeal.main_v6_6) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S24x1024x6144 : Shape := ⟨3, ![24, 1024, 6144]⟩
abbrev S24x320x1024 : Shape := ⟨3, ![24, 320, 1024]⟩
abbrev S24x320x6144 : Shape := ⟨3, ![24, 320, 6144]⟩
abbrev S24x320x48 : Shape := ⟨3, ![24, 320, 48]⟩
abbrev S24 : Shape := ⟨1, ![24]⟩
abbrev S24x320x48x128 : Shape := ⟨4, ![24, 320, 48, 128]⟩
abbrev S_ : Shape := ⟨0, ![]⟩
abbrev S24x320x48x1 : Shape := ⟨4, ![24, 320, 48, 1]⟩
abbrev S24x48x128 : Shape := ⟨3, ![24, 48, 128]⟩
abbrev S24x6144 : Shape := ⟨2, ![24, 6144]⟩
abbrev S24x1 : Shape := ⟨2, ![24, 1]⟩
abbrev S24x1x1 : Shape := ⟨3, ![24, 1, 1]⟩

class Facts : Prop where
  shapeCasts_S24x320x6144_S24x320x48x128 : S24x320x6144.ShapeCasts S24x320x48x128
  bcast_S_S24x320x48x128 : S_.BroadcastsInDim S24x320x48x128 (![] : Fin 0 → Fin S24x320x48x128.rank)
  bcast_S24x320x48_S24x320x48x1_0_1_2 : S24x320x48.BroadcastsInDim S24x320x48x1 (![0, 1, 2] : Fin 3 → Fin S24x320x48x1.rank)
  bcast_S_S24x320x48x1 : S_.BroadcastsInDim S24x320x48x1 (![] : Fin 0 → Fin S24x320x48x1.rank)
  bcast_S24x320x48x1_S24x320x48x128_0_1_2_3 : S24x320x48x1.BroadcastsInDim S24x320x48x128 (![0, 1, 2, 3] : Fin 4 → Fin S24x320x48x128.rank)
  reducesTo_S24x320x48x128_S24x48x128_d1 : S24x320x48x128.ReducesTo [1] S24x48x128
  h_S_ : 0 < S_.numel
  shapeCasts_S24x48x128_S24x6144 : S24x48x128.ShapeCasts S24x6144
  bcast_S_S24 : S_.BroadcastsInDim S24 (![] : Fin 0 → Fin S24.rank)
  bcast_S24_S24x1_0 : S24.BroadcastsInDim S24x1 (![0] : Fin 1 → Fin S24x1.rank)
  bcast_S24x1_S24x6144_0_1 : S24x1.BroadcastsInDim S24x6144 (![0, 1] : Fin 2 → Fin S24x6144.rank)
  reducesTo_S24x6144_S24_d1 : S24x6144.ReducesTo [1] S24
  bcast_S_S24x320x6144 : S_.BroadcastsInDim S24x320x6144 (![] : Fin 0 → Fin S24x320x6144.rank)
  bcast_S_S24x320x48 : S_.BroadcastsInDim S24x320x48 (![] : Fin 0 → Fin S24x320x48.rank)
  bcast_S24_S24x1x1_0 : S24.BroadcastsInDim S24x1x1 (![0] : Fin 1 → Fin S24x1x1.rank)
  bcast_S_S24x1024x6144 : S_.BroadcastsInDim S24x1024x6144 (![] : Fin 0 → Fin S24x1024x6144.rank)
  bcast_S24x1x1_S24x1024x6144_0_1_2 : S24x1x1.BroadcastsInDim S24x1024x6144 (![0, 1, 2] : Fin 3 → Fin S24x1024x6144.rank)
  dot_S24x320x1024_S24x1024x6144_S24x320x6144_2_1_1_2_0_0_wf : DotDims.WF S24x320x1024 S24x1024x6144 S24x320x6144 [2] [1] [1] [2] [0] [0]

variable [Facts]

def dot_S24x320x1024_S24x1024x6144_S24x320x6144_2_1_1_2_0_0 : DotDims S24x320x1024 S24x1024x6144 S24x320x6144 where
  lhsContracting := [2]
  rhsContracting := [1]
  lhsNonContracting := [1]
  rhsNonContracting := [2]
  lhsBatch := [0]
  rhsBatch := [0]
  wf := dot_S24x320x1024_S24x1024x6144_S24x320x6144_2_1_1_2_0_0_wf
def fn_part1 {F : FTy → Type} [FloatOps F] (main_arg0 : FVec F S24x1024x6144 .f32) (main_v14 : IVec S24x6144 1) (main_v18 : IVec S24x6144 1) : IVec S24x1024x6144 1 × IVec S24x6144 1 × IVec S24 1 × IVec S24x320x6144 1 × IVec S24x320x48 1 × IVec S24x320x6144 1 × IVec S24x320x48 1 :=
  let main_v19 : IVec S24x6144 1 := andi main_v14 main_v18
  let main_c_3 : IVec S_ 1 := constantI S_ 1 1#1
  let main_v20 : IVec S24 1 := (fun x v => Host.reduce IntOp.andi x v reducesTo_S24x6144_S24_d1 h_S_) main_v19 main_c_3
  let main_c_4 : IVec S_ 1 := constantI S_ 1 0#1
  let main_v21 : IVec S24x320x6144 1 := broadcastInDim S24x320x6144 ![] bcast_S_S24x320x6144 main_c_4
  let main_c_5 : IVec S_ 1 := constantI S_ 1 1#1
  let main_v22 : IVec S24x320x48 1 := broadcastInDim S24x320x48 ![] bcast_S_S24x320x48 main_c_5
  let main_c_6 : IVec S_ 1 := constantI S_ 1 0#1
  let main_v23 : IVec S24x320x48 1 := broadcastInDim S24x320x48 ![] bcast_S_S24x320x48 main_c_6
  let main_v24 : IVec S24x1x1 1 := broadcastInDim S24x1x1 ![0] bcast_S24_S24x1x1_0 main_v20
  let main_v25 : FVec F S24x1024x6144 .f32 := Host.absf main_arg0
  let main_cst_7 : FVec F S_ .f32 := constant S_ .f32 0x7F800000#32
  let main_v26 : FVec F S24x1024x6144 .f32 := broadcastInDim S24x1024x6144 ![] bcast_S_S24x1024x6144 main_cst_7
  let main_v27 : IVec S24x1024x6144 1 := cmpf .olt main_v25 main_v26
  let main_v28 : IVec S24x1024x6144 1 := broadcastInDim S24x1024x6144 ![0, 1, 2] bcast_S24x1x1_S24x1024x6144_0_1_2 main_v24
  let main_v29 : IVec S24x1024x6144 1 := andi main_v28 main_v27
  (main_v29, main_v19, main_v20, main_v21, main_v22, main_v21, main_v23)

def fn {F : FTy → Type} [FloatOps F] (main_arg0 : FVec F S24x1024x6144 .f32) (main_arg1 : FVec F S24x1024x6144 .bf16) (main_arg2 : FVec F S24x320x1024 .bf16) (main_arg3 : FVec F S24x320x6144 .fp8e4m3) (main_arg4 : FVec F S24x320x48 .f32) (main_arg5 : FVec F S24x320x6144 .fp8e4m3) (main_arg6 : FVec F S24x320x48 .f32) (main_arg7 : IVec S24 32) (main_arg8 : FVec F S24 .f32) : IVec S24x1024x6144 1 × IVec S24x6144 1 × IVec S24 1 × IVec S24x320x6144 1 × IVec S24x320x48 1 × IVec S24x320x6144 1 × IVec S24x320x48 1 :=
  let main_v0 : FVec F S24x320x6144 .f32 := (fun l r => Host.dotGeneral dot_S24x320x1024_S24x1024x6144_S24x320x6144_2_1_1_2_0_0 none l r) main_arg2 main_arg1
  let main_v1 : FVec F S24x320x48x128 .f32 := shapeCast S24x320x48x128 main_v0 shapeCasts_S24x320x6144_S24x320x48x128
  let main_v2 : FVec F S24x320x48x128 .f32 := mulf main_v1 main_v1
  let main_cst : FVec F S_ .f32 := constant S_ .f32 0x057A0000#32
  let main_v3 : FVec F S24x320x48x128 .f32 := broadcastInDim S24x320x48x128 ![] bcast_S_S24x320x48x128 main_cst
  let main_v4 : IVec S24x320x48x128 1 := cmpf .oge main_v2 main_v3
  let main_cst_0 : FVec F S_ .f32 := constant S_ .f32 0x00000000#32
  let main_v5 : FVec F S24x320x48x128 .f32 := broadcastInDim S24x320x48x128 ![] bcast_S_S24x320x48x128 main_cst_0
  let main_v6 : IVec S24x320x48x128 1 := cmpf .oeq main_v1 main_v5
  let main_v7 : FVec F S24x320x48x1 .f32 := broadcastInDim S24x320x48x1 ![0, 1, 2] bcast_S24x320x48_S24x320x48x1_0_1_2 main_arg6
  let main_cst_1 : FVec F S_ .f32 := constant S_ .f32 0x00000000#32
  let main_v8 : FVec F S24x320x48x1 .f32 := broadcastInDim S24x320x48x1 ![] bcast_S_S24x320x48x1 main_cst_1
  let main_v9 : IVec S24x320x48x1 1 := cmpf .oeq main_v7 main_v8
  let main_v10 : IVec S24x320x48x128 1 := broadcastInDim S24x320x48x128 ![0, 1, 2, 3] bcast_S24x320x48x1_S24x320x48x128_0_1_2_3 main_v9
  let main_v11 : IVec S24x320x48x128 1 := andi main_v6 main_v10
  let main_v12 : IVec S24x320x48x128 1 := ori main_v4 main_v11
  let main_c : IVec S_ 1 := constantI S_ 1 1#1
  let main_v13 : IVec S24x48x128 1 := (fun x v => Host.reduce IntOp.andi x v reducesTo_S24x320x48x128_S24x48x128_d1 h_S_) main_v12 main_c
  let main_v14 : IVec S24x6144 1 := shapeCast S24x6144 main_v13 shapeCasts_S24x48x128_S24x6144
  let main_c_2 : IVec S_ 32 := constantI S_ 32 0#32
  let main_v15 : IVec S24 32 := broadcastInDim S24 ![] bcast_S_S24 main_c_2
  let main_v16 : IVec S24 1 := cmpi .sgt main_arg7 main_v15
  let main_v17 : IVec S24x1 1 := broadcastInDim S24x1 ![0] bcast_S24_S24x1_0 main_v16
  let main_v18 : IVec S24x6144 1 := broadcastInDim S24x6144 ![0, 1] bcast_S24x1_S24x6144_0_1 main_v17
  fn_part1 (F := F) main_arg0 main_v14 main_v18
-- ==== Kernel.lean ====
abbrev S24x1024x6144 : Shape := ⟨3, ![24, 1024, 6144]⟩
abbrev S24x320x1024 : Shape := ⟨3, ![24, 320, 1024]⟩
abbrev S24x320x6144 : Shape := ⟨3, ![24, 320, 6144]⟩
abbrev S24x320x48 : Shape := ⟨3, ![24, 320, 48]⟩
abbrev S24 : Shape := ⟨1, ![24]⟩
abbrev S24x6144 : Shape := ⟨2, ![24, 6144]⟩
abbrev S1x1024x1024 : Shape := ⟨3, ![1, 1024, 1024]⟩
abbrev S1x320x1024 : Shape := ⟨3, ![1, 320, 1024]⟩
abbrev S1x320x48 : Shape := ⟨3, ![1, 320, 48]⟩
abbrev S8x6144 : Shape := ⟨2, ![8, 6144]⟩
abbrev S6x1024x1024 : Shape := ⟨3, ![6, 1024, 1024]⟩
abbrev S48x128 : Shape := ⟨2, ![48, 128]⟩
abbrev S320x256 : Shape := ⟨2, ![320, 256]⟩
abbrev S320x1024 : Shape := ⟨2, ![320, 1024]⟩
abbrev S320x128 : Shape := ⟨2, ![320, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S320x48 : Shape := ⟨2, ![320, 48]⟩
abbrev S1x48 : Shape := ⟨2, ![1, 48]⟩
abbrev S32x128 : Shape := ⟨2, ![32, 128]⟩
abbrev S8x128 : Shape := ⟨2, ![8, 128]⟩
abbrev S1x16x128 : Shape := ⟨3, ![1, 16, 128]⟩
abbrev S16x128 : Shape := ⟨2, ![16, 128]⟩
abbrev S128 : Shape := ⟨1, ![128]⟩
abbrev S1x256 : Shape := ⟨2, ![1, 256]⟩
abbrev S1x1024x256 : Shape := ⟨3, ![1, 1024, 256]⟩
abbrev S1024x256 : Shape := ⟨2, ![1024, 256]⟩
abbrev S1x32x128 : Shape := ⟨3, ![1, 32, 128]⟩
abbrev S32x128x1 : Shape := ⟨3, ![32, 128, 1]⟩
abbrev S32 : Shape := ⟨1, ![32]⟩
abbrev S32x1 : Shape := ⟨2, ![32, 1]⟩
abbrev S32x48 : Shape := ⟨2, ![32, 48]⟩
abbrev S1x32x48 : Shape := ⟨3, ![1, 32, 48]⟩
abbrev S1x1 : Shape := ⟨2, ![1, 1]⟩

abbrev nBuf : Space → Nat
  | .hbm => 16
  | .vmem => 36
  | .smem => 4
  | _ => 0

abbrev bufTy : (tb : Table) → Fin (tcTables nBuf tb) → BufTy
  | .hbm, ⟨0, _⟩ => ⟨S24x1024x6144, .f32⟩
  | .hbm, ⟨1, _⟩ => ⟨S24x1024x6144, .bf16⟩
  | .hbm, ⟨2, _⟩ => ⟨S24x320x1024, .bf16⟩
  | .hbm, ⟨3, _⟩ => ⟨S24x320x6144, .fp8e4m3⟩
  | .hbm, ⟨4, _⟩ => ⟨S24x320x48, .f32⟩
  | .hbm, ⟨5, _⟩ => ⟨S24x320x6144, .fp8e4m3⟩
  | .hbm, ⟨6, _⟩ => ⟨S24x320x48, .f32⟩
  | .hbm, ⟨7, _⟩ => ⟨S24, .i32⟩
  | .hbm, ⟨8, _⟩ => ⟨S24, .f32⟩
  | .hbm, ⟨9, _⟩ => ⟨S24x1024x6144, .f32⟩
  | .hbm, ⟨10, _⟩ => ⟨S24x6144, .f32⟩
  | .hbm, ⟨11, _⟩ => ⟨S24, .f32⟩
  | .hbm, ⟨12, _⟩ => ⟨S24x320x6144, .fp8e4m3⟩
  | .hbm, ⟨13, _⟩ => ⟨S24x320x48, .f32⟩
  | .hbm, ⟨14, _⟩ => ⟨S24x320x6144, .fp8e4m3⟩
  | .hbm, ⟨15, _⟩ => ⟨S24x320x48, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x320x1024, .bf16⟩
  | .local _ .vmem, ⟨5, _⟩ => ⟨S1x320x1024, .bf16⟩
  | .local _ .vmem, ⟨6, _⟩ => ⟨S1x320x1024, .fp8e4m3⟩
  | .local _ .vmem, ⟨7, _⟩ => ⟨S1x320x1024, .fp8e4m3⟩
  | .local _ .vmem, ⟨8, _⟩ => ⟨S1x320x48, .f32⟩
  | .local _ .vmem, ⟨9, _⟩ => ⟨S1x320x48, .f32⟩
  | .local _ .vmem, ⟨10, _⟩ => ⟨S1x320x1024, .fp8e4m3⟩
  | .local _ .vmem, ⟨11, _⟩ => ⟨S1x320x1024, .fp8e4m3⟩
  | .local _ .vmem, ⟨12, _⟩ => ⟨S1x320x48, .f32⟩
  | .local _ .vmem, ⟨13, _⟩ => ⟨S1x320x48, .f32⟩
  | .local _ .vmem, ⟨14, _⟩ => ⟨S1x1024x1024, .f32⟩
  | .local _ .vmem, ⟨15, _⟩ => ⟨S1x1024x1024, .f32⟩
  | .local _ .vmem, ⟨16, _⟩ => ⟨S8x6144, .f32⟩
  | .local _ .vmem, ⟨17, _⟩ => ⟨S8x6144, .f32⟩
  | .local _ .vmem, ⟨18, _⟩ => ⟨S1x320x1024, .fp8e4m3⟩
  | .local _ .vmem, ⟨19, _⟩ => ⟨S1x320x1024, .fp8e4m3⟩
  | .local _ .vmem, ⟨20, _⟩ => ⟨S1x320x48, .f32⟩
  | .local _ .vmem, ⟨21, _⟩ => ⟨S1x320x48, .f32⟩
  | .local _ .vmem, ⟨22, _⟩ => ⟨S1x320x1024, .fp8e4m3⟩
  | .local _ .vmem, ⟨23, _⟩ => ⟨S1x320x1024, .fp8e4m3⟩
  | .local _ .vmem, ⟨24, _⟩ => ⟨S1x320x48, .f32⟩
  | .local _ .vmem, ⟨25, _⟩ => ⟨S1x320x48, .f32⟩
  | .local _ .vmem, ⟨26, _⟩ => ⟨S6x1024x1024, .bf16⟩
  | .local _ .vmem, ⟨27, _⟩ => ⟨S48x128, .f32⟩
  | .local _ .vmem, ⟨28, _⟩ => ⟨S320x256, .f32⟩
  | .local _ .vmem, ⟨29, _⟩ => ⟨S320x1024, .f32⟩
  | .local _ .vmem, ⟨30, _⟩ => ⟨S320x1024, .f32⟩
  | .local _ .vmem, ⟨31, _⟩ => ⟨S320x128, .f32⟩
  | .local _ .vmem, ⟨32, _⟩ => ⟨S320x128, .f32⟩
  | .local _ .vmem, ⟨33, _⟩ => ⟨S320x128, .f32⟩
  | .local _ .vmem, ⟨34, _⟩ => ⟨S320x128, .f32⟩
  | .local _ .vmem, ⟨35, _⟩ => ⟨S1x128, .f32⟩
  | .local _ .smem, ⟨0, _⟩ => ⟨S24, .i32⟩
  | .local _ .smem, ⟨1, _⟩ => ⟨S24, .f32⟩
  | .local _ .smem, ⟨2, _⟩ => ⟨S24, .f32⟩
  | .local _ .smem, ⟨3, _⟩ => ⟨S1, .f32⟩
  | _, _ => ⟨S24x1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_stg0_0 : Ref sig .tc := ⟨.smem, 0, rfl⟩
abbrev cc0_stg1_0 : Ref sig .tc := ⟨.smem, 1, rfl⟩
abbrev cc0_stg11_0 : Ref sig .tc := ⟨.smem, 2, rfl⟩
abbrev cc0_scratch10 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![25, 6], ![false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_5 : BitVec 32 := 0#32
  let c8_i32_6 : BitVec 32 := 8#32
  let v13 : BitVec 32 := Scalar.addi c0_i32_5 c8_i32_6
  let c1_i32 : BitVec 32 := 1#32
  ⟨c0_i32_5, v13, c1_i32⟩
def k0_off1 (i : grid0.Coords) (k0_t1 : Fin k0_t1_loop.trips) : Fin 2 → Nat :=
  let arg1 : BitVec 32 := BitVec.ofNat 32 (i 1).val
  let c8_i32 : BitVec 32 := 8#32
  let v0 : BitVec 32 := Scalar.muli arg1 c8_i32
  let c0_i32_5 : BitVec 32 := 0#32
  let c1_i32 : BitVec 32 := 1#32
  let arg29 : BitVec 32 := Scf.iv c0_i32_5 c1_i32 k0_t1
  let v14 : BitVec 32 := Scalar.addi v0 arg29
  let v15 : Index := Scalar.indexCast v14
  let c0_8 : Index := 0#32
  ![v15.toNat, 0]
def k0_mult1 (k0_t1 : Fin k0_t1_loop.trips) : BitVec 32 :=
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  v21
def k0_off2 (i : grid0.Coords) (k0_t1 : Fin k0_t1_loop.trips) : Fin 3 → Nat :=
  let arg1 : BitVec 32 := BitVec.ofNat 32 (i 1).val
  let v23 : Index := Scalar.indexCast arg1
  let c0_10 : Index := 0#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v24 : Index := Scalar.indexCast v22
  ![v23.toNat, 0, v24.toNat]
def k0_off3 (k0_t1 : Fin k0_t1_loop.trips) : Fin 3 → Nat :=
  let c0_11 : Index := 0#32
  let c0_12 : Index := 0#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v30 : Index := Scalar.indexCast v22
  ![0, 0, v30.toNat]
def k0_off4 (i : grid0.Coords) (k0_t1 : Fin k0_t1_loop.trips) : Fin 3 → Nat :=
  let arg1 : BitVec 32 := BitVec.ofNat 32 (i 1).val
  let v40 : Index := Scalar.indexCast arg1
  let c128 : Index := 128#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v41 : Index := Scalar.indexCast v22
  ![v40.toNat, 128, v41.toNat]
def k0_off5 (k0_t1 : Fin k0_t1_loop.trips) : Fin 3 → Nat :=
  let c0_16 : Index := 0#32
  let c128_17 : Index := 128#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v47 : Index := Scalar.indexCast v22
  ![0, 128, v47.toNat]
def k0_off6 (i : grid0.Coords) (k0_t1 : Fin k0_t1_loop.trips) : Fin 3 → Nat :=
  let arg1 : BitVec 32 := BitVec.ofNat 32 (i 1).val
  let v57 : Index := Scalar.indexCast arg1
  let c256 : Index := 256#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v58 : Index := Scalar.indexCast v22
  ![v57.toNat, 256, v58.toNat]
def k0_off7 (k0_t1 : Fin k0_t1_loop.trips) : Fin 3 → Nat :=
  let c0_21 : Index := 0#32
  let c256_22 : Index := 256#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v64 : Index := Scalar.indexCast v22
  ![0, 256, v64.toNat]
def k0_off8 (i : grid0.Coords) (k0_t1 : Fin k0_t1_loop.trips) : Fin 3 → Nat :=
  let arg1 : BitVec 32 := BitVec.ofNat 32 (i 1).val
  let v74 : Index := Scalar.indexCast arg1
  let c384 : Index := 384#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v75 : Index := Scalar.indexCast v22
  ![v74.toNat, 384, v75.toNat]
def k0_off9 (k0_t1 : Fin k0_t1_loop.trips) : Fin 3 → Nat :=
  let c0_26 : Index := 0#32
  let c384_27 : Index := 384#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v81 : Index := Scalar.indexCast v22
  ![0, 384, v81.toNat]
def k0_off10 (i : grid0.Coords) (k0_t1 : Fin k0_t1_loop.trips) : Fin 3 → Nat :=
  let arg1 : BitVec 32 := BitVec.ofNat 32 (i 1).val
  let v91 : Index := Scalar.indexCast arg1
  let c512 : Index := 512#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v92 : Index := Scalar.indexCast v22
  ![v91.toNat, 512, v92.toNat]
def k0_off11 (k0_t1 : Fin k0_t1_loop.trips) : Fin 3 → Nat :=
  let c0_31 : Index := 0#32
  let c512_32 : Index := 512#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v98 : Index := Scalar.indexCast v22
  ![0, 512, v98.toNat]
def k0_off12 (i : grid0.Coords) (k0_t1 : Fin k0_t1_loop.trips) : Fin 3 → Nat :=
  let arg1 : BitVec 32 := BitVec.ofNat 32 (i 1).val
  let v108 : Index := Scalar.indexCast arg1
  let c640 : Index := 640#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v109 : Index := Scalar.indexCast v22
  ![v108.toNat, 640, v109.toNat]
def k0_off13 (k0_t1 : Fin k0_t1_loop.trips) : Fin 3 → Nat :=
  let c0_36 : Index := 0#32
  let c640_37 : Index := 640#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v115 : Index := Scalar.indexCast v22
  ![0, 640, v115.toNat]
def k0_off14 (i : grid0.Coords) (k0_t1 : Fin k0_t1_loop.trips) : Fin 3 → Nat :=
  let arg1 : BitVec 32 := BitVec.ofNat 32 (i 1).val
  let v125 : Index := Scalar.indexCast arg1
  let c768 : Index := 768#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v126 : Index := Scalar.indexCast v22
  ![v125.toNat, 768, v126.toNat]
def k0_off15 (k0_t1 : Fin k0_t1_loop.trips) : Fin 3 → Nat :=
  let c0_41 : Index := 0#32
  let c768_42 : Index := 768#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v132 : Index := Scalar.indexCast v22
  ![0, 768, v132.toNat]
def k0_off16 (i : grid0.Coords) (k0_t1 : Fin k0_t1_loop.trips) : Fin 3 → Nat :=
  let arg1 : BitVec 32 := BitVec.ofNat 32 (i 1).val
  let v142 : Index := Scalar.indexCast arg1
  let c896 : Index := 896#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v143 : Index := Scalar.indexCast v22
  ![v142.toNat, 896, v143.toNat]
def k0_off17 (k0_t1 : Fin k0_t1_loop.trips) : Fin 3 → Nat :=
  let c0_46 : Index := 0#32
  let c896_47 : Index := 896#32
  let c0_i32_5 : BitVec 32 := 0#32
  let c1_i32 : BitVec 32 := 1#32
  let arg29 : BitVec 32 := Scf.iv c0_i32_5 c1_i32 k0_t1
  let c128_i32 : BitVec 32 := 128#32
  let v21 : BitVec 32 := Scalar.muli arg29 c128_i32
  let v22 : BitVec 32 := v21
  let v149 : Index := Scalar.indexCast v22
  ![0, 896, v149.toNat]
def k0_cond3 (i : grid0.Coords) : BitVec 1 :=
  let arg0 : BitVec 32 := BitVec.ofNat 32 (i 0).val
  let c24_i32_3 : BitVec 32 := 24#32
  let v9 : BitVec 1 := Scalar.cmpi .slt arg0 c24_i32_3
  let v10 : BitVec 32 := Scalar.extui v9
  let c0_i32_4 : BitVec 32 := 0#32
  let v11 : BitVec 1 := Scalar.cmpi .ne v10 c0_i32_4
  v11

def k0_off18 (i : grid0.Coords) : Fin 1 → Nat :=
  let arg0 : BitVec 32 := BitVec.ofNat 32 (i 0).val
  let v12 : Index := Scalar.indexCast arg0
  ![v12.toNat]
@[reducible] def k0_t2_loop : Scf.Loop 32 :=
  let c0_i32_9 : BitVec 32 := 0#32
  let c4_i32 : BitVec 32 := 4#32
  let v33 : BitVec 32 := Scalar.addi c0_i32_9 c4_i32
  let c1_i32 : BitVec 32 := 1#32
  ⟨c0_i32_9, v33, c1_i32⟩
def k0_mult2 (k0_t2 : Fin k0_t2_loop.trips) : BitVec 32 :=
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  v618
def k0_off19 (k0_t2 : Fin k0_t2_loop.trips) (c0_i32_404 : BitVec 32) : Fin 3 → Nat :=
  let c0_405 : Index := 0#32
  let c0_406 : Index := 0#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v621 : Index := Scalar.indexCast v620
  ![0, 0, v621.toNat]
def k0_off20 (i : grid0.Coords) (k0_t2 : Fin k0_t2_loop.trips) (c0_i32_404 : BitVec 32) : Fin 3 → Nat :=
  let arg1 : BitVec 32 := BitVec.ofNat 32 (i 1).val
  let v624 : Index := Scalar.indexCast arg1
  let c0_407 : Index := 0#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v625 : Index := Scalar.indexCast v620
  ![v624.toNat, 0, v625.toNat]
def k0_off21 (k0_t2 : Fin k0_t2_loop.trips) (c0_i32_404 : BitVec 32) : Fin 3 → Nat :=
  let c0_408 : Index := 0#32
  let c16 : Index := 16#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v634 : Index := Scalar.indexCast v620
  ![0, 16, v634.toNat]
def k0_off22 (i : grid0.Coords) (k0_t2 : Fin k0_t2_loop.trips) (c0_i32_404 : BitVec 32) : Fin 3 → Nat :=
  let arg1 : BitVec 32 := BitVec.ofNat 32 (i 1).val
  let v637 : Index := Scalar.indexCast arg1
  let c16_409 : Index := 16#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v638 : Index := Scalar.indexCast v620
  ![v637.toNat, 16, v638.toNat]
def k0_off23 (k0_t2 : Fin k0_t2_loop.trips) (c0_i32_404 : BitVec 32) : Fin 3 → Nat :=
  let c0_410 : Index := 0#32
  let c32_411 : Index := 32#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v648 : Index := Scalar.indexCast v620
  ![0, 32, v648.toNat]
def k0_off24 (i : grid0.Coords) (k0_t2 : Fin k0_t2_loop.trips) (c0_i32_404 : BitVec 32) : Fin 3 → Nat :=
  let arg1 : BitVec 32 := BitVec.ofNat 32 (i 1).val
  let v651 : Index := Scalar.indexCast arg1
  let c32_412 : Index := 32#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v652 : Index := Scalar.indexCast v620
  ![v651.toNat, 32, v652.toNat]
def k0_off25 (k0_t2 : Fin k0_t2_loop.trips) (c0_i32_404 : BitVec 32) : Fin 3 → Nat :=
  let c0_413 : Index := 0#32
  let c48 : Index := 48#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v662 : Index := Scalar.indexCast v620
  ![0, 48, v662.toNat]
def k0_off26 (i : grid0.Coords) (k0_t2 : Fin k0_t2_loop.trips) (c0_i32_404 : BitVec 32) : Fin 3 → Nat :=
  let arg1 : BitVec 32 := BitVec.ofNat 32 (i 1).val
  let v665 : Index := Scalar.indexCast arg1
  let c48_414 : Index := 48#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v666 : Index := Scalar.indexCast v620
  ![v665.toNat, 48, v666.toNat]
def k0_off27 (k0_t2 : Fin k0_t2_loop.trips) (c0_i32_404 : BitVec 32) : Fin 3 → Nat :=
  let c0_415 : Index := 0#32
  let c64_416 : Index := 64#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v676 : Index := Scalar.indexCast v620
  ![0, 64, v676.toNat]
def k0_off28 (i : grid0.Coords) (k0_t2 : Fin k0_t2_loop.trips) (c0_i32_404 : BitVec 32) : Fin 3 → Nat :=
  let arg1 : BitVec 32 := BitVec.ofNat 32 (i 1).val
  let v679 : Index := Scalar.indexCast arg1
  let c64_417 : Index := 64#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v680 : Index := Scalar.indexCast v620
  ![v679.toNat, 64, v680.toNat]
def k0_off29 (k0_t2 : Fin k0_t2_loop.trips) (c0_i32_404 : BitVec 32) : Fin 3 → Nat :=
  let c0_418 : Index := 0#32
  let c80 : Index := 80#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v690 : Index := Scalar.indexCast v620
  ![0, 80, v690.toNat]
def k0_off30 (i : grid0.Coords) (k0_t2 : Fin k0_t2_loop.trips) (c0_i32_404 : BitVec 32) : Fin 3 → Nat :=
  let arg1 : BitVec 32 := BitVec.ofNat 32 (i 1).val
  let v693 : Index := Scalar.indexCast arg1
  let c80_419 : Index := 80#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v694 : Index := Scalar.indexCast v620
  ![v693.toNat, 80, v694.toNat]
def k0_off31 (k0_t2 : Fin k0_t2_loop.trips) (c0_i32_404 : BitVec 32) : Fin 3 → Nat :=
  let c0_420 : Index := 0#32
  let c96_421 : Index := 96#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v704 : Index := Scalar.indexCast v620
  ![0, 96, v704.toNat]
def k0_off32 (i : grid0.Coords) (k0_t2 : Fin k0_t2_loop.trips) (c0_i32_404 : BitVec 32) : Fin 3 → Nat :=
  let arg1 : BitVec 32 := BitVec.ofNat 32 (i 1).val
  let v707 : Index := Scalar.indexCast arg1
  let c96_422 : Index := 96#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v708 : Index := Scalar.indexCast v620
  ![v707.toNat, 96, v708.toNat]
def k0_off33 (k0_t2 : Fin k0_t2_loop.trips) (c0_i32_404 : BitVec 32) : Fin 3 → Nat :=
  let c0_423 : Index := 0#32
  let c112 : Index := 112#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v718 : Index := Scalar.indexCast v620
  ![0, 112, v718.toNat]
def k0_off34 (i : grid0.Coords) (k0_t2 : Fin k0_t2_loop.trips) (c0_i32_404 : BitVec 32) : Fin 3 → Nat :=
  let arg1 : BitVec 32 := BitVec.ofNat 32 (i 1).val
  let v721 : Index := Scalar.indexCast arg1
  let c112_424 : Index := 112#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v722 : Index := Scalar.indexCast v620
  ![v721.toNat, 112, v722.toNat]
def k0_off35 (k0_t2 : Fin k0_t2_loop.trips) (c0_i32_404 : BitVec 32) : Fin 3 → Nat :=
  let c0_425 : Index := 0#32
  let c128_426 : Index := 128#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v732 : Index := Scalar.indexCast v620
  ![0, 128, v732.toNat]
def k0_off36 (i : grid0.Coords) (k0_t2 : Fin k0_t2_loop.trips) (c0_i32_404 : BitVec 32) : Fin 3 → Nat :=
  let arg1 : BitVec 32 := BitVec.ofNat 32 (i 1).val
  let v735 : Index := Scalar.indexCast arg1
  let c128_427 : Index := 128#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v736 : Index := Scalar.indexCast v620
  ![v735.toNat, 128, v736.toNat]
def k0_off37 (k0_t2 : Fin k0_t2_loop.trips) (c0_i32_404 : BitVec 32) : Fin 3 → Nat :=
  let c0_428 : Index := 0#32
  let c144 : Index := 144#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v746 : Index := Scalar.indexCast v620
  ![0, 144, v746.toNat]
def k0_off38 (i : grid0.Coords) (k0_t2 : Fin k0_t2_loop.trips) (c0_i32_404 : BitVec 32) : Fin 3 → Nat :=
  let arg1 : BitVec 32 := BitVec.ofNat 32 (i 1).val
  let v749 : Index := Scalar.indexCast arg1
  let c144_429 : Index := 144#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v750 : Index := Scalar.indexCast v620
  ![v749.toNat, 144, v750.toNat]
def k0_off39 (k0_t2 : Fin k0_t2_loop.trips) (c0_i32_404 : BitVec 32) : Fin 3 → Nat :=
  let c0_430 : Index := 0#32
  let c160_431 : Index := 160#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v760 : Index := Scalar.indexCast v620
  ![0, 160, v760.toNat]
def k0_off40 (i : grid0.Coords) (k0_t2 : Fin k0_t2_loop.trips) (c0_i32_404 : BitVec 32) : Fin 3 → Nat :=
  let arg1 : BitVec 32 := BitVec.ofNat 32 (i 1).val
  let v763 : Index := Scalar.indexCast arg1
  let c160_432 : Index := 160#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v764 : Index := Scalar.indexCast v620
  ![v763.toNat, 160, v764.toNat]
def k0_off41 (k0_t2 : Fin k0_t2_loop.trips) (c0_i32_404 : BitVec 32) : Fin 3 → Nat :=
  let c0_433 : Index := 0#32
  let c176 : Index := 176#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v774 : Index := Scalar.indexCast v620
  ![0, 176, v774.toNat]
def k0_off42 (i : grid0.Coords) (k0_t2 : Fin k0_t2_loop.trips) (c0_i32_404 : BitVec 32) : Fin 3 → Nat :=
  let arg1 : BitVec 32 := BitVec.ofNat 32 (i 1).val
  let v777 : Index := Scalar.indexCast arg1
  let c176_434 : Index := 176#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v778 : Index := Scalar.indexCast v620
  ![v777.toNat, 176, v778.toNat]
def k0_off43 (k0_t2 : Fin k0_t2_loop.trips) (c0_i32_404 : BitVec 32) : Fin 3 → Nat :=
  let c0_435 : Index := 0#32
  let c192_436 : Index := 192#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v788 : Index := Scalar.indexCast v620
  ![0, 192, v788.toNat]
def k0_off44 (i : grid0.Coords) (k0_t2 : Fin k0_t2_loop.trips) (c0_i32_404 : BitVec 32) : Fin 3 → Nat :=
  let arg1 : BitVec 32 := BitVec.ofNat 32 (i 1).val
  let v791 : Index := Scalar.indexCast arg1
  let c192_437 : Index := 192#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v792 : Index := Scalar.indexCast v620
  ![v791.toNat, 192, v792.toNat]
def k0_off45 (k0_t2 : Fin k0_t2_loop.trips) (c0_i32_404 : BitVec 32) : Fin 3 → Nat :=
  let c0_438 : Index := 0#32
  let c208 : Index := 208#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v802 : Index := Scalar.indexCast v620
  ![0, 208, v802.toNat]
def k0_off46 (i : grid0.Coords) (k0_t2 : Fin k0_t2_loop.trips) (c0_i32_404 : BitVec 32) : Fin 3 → Nat :=
  let arg1 : BitVec 32 := BitVec.ofNat 32 (i 1).val
  let v805 : Index := Scalar.indexCast arg1
  let c208_439 : Index := 208#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v806 : Index := Scalar.indexCast v620
  ![v805.toNat, 208, v806.toNat]
def k0_off47 (k0_t2 : Fin k0_t2_loop.trips) (c0_i32_404 : BitVec 32) : Fin 3 → Nat :=
  let c0_440 : Index := 0#32
  let c224_441 : Index := 224#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v816 : Index := Scalar.indexCast v620
  ![0, 224, v816.toNat]
def k0_off48 (i : grid0.Coords) (k0_t2 : Fin k0_t2_loop.trips) (c0_i32_404 : BitVec 32) : Fin 3 → Nat :=
  let arg1 : BitVec 32 := BitVec.ofNat 32 (i 1).val
  let v819 : Index := Scalar.indexCast arg1
  let c224_442 : Index := 224#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v820 : Index := Scalar.indexCast v620
  ![v819.toNat, 224, v820.toNat]
def k0_off49 (k0_t2 : Fin k0_t2_loop.trips) (c0_i32_404 : BitVec 32) : Fin 3 → Nat :=
  let c0_443 : Index := 0#32
  let c240 : Index := 240#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v830 : Index := Scalar.indexCast v620
  ![0, 240, v830.toNat]
def k0_off50 (i : grid0.Coords) (k0_t2 : Fin k0_t2_loop.trips) (c0_i32_404 : BitVec 32) : Fin 3 → Nat :=
  let arg1 : BitVec 32 := BitVec.ofNat 32 (i 1).val
  let v833 : Index := Scalar.indexCast arg1
  let c240_444 : Index := 240#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v834 : Index := Scalar.indexCast v620
  ![v833.toNat, 240, v834.toNat]
def k0_off51 (k0_t2 : Fin k0_t2_loop.trips) (c0_i32_404 : BitVec 32) : Fin 3 → Nat :=
  let c0_445 : Index := 0#32
  let c256_446 : Index := 256#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v844 : Index := Scalar.indexCast v620
  ![0, 256, v844.toNat]
def k0_off52 (i : grid0.Coords) (k0_t2 : Fin k0_t2_loop.trips) (c0_i32_404 : BitVec 32) : Fin 3 → Nat :=
  let arg1 : BitVec 32 := BitVec.ofNat 32 (i 1).val
  let v847 : Index := Scalar.indexCast arg1
  let c256_447 : Index := 256#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v848 : Index := Scalar.indexCast v620
  ![v847.toNat, 256, v848.toNat]
def k0_off53 (k0_t2 : Fin k0_t2_loop.trips) (c0_i32_404 : BitVec 32) : Fin 3 → Nat :=
  let c0_448 : Index := 0#32
  let c272 : Index := 272#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v857 : Index := Scalar.indexCast v620
  ![0, 272, v857.toNat]
def k0_off54 (i : grid0.Coords) (k0_t2 : Fin k0_t2_loop.trips) (c0_i32_404 : BitVec 32) : Fin 3 → Nat :=
  let arg1 : BitVec 32 := BitVec.ofNat 32 (i 1).val
  let v860 : Index := Scalar.indexCast arg1
  let c272_449 : Index := 272#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v861 : Index := Scalar.indexCast v620
  ![v860.toNat, 272, v861.toNat]
def k0_off55 (k0_t2 : Fin k0_t2_loop.trips) (c0_i32_404 : BitVec 32) : Fin 3 → Nat :=
  let c0_450 : Index := 0#32
  let c288_451 : Index := 288#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v871 : Index := Scalar.indexCast v620
  ![0, 288, v871.toNat]
def k0_off56 (i : grid0.Coords) (k0_t2 : Fin k0_t2_loop.trips) (c0_i32_404 : BitVec 32) : Fin 3 → Nat :=
  let arg1 : BitVec 32 := BitVec.ofNat 32 (i 1).val
  let v874 : Index := Scalar.indexCast arg1
  let c288_452 : Index := 288#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v875 : Index := Scalar.indexCast v620
  ![v874.toNat, 288, v875.toNat]
def k0_off57 (k0_t2 : Fin k0_t2_loop.trips) (c0_i32_404 : BitVec 32) : Fin 3 → Nat :=
  let c0_453 : Index := 0#32
  let c304 : Index := 304#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v885 : Index := Scalar.indexCast v620
  ![0, 304, v885.toNat]
def k0_off58 (i : grid0.Coords) (k0_t2 : Fin k0_t2_loop.trips) (c0_i32_404 : BitVec 32) : Fin 3 → Nat :=
  let arg1 : BitVec 32 := BitVec.ofNat 32 (i 1).val
  let v888 : Index := Scalar.indexCast arg1
  let c304_454 : Index := 304#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v889 : Index := Scalar.indexCast v620
  ![v888.toNat, 304, v889.toNat]
def k0_off59 (k0_t2 : Fin k0_t2_loop.trips) (c0_i32_404 : BitVec 32) : Fin 3 → Nat :=
  let c0_455 : Index := 0#32
  let c320 : Index := 320#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v899 : Index := Scalar.indexCast v620
  ![0, 320, v899.toNat]
def k0_off60 (i : grid0.Coords) (k0_t2 : Fin k0_t2_loop.trips) (c0_i32_404 : BitVec 32) : Fin 3 → Nat :=
  let arg1 : BitVec 32 := BitVec.ofNat 32 (i 1).val
  let v902 : Index := Scalar.indexCast arg1
  let c320_456 : Index := 320#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v903 : Index := Scalar.indexCast v620
  ![v902.toNat, 320, v903.toNat]
def k0_off61 (k0_t2 : Fin k0_t2_loop.trips) (c0_i32_404 : BitVec 32) : Fin 3 → Nat :=
  let c0_457 : Index := 0#32
  let c336 : Index := 336#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v913 : Index := Scalar.indexCast v620
  ![0, 336, v913.toNat]
def k0_off62 (i : grid0.Coords) (k0_t2 : Fin k0_t2_loop.trips) (c0_i32_404 : BitVec 32) : Fin 3 → Nat :=
  let arg1 : BitVec 32 := BitVec.ofNat 32 (i 1).val
  let v916 : Index := Scalar.indexCast arg1
  let c336_458 : Index := 336#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v917 : Index := Scalar.indexCast v620
  ![v916.toNat, 336, v917.toNat]
def k0_off63 (k0_t2 : Fin k0_t2_loop.trips) (c0_i32_404 : BitVec 32) : Fin 3 → Nat :=
  let c0_459 : Index := 0#32
  let c352 : Index := 352#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v927 : Index := Scalar.indexCast v620
  ![0, 352, v927.toNat]
def k0_off64 (i : grid0.Coords) (k0_t2 : Fin k0_t2_loop.trips) (c0_i32_404 : BitVec 32) : Fin 3 → Nat :=
  let arg1 : BitVec 32 := BitVec.ofNat 32 (i 1).val
  let v930 : Index := Scalar.indexCast arg1
  let c352_460 : Index := 352#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v931 : Index := Scalar.indexCast v620
  ![v930.toNat, 352, v931.toNat]
def k0_off65 (k0_t2 : Fin k0_t2_loop.trips) (c0_i32_404 : BitVec 32) : Fin 3 → Nat :=
  let c0_461 : Index := 0#32
  let c368 : Index := 368#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v941 : Index := Scalar.indexCast v620
  ![0, 368, v941.toNat]
def k0_off66 (i : grid0.Coords) (k0_t2 : Fin k0_t2_loop.trips) (c0_i32_404 : BitVec 32) : Fin 3 → Nat :=
  let arg1 : BitVec 32 := BitVec.ofNat 32 (i 1).val
  let v944 : Index := Scalar.indexCast arg1
  let c368_462 : Index := 368#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v945 : Index := Scalar.indexCast v620
  ![v944.toNat, 368, v945.toNat]
def k0_off67 (k0_t2 : Fin k0_t2_loop.trips) (c0_i32_404 : BitVec 32) : Fin 3 → Nat :=
  let c0_463 : Index := 0#32
  let c384 : Index := 384#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v955 : Index := Scalar.indexCast v620
  ![0, 384, v955.toNat]
def k0_off68 (i : grid0.Coords) (k0_t2 : Fin k0_t2_loop.trips) (c0_i32_404 : BitVec 32) : Fin 3 → Nat :=
  let arg1 : BitVec 32 := BitVec.ofNat 32 (i 1).val
  let v958 : Index := Scalar.indexCast arg1
  let c384_464 : Index := 384#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v959 : Index := Scalar.indexCast v620
  ![v958.toNat, 384, v959.toNat]
def k0_off69 (k0_t2 : Fin k0_t2_loop.trips) (c0_i32_404 : BitVec 32) : Fin 3 → Nat :=
  let c0_465 : Index := 0#32
  let c400 : Index := 400#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v969 : Index := Scalar.indexCast v620
  ![0, 400, v969.toNat]
def k0_off70 (i : grid0.Coords) (k0_t2 : Fin k0_t2_loop.trips) (c0_i32_404 : BitVec 32) : Fin 3 → Nat :=
  let arg1 : BitVec 32 := BitVec.ofNat 32 (i 1).val
  let v972 : Index := Scalar.indexCast arg1
  let c400_466 : Index := 400#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v973 : Index := Scalar.indexCast v620
  ![v972.toNat, 400, v973.toNat]
def k0_off71 (k0_t2 : Fin k0_t2_loop.trips) (c0_i32_404 : BitVec 32) : Fin 3 → Nat :=
  let c0_467 : Index := 0#32
  let c416 : Index := 416#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v983 : Index := Scalar.indexCast v620
  ![0, 416, v983.toNat]
def k0_off72 (i : grid0.Coords) (k0_t2 : Fin k0_t2_loop.trips) (c0_i32_404 : BitVec 32) : Fin 3 → Nat :=
  let arg1 : BitVec 32 := BitVec.ofNat 32 (i 1).val
  let v986 : Index := Scalar.indexCast arg1
  let c416_468 : Index := 416#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v987 : Index := Scalar.indexCast v620
  ![v986.toNat, 416, v987.toNat]
def k0_off73 (k0_t2 : Fin k0_t2_loop.trips) (c0_i32_404 : BitVec 32) : Fin 3 → Nat :=
  let c0_469 : Index := 0#32
  let c432 : Index := 432#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v997 : Index := Scalar.indexCast v620
  ![0, 432, v997.toNat]
def k0_off74 (i : grid0.Coords) (k0_t2 : Fin k0_t2_loop.trips) (c0_i32_404 : BitVec 32) : Fin 3 → Nat :=
  let arg1 : BitVec 32 := BitVec.ofNat 32 (i 1).val
  let v1000 : Index := Scalar.indexCast arg1
  let c432_470 : Index := 432#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1001 : Index := Scalar.indexCast v620
  ![v1000.toNat, 432, v1001.toNat]
def k0_off75 (k0_t2 : Fin k0_t2_loop.trips) (c0_i32_404 : BitVec 32) : Fin 3 → Nat :=
  let c0_471 : Index := 0#32
  let c448 : Index := 448#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1011 : Index := Scalar.indexCast v620
  ![0, 448, v1011.toNat]
def k0_off76 (i : grid0.Coords) (k0_t2 : Fin k0_t2_loop.trips) (c0_i32_404 : BitVec 32) : Fin 3 → Nat :=
  let arg1 : BitVec 32 := BitVec.ofNat 32 (i 1).val
  let v1014 : Index := Scalar.indexCast arg1
  let c448_472 : Index := 448#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1015 : Index := Scalar.indexCast v620
  ![v1014.toNat, 448, v1015.toNat]
def k0_off77 (k0_t2 : Fin k0_t2_loop.trips) (c0_i32_404 : BitVec 32) : Fin 3 → Nat :=
  let c0_473 : Index := 0#32
  let c464 : Index := 464#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1025 : Index := Scalar.indexCast v620
  ![0, 464, v1025.toNat]
def k0_off78 (i : grid0.Coords) (k0_t2 : Fin k0_t2_loop.trips) (c0_i32_404 : BitVec 32) : Fin 3 → Nat :=
  let arg1 : BitVec 32 := BitVec.ofNat 32 (i 1).val
  let v1028 : Index := Scalar.indexCast arg1
  let c464_474 : Index := 464#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1029 : Index := Scalar.indexCast v620
  ![v1028.toNat, 464, v1029.toNat]
def k0_off79 (k0_t2 : Fin k0_t2_loop.trips) (c0_i32_404 : BitVec 32) : Fin 3 → Nat :=
  let c0_475 : Index := 0#32
  let c480 : Index := 480#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1039 : Index := Scalar.indexCast v620
  ![0, 480, v1039.toNat]
def k0_off80 (i : grid0.Coords) (k0_t2 : Fin k0_t2_loop.trips) (c0_i32_404 : BitVec 32) : Fin 3 → Nat :=
  let arg1 : BitVec 32 := BitVec.ofNat 32 (i 1).val
  let v1042 : Index := Scalar.indexCast arg1
  let c480_476 : Index := 480#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1043 : Index := Scalar.indexCast v620
  ![v1042.toNat, 480, v1043.toNat]
def k0_off81 (k0_t2 : Fin k0_t2_loop.trips) (c0_i32_404 : BitVec 32) : Fin 3 → Nat :=
  let c0_477 : Index := 0#32
  let c496 : Index := 496#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1053 : Index := Scalar.indexCast v620
  ![0, 496, v1053.toNat]
def k0_off82 (i : grid0.Coords) (k0_t2 : Fin k0_t2_loop.trips) (c0_i32_404 : BitVec 32) : Fin 3 → Nat :=
  let arg1 : BitVec 32 := BitVec.ofNat 32 (i 1).val
  let v1056 : Index := Scalar.indexCast arg1
  let c496_478 : Index := 496#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1057 : Index := Scalar.indexCast v620
  ![v1056.toNat, 496, v1057.toNat]
def k0_off83 (k0_t2 : Fin k0_t2_loop.trips) (c0_i32_404 : BitVec 32) : Fin 3 → Nat :=
  let c0_479 : Index := 0#32
  let c512 : Index := 512#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1068 : Index := Scalar.indexCast v620
  ![0, 512, v1068.toNat]
def k0_off84 (i : grid0.Coords) (k0_t2 : Fin k0_t2_loop.trips) (c0_i32_404 : BitVec 32) : Fin 3 → Nat :=
  let arg1 : BitVec 32 := BitVec.ofNat 32 (i 1).val
  let v1071 : Index := Scalar.indexCast arg1
  let c512_480 : Index := 512#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1072 : Index := Scalar.indexCast v620
  ![v1071.toNat, 512, v1072.toNat]
def k0_off85 (k0_t2 : Fin k0_t2_loop.trips) (c0_i32_404 : BitVec 32) : Fin 3 → Nat :=
  let c0_481 : Index := 0#32
  let c528 : Index := 528#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1081 : Index := Scalar.indexCast v620
  ![0, 528, v1081.toNat]
def k0_off86 (i : grid0.Coords) (k0_t2 : Fin k0_t2_loop.trips) (c0_i32_404 : BitVec 32) : Fin 3 → Nat :=
  let arg1 : BitVec 32 := BitVec.ofNat 32 (i 1).val
  let v1084 : Index := Scalar.indexCast arg1
  let c528_482 : Index := 528#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1085 : Index := Scalar.indexCast v620
  ![v1084.toNat, 528, v1085.toNat]
def k0_off87 (k0_t2 : Fin k0_t2_loop.trips) (c0_i32_404 : BitVec 32) : Fin 3 → Nat :=
  let c0_483 : Index := 0#32
  let c544 : Index := 544#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1095 : Index := Scalar.indexCast v620
  ![0, 544, v1095.toNat]
def k0_off88 (i : grid0.Coords) (k0_t2 : Fin k0_t2_loop.trips) (c0_i32_404 : BitVec 32) : Fin 3 → Nat :=
  let arg1 : BitVec 32 := BitVec.ofNat 32 (i 1).val
  let v1098 : Index := Scalar.indexCast arg1
  let c544_484 : Index := 544#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1099 : Index := Scalar.indexCast v620
  ![v1098.toNat, 544, v1099.toNat]
def k0_off89 (k0_t2 : Fin k0_t2_loop.trips) (c0_i32_404 : BitVec 32) : Fin 3 → Nat :=
  let c0_485 : Index := 0#32
  let c560 : Index := 560#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1109 : Index := Scalar.indexCast v620
  ![0, 560, v1109.toNat]
def k0_off90 (i : grid0.Coords) (k0_t2 : Fin k0_t2_loop.trips) (c0_i32_404 : BitVec 32) : Fin 3 → Nat :=
  let arg1 : BitVec 32 := BitVec.ofNat 32 (i 1).val
  let v1112 : Index := Scalar.indexCast arg1
  let c560_486 : Index := 560#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1113 : Index := Scalar.indexCast v620
  ![v1112.toNat, 560, v1113.toNat]
def k0_off91 (k0_t2 : Fin k0_t2_loop.trips) (c0_i32_404 : BitVec 32) : Fin 3 → Nat :=
  let c0_487 : Index := 0#32
  let c576 : Index := 576#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1123 : Index := Scalar.indexCast v620
  ![0, 576, v1123.toNat]
def k0_off92 (i : grid0.Coords) (k0_t2 : Fin k0_t2_loop.trips) (c0_i32_404 : BitVec 32) : Fin 3 → Nat :=
  let arg1 : BitVec 32 := BitVec.ofNat 32 (i 1).val
  let v1126 : Index := Scalar.indexCast arg1
  let c576_488 : Index := 576#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1127 : Index := Scalar.indexCast v620
  ![v1126.toNat, 576, v1127.toNat]
def k0_off93 (k0_t2 : Fin k0_t2_loop.trips) (c0_i32_404 : BitVec 32) : Fin 3 → Nat :=
  let c0_489 : Index := 0#32
  let c592 : Index := 592#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1137 : Index := Scalar.indexCast v620
  ![0, 592, v1137.toNat]
def k0_off94 (i : grid0.Coords) (k0_t2 : Fin k0_t2_loop.trips) (c0_i32_404 : BitVec 32) : Fin 3 → Nat :=
  let arg1 : BitVec 32 := BitVec.ofNat 32 (i 1).val
  let v1140 : Index := Scalar.indexCast arg1
  let c592_490 : Index := 592#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1141 : Index := Scalar.indexCast v620
  ![v1140.toNat, 592, v1141.toNat]
def k0_off95 (k0_t2 : Fin k0_t2_loop.trips) (c0_i32_404 : BitVec 32) : Fin 3 → Nat :=
  let c0_491 : Index := 0#32
  let c608 : Index := 608#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1151 : Index := Scalar.indexCast v620
  ![0, 608, v1151.toNat]
def k0_off96 (i : grid0.Coords) (k0_t2 : Fin k0_t2_loop.trips) (c0_i32_404 : BitVec 32) : Fin 3 → Nat :=
  let arg1 : BitVec 32 := BitVec.ofNat 32 (i 1).val
  let v1154 : Index := Scalar.indexCast arg1
  let c608_492 : Index := 608#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1155 : Index := Scalar.indexCast v620
  ![v1154.toNat, 608, v1155.toNat]
def k0_off97 (k0_t2 : Fin k0_t2_loop.trips) (c0_i32_404 : BitVec 32) : Fin 3 → Nat :=
  let c0_493 : Index := 0#32
  let c624 : Index := 624#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1165 : Index := Scalar.indexCast v620
  ![0, 624, v1165.toNat]
def k0_off98 (i : grid0.Coords) (k0_t2 : Fin k0_t2_loop.trips) (c0_i32_404 : BitVec 32) : Fin 3 → Nat :=
  let arg1 : BitVec 32 := BitVec.ofNat 32 (i 1).val
  let v1168 : Index := Scalar.indexCast arg1
  let c624_494 : Index := 624#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1169 : Index := Scalar.indexCast v620
  ![v1168.toNat, 624, v1169.toNat]
def k0_off99 (k0_t2 : Fin k0_t2_loop.trips) (c0_i32_404 : BitVec 32) : Fin 3 → Nat :=
  let c0_495 : Index := 0#32
  let c640 : Index := 640#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1179 : Index := Scalar.indexCast v620
  ![0, 640, v1179.toNat]
def k0_off100 (i : grid0.Coords) (k0_t2 : Fin k0_t2_loop.trips) (c0_i32_404 : BitVec 32) : Fin 3 → Nat :=
  let arg1 : BitVec 32 := BitVec.ofNat 32 (i 1).val
  let v1182 : Index := Scalar.indexCast arg1
  let c640_496 : Index := 640#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1183 : Index := Scalar.indexCast v620
  ![v1182.toNat, 640, v1183.toNat]
def k0_off101 (k0_t2 : Fin k0_t2_loop.trips) (c0_i32_404 : BitVec 32) : Fin 3 → Nat :=
  let c0_497 : Index := 0#32
  let c656 : Index := 656#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1193 : Index := Scalar.indexCast v620
  ![0, 656, v1193.toNat]
def k0_off102 (i : grid0.Coords) (k0_t2 : Fin k0_t2_loop.trips) (c0_i32_404 : BitVec 32) : Fin 3 → Nat :=
  let arg1 : BitVec 32 := BitVec.ofNat 32 (i 1).val
  let v1196 : Index := Scalar.indexCast arg1
  let c656_498 : Index := 656#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1197 : Index := Scalar.indexCast v620
  ![v1196.toNat, 656, v1197.toNat]
def k0_off103 (k0_t2 : Fin k0_t2_loop.trips) (c0_i32_404 : BitVec 32) : Fin 3 → Nat :=
  let c0_499 : Index := 0#32
  let c672 : Index := 672#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1207 : Index := Scalar.indexCast v620
  ![0, 672, v1207.toNat]
def k0_off104 (i : grid0.Coords) (k0_t2 : Fin k0_t2_loop.trips) (c0_i32_404 : BitVec 32) : Fin 3 → Nat :=
  let arg1 : BitVec 32 := BitVec.ofNat 32 (i 1).val
  let v1210 : Index := Scalar.indexCast arg1
  let c672_500 : Index := 672#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1211 : Index := Scalar.indexCast v620
  ![v1210.toNat, 672, v1211.toNat]
def k0_off105 (k0_t2 : Fin k0_t2_loop.trips) (c0_i32_404 : BitVec 32) : Fin 3 → Nat :=
  let c0_501 : Index := 0#32
  let c688 : Index := 688#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1221 : Index := Scalar.indexCast v620
  ![0, 688, v1221.toNat]
def k0_off106 (i : grid0.Coords) (k0_t2 : Fin k0_t2_loop.trips) (c0_i32_404 : BitVec 32) : Fin 3 → Nat :=
  let arg1 : BitVec 32 := BitVec.ofNat 32 (i 1).val
  let v1224 : Index := Scalar.indexCast arg1
  let c688_502 : Index := 688#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1225 : Index := Scalar.indexCast v620
  ![v1224.toNat, 688, v1225.toNat]
def k0_off107 (k0_t2 : Fin k0_t2_loop.trips) (c0_i32_404 : BitVec 32) : Fin 3 → Nat :=
  let c0_503 : Index := 0#32
  let c704 : Index := 704#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1235 : Index := Scalar.indexCast v620
  ![0, 704, v1235.toNat]
def k0_off108 (i : grid0.Coords) (k0_t2 : Fin k0_t2_loop.trips) (c0_i32_404 : BitVec 32) : Fin 3 → Nat :=
  let arg1 : BitVec 32 := BitVec.ofNat 32 (i 1).val
  let v1238 : Index := Scalar.indexCast arg1
  let c704_504 : Index := 704#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1239 : Index := Scalar.indexCast v620
  ![v1238.toNat, 704, v1239.toNat]
def k0_off109 (k0_t2 : Fin k0_t2_loop.trips) (c0_i32_404 : BitVec 32) : Fin 3 → Nat :=
  let c0_505 : Index := 0#32
  let c720 : Index := 720#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1249 : Index := Scalar.indexCast v620
  ![0, 720, v1249.toNat]
def k0_off110 (i : grid0.Coords) (k0_t2 : Fin k0_t2_loop.trips) (c0_i32_404 : BitVec 32) : Fin 3 → Nat :=
  let arg1 : BitVec 32 := BitVec.ofNat 32 (i 1).val
  let v1252 : Index := Scalar.indexCast arg1
  let c720_506 : Index := 720#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1253 : Index := Scalar.indexCast v620
  ![v1252.toNat, 720, v1253.toNat]
def k0_off111 (k0_t2 : Fin k0_t2_loop.trips) (c0_i32_404 : BitVec 32) : Fin 3 → Nat :=
  let c0_507 : Index := 0#32
  let c736 : Index := 736#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1263 : Index := Scalar.indexCast v620
  ![0, 736, v1263.toNat]
def k0_off112 (i : grid0.Coords) (k0_t2 : Fin k0_t2_loop.trips) (c0_i32_404 : BitVec 32) : Fin 3 → Nat :=
  let arg1 : BitVec 32 := BitVec.ofNat 32 (i 1).val
  let v1266 : Index := Scalar.indexCast arg1
  let c736_508 : Index := 736#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1267 : Index := Scalar.indexCast v620
  ![v1266.toNat, 736, v1267.toNat]
def k0_off113 (k0_t2 : Fin k0_t2_loop.trips) (c0_i32_404 : BitVec 32) : Fin 3 → Nat :=
  let c0_509 : Index := 0#32
  let c752 : Index := 752#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1277 : Index := Scalar.indexCast v620
  ![0, 752, v1277.toNat]
def k0_off114 (i : grid0.Coords) (k0_t2 : Fin k0_t2_loop.trips) (c0_i32_404 : BitVec 32) : Fin 3 → Nat :=
  let arg1 : BitVec 32 := BitVec.ofNat 32 (i 1).val
  let v1280 : Index := Scalar.indexCast arg1
  let c752_510 : Index := 752#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1281 : Index := Scalar.indexCast v620
  ![v1280.toNat, 752, v1281.toNat]
def k0_off115 (k0_t2 : Fin k0_t2_loop.trips) (c0_i32_404 : BitVec 32) : Fin 3 → Nat :=
  let c0_511 : Index := 0#32
  let c768 : Index := 768#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1292 : Index := Scalar.indexCast v620
  ![0, 768, v1292.toNat]
def k0_off116 (i : grid0.Coords) (k0_t2 : Fin k0_t2_loop.trips) (c0_i32_404 : BitVec 32) : Fin 3 → Nat :=
  let arg1 : BitVec 32 := BitVec.ofNat 32 (i 1).val
  let v1295 : Index := Scalar.indexCast arg1
  let c768_512 : Index := 768#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1296 : Index := Scalar.indexCast v620
  ![v1295.toNat, 768, v1296.toNat]
def k0_off117 (k0_t2 : Fin k0_t2_loop.trips) (c0_i32_404 : BitVec 32) : Fin 3 → Nat :=
  let c0_513 : Index := 0#32
  let c784 : Index := 784#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1305 : Index := Scalar.indexCast v620
  ![0, 784, v1305.toNat]
def k0_off118 (i : grid0.Coords) (k0_t2 : Fin k0_t2_loop.trips) (c0_i32_404 : BitVec 32) : Fin 3 → Nat :=
  let arg1 : BitVec 32 := BitVec.ofNat 32 (i 1).val
  let v1308 : Index := Scalar.indexCast arg1
  let c784_514 : Index := 784#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1309 : Index := Scalar.indexCast v620
  ![v1308.toNat, 784, v1309.toNat]
def k0_off119 (k0_t2 : Fin k0_t2_loop.trips) (c0_i32_404 : BitVec 32) : Fin 3 → Nat :=
  let c0_515 : Index := 0#32
  let c800 : Index := 800#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1319 : Index := Scalar.indexCast v620
  ![0, 800, v1319.toNat]
def k0_off120 (i : grid0.Coords) (k0_t2 : Fin k0_t2_loop.trips) (c0_i32_404 : BitVec 32) : Fin 3 → Nat :=
  let arg1 : BitVec 32 := BitVec.ofNat 32 (i 1).val
  let v1322 : Index := Scalar.indexCast arg1
  let c800_516 : Index := 800#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1323 : Index := Scalar.indexCast v620
  ![v1322.toNat, 800, v1323.toNat]
def k0_off121 (k0_t2 : Fin k0_t2_loop.trips) (c0_i32_404 : BitVec 32) : Fin 3 → Nat :=
  let c0_517 : Index := 0#32
  let c816 : Index := 816#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1333 : Index := Scalar.indexCast v620
  ![0, 816, v1333.toNat]
def k0_off122 (i : grid0.Coords) (k0_t2 : Fin k0_t2_loop.trips) (c0_i32_404 : BitVec 32) : Fin 3 → Nat :=
  let arg1 : BitVec 32 := BitVec.ofNat 32 (i 1).val
  let v1336 : Index := Scalar.indexCast arg1
  let c816_518 : Index := 816#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1337 : Index := Scalar.indexCast v620
  ![v1336.toNat, 816, v1337.toNat]
def k0_off123 (k0_t2 : Fin k0_t2_loop.trips) (c0_i32_404 : BitVec 32) : Fin 3 → Nat :=
  let c0_519 : Index := 0#32
  let c832 : Index := 832#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1347 : Index := Scalar.indexCast v620
  ![0, 832, v1347.toNat]
def k0_off124 (i : grid0.Coords) (k0_t2 : Fin k0_t2_loop.trips) (c0_i32_404 : BitVec 32) : Fin 3 → Nat :=
  let arg1 : BitVec 32 := BitVec.ofNat 32 (i 1).val
  let v1350 : Index := Scalar.indexCast arg1
  let c832_520 : Index := 832#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1351 : Index := Scalar.indexCast v620
  ![v1350.toNat, 832, v1351.toNat]
def k0_off125 (k0_t2 : Fin k0_t2_loop.trips) (c0_i32_404 : BitVec 32) : Fin 3 → Nat :=
  let c0_521 : Index := 0#32
  let c848 : Index := 848#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1361 : Index := Scalar.indexCast v620
  ![0, 848, v1361.toNat]
def k0_off126 (i : grid0.Coords) (k0_t2 : Fin k0_t2_loop.trips) (c0_i32_404 : BitVec 32) : Fin 3 → Nat :=
  let arg1 : BitVec 32 := BitVec.ofNat 32 (i 1).val
  let v1364 : Index := Scalar.indexCast arg1
  let c848_522 : Index := 848#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1365 : Index := Scalar.indexCast v620
  ![v1364.toNat, 848, v1365.toNat]
def k0_off127 (k0_t2 : Fin k0_t2_loop.trips) (c0_i32_404 : BitVec 32) : Fin 3 → Nat :=
  let c0_523 : Index := 0#32
  let c864 : Index := 864#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1375 : Index := Scalar.indexCast v620
  ![0, 864, v1375.toNat]
def k0_off128 (i : grid0.Coords) (k0_t2 : Fin k0_t2_loop.trips) (c0_i32_404 : BitVec 32) : Fin 3 → Nat :=
  let arg1 : BitVec 32 := BitVec.ofNat 32 (i 1).val
  let v1378 : Index := Scalar.indexCast arg1
  let c864_524 : Index := 864#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1379 : Index := Scalar.indexCast v620
  ![v1378.toNat, 864, v1379.toNat]
def k0_off129 (k0_t2 : Fin k0_t2_loop.trips) (c0_i32_404 : BitVec 32) : Fin 3 → Nat :=
  let c0_525 : Index := 0#32
  let c880 : Index := 880#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1389 : Index := Scalar.indexCast v620
  ![0, 880, v1389.toNat]
def k0_off130 (i : grid0.Coords) (k0_t2 : Fin k0_t2_loop.trips) (c0_i32_404 : BitVec 32) : Fin 3 → Nat :=
  let arg1 : BitVec 32 := BitVec.ofNat 32 (i 1).val
  let v1392 : Index := Scalar.indexCast arg1
  let c880_526 : Index := 880#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1393 : Index := Scalar.indexCast v620
  ![v1392.toNat, 880, v1393.toNat]
def k0_off131 (k0_t2 : Fin k0_t2_loop.trips) (c0_i32_404 : BitVec 32) : Fin 3 → Nat :=
  let c0_527 : Index := 0#32
  let c896 : Index := 896#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1403 : Index := Scalar.indexCast v620
  ![0, 896, v1403.toNat]
def k0_off132 (i : grid0.Coords) (k0_t2 : Fin k0_t2_loop.trips) (c0_i32_404 : BitVec 32) : Fin 3 → Nat :=
  let arg1 : BitVec 32 := BitVec.ofNat 32 (i 1).val
  let v1406 : Index := Scalar.indexCast arg1
  let c896_528 : Index := 896#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1407 : Index := Scalar.indexCast v620
  ![v1406.toNat, 896, v1407.toNat]
def k0_off133 (k0_t2 : Fin k0_t2_loop.trips) (c0_i32_404 : BitVec 32) : Fin 3 → Nat :=
  let c0_529 : Index := 0#32
  let c912 : Index := 912#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1417 : Index := Scalar.indexCast v620
  ![0, 912, v1417.toNat]
def k0_off134 (i : grid0.Coords) (k0_t2 : Fin k0_t2_loop.trips) (c0_i32_404 : BitVec 32) : Fin 3 → Nat :=
  let arg1 : BitVec 32 := BitVec.ofNat 32 (i 1).val
  let v1420 : Index := Scalar.indexCast arg1
  let c912_530 : Index := 912#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1421 : Index := Scalar.indexCast v620
  ![v1420.toNat, 912, v1421.toNat]
def k0_off135 (k0_t2 : Fin k0_t2_loop.trips) (c0_i32_404 : BitVec 32) : Fin 3 → Nat :=
  let c0_531 : Index := 0#32
  let c928 : Index := 928#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1431 : Index := Scalar.indexCast v620
  ![0, 928, v1431.toNat]
def k0_off136 (i : grid0.Coords) (k0_t2 : Fin k0_t2_loop.trips) (c0_i32_404 : BitVec 32) : Fin 3 → Nat :=
  let arg1 : BitVec 32 := BitVec.ofNat 32 (i 1).val
  let v1434 : Index := Scalar.indexCast arg1
  let c928_532 : Index := 928#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1435 : Index := Scalar.indexCast v620
  ![v1434.toNat, 928, v1435.toNat]
def k0_off137 (k0_t2 : Fin k0_t2_loop.trips) (c0_i32_404 : BitVec 32) : Fin 3 → Nat :=
  let c0_533 : Index := 0#32
  let c944 : Index := 944#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1445 : Index := Scalar.indexCast v620
  ![0, 944, v1445.toNat]
def k0_off138 (i : grid0.Coords) (k0_t2 : Fin k0_t2_loop.trips) (c0_i32_404 : BitVec 32) : Fin 3 → Nat :=
  let arg1 : BitVec 32 := BitVec.ofNat 32 (i 1).val
  let v1448 : Index := Scalar.indexCast arg1
  let c944_534 : Index := 944#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1449 : Index := Scalar.indexCast v620
  ![v1448.toNat, 944, v1449.toNat]
def k0_off139 (k0_t2 : Fin k0_t2_loop.trips) (c0_i32_404 : BitVec 32) : Fin 3 → Nat :=
  let c0_535 : Index := 0#32
  let c960 : Index := 960#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1459 : Index := Scalar.indexCast v620
  ![0, 960, v1459.toNat]
def k0_off140 (i : grid0.Coords) (k0_t2 : Fin k0_t2_loop.trips) (c0_i32_404 : BitVec 32) : Fin 3 → Nat :=
  let arg1 : BitVec 32 := BitVec.ofNat 32 (i 1).val
  let v1462 : Index := Scalar.indexCast arg1
  let c960_536 : Index := 960#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1463 : Index := Scalar.indexCast v620
  ![v1462.toNat, 960, v1463.toNat]
def k0_off141 (k0_t2 : Fin k0_t2_loop.trips) (c0_i32_404 : BitVec 32) : Fin 3 → Nat :=
  let c0_537 : Index := 0#32
  let c976 : Index := 976#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1473 : Index := Scalar.indexCast v620
  ![0, 976, v1473.toNat]
def k0_off142 (i : grid0.Coords) (k0_t2 : Fin k0_t2_loop.trips) (c0_i32_404 : BitVec 32) : Fin 3 → Nat :=
  let arg1 : BitVec 32 := BitVec.ofNat 32 (i 1).val
  let v1476 : Index := Scalar.indexCast arg1
  let c976_538 : Index := 976#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1477 : Index := Scalar.indexCast v620
  ![v1476.toNat, 976, v1477.toNat]
def k0_off143 (k0_t2 : Fin k0_t2_loop.trips) (c0_i32_404 : BitVec 32) : Fin 3 → Nat :=
  let c0_539 : Index := 0#32
  let c992 : Index := 992#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1487 : Index := Scalar.indexCast v620
  ![0, 992, v1487.toNat]
def k0_off144 (i : grid0.Coords) (k0_t2 : Fin k0_t2_loop.trips) (c0_i32_404 : BitVec 32) : Fin 3 → Nat :=
  let arg1 : BitVec 32 := BitVec.ofNat 32 (i 1).val
  let v1490 : Index := Scalar.indexCast arg1
  let c992_540 : Index := 992#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1491 : Index := Scalar.indexCast v620
  ![v1490.toNat, 992, v1491.toNat]
def k0_off145 (k0_t2 : Fin k0_t2_loop.trips) (c0_i32_404 : BitVec 32) : Fin 3 → Nat :=
  let c0_541 : Index := 0#32
  let c1008 : Index := 1008#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1501 : Index := Scalar.indexCast v620
  ![0, 1008, v1501.toNat]
def k0_off146 (i : grid0.Coords) (k0_t2 : Fin k0_t2_loop.trips) (c0_i32_404 : BitVec 32) : Fin 3 → Nat :=
  let arg1 : BitVec 32 := BitVec.ofNat 32 (i 1).val
  let v1504 : Index := Scalar.indexCast arg1
  let c1008_542 : Index := 1008#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v620 : BitVec 32 := Scalar.addi v619 c0_i32_404
  let v1505 : Index := Scalar.indexCast v620
  ![v1504.toNat, 1008, v1505.toNat]
def k0_off147 (k0_t2 : Fin k0_t2_loop.trips) : Fin 3 → Nat :=
  let c0_740 : Index := 0#32
  let c0_741 : Index := 0#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2419 : Index := Scalar.indexCast v619
  ![0, 0, v2419.toNat]
def k0_mult3 (k0_t2 : Fin k0_t2_loop.trips) : BitVec 32 :=
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let c0_i32_746 : BitVec 32 := 0#32
  let v2431 : BitVec 32 := Scalar.addi v619 c0_i32_746
  v2431
def k0_off148 (k0_t2 : Fin k0_t2_loop.trips) (c0_i32_746 : BitVec 32) : Fin 3 → Nat :=
  let c0_751 : Index := 0#32
  let c0_752 : Index := 0#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2436 : Index := Scalar.indexCast v2432
  ![0, 0, v2436.toNat]
def k0_off149 (k0_t2 : Fin k0_t2_loop.trips) (c0_i32_746 : BitVec 32) : Fin 2 → Nat :=
  let c0_766 : Index := 0#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2497 : Index := Scalar.indexCast v2432
  ![0, v2497.toNat]
def k0_off150 (k0_t2 : Fin k0_t2_loop.trips) (c0_i32_746 : BitVec 32) : Fin 3 → Nat :=
  let c0_780 : Index := 0#32
  let c32_781 : Index := 32#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2525 : Index := Scalar.indexCast v2432
  ![0, 32, v2525.toNat]
def k0_off151 (k0_t2 : Fin k0_t2_loop.trips) (c0_i32_746 : BitVec 32) : Fin 2 → Nat :=
  let c32_795 : Index := 32#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2586 : Index := Scalar.indexCast v2432
  ![32, v2586.toNat]
def k0_off152 (k0_t2 : Fin k0_t2_loop.trips) (c0_i32_746 : BitVec 32) : Fin 3 → Nat :=
  let c0_809 : Index := 0#32
  let c64_810 : Index := 64#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2614 : Index := Scalar.indexCast v2432
  ![0, 64, v2614.toNat]
def k0_off153 (k0_t2 : Fin k0_t2_loop.trips) (c0_i32_746 : BitVec 32) : Fin 2 → Nat :=
  let c64_824 : Index := 64#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2675 : Index := Scalar.indexCast v2432
  ![64, v2675.toNat]
def k0_off154 (k0_t2 : Fin k0_t2_loop.trips) (c0_i32_746 : BitVec 32) : Fin 3 → Nat :=
  let c0_838 : Index := 0#32
  let c96_839 : Index := 96#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2703 : Index := Scalar.indexCast v2432
  ![0, 96, v2703.toNat]
def k0_off155 (k0_t2 : Fin k0_t2_loop.trips) (c0_i32_746 : BitVec 32) : Fin 2 → Nat :=
  let c96_853 : Index := 96#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2764 : Index := Scalar.indexCast v2432
  ![96, v2764.toNat]
def k0_off156 (k0_t2 : Fin k0_t2_loop.trips) (c0_i32_746 : BitVec 32) : Fin 3 → Nat :=
  let c0_867 : Index := 0#32
  let c128_868 : Index := 128#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2792 : Index := Scalar.indexCast v2432
  ![0, 128, v2792.toNat]
def k0_off157 (k0_t2 : Fin k0_t2_loop.trips) (c0_i32_746 : BitVec 32) : Fin 2 → Nat :=
  let c128_882 : Index := 128#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2853 : Index := Scalar.indexCast v2432
  ![128, v2853.toNat]
def k0_off158 (k0_t2 : Fin k0_t2_loop.trips) (c0_i32_746 : BitVec 32) : Fin 3 → Nat :=
  let c0_896 : Index := 0#32
  let c160_897 : Index := 160#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2881 : Index := Scalar.indexCast v2432
  ![0, 160, v2881.toNat]
def k0_off159 (k0_t2 : Fin k0_t2_loop.trips) (c0_i32_746 : BitVec 32) : Fin 2 → Nat :=
  let c160_911 : Index := 160#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2942 : Index := Scalar.indexCast v2432
  ![160, v2942.toNat]
def k0_off160 (k0_t2 : Fin k0_t2_loop.trips) (c0_i32_746 : BitVec 32) : Fin 3 → Nat :=
  let c0_925 : Index := 0#32
  let c192_926 : Index := 192#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v2970 : Index := Scalar.indexCast v2432
  ![0, 192, v2970.toNat]
def k0_off161 (k0_t2 : Fin k0_t2_loop.trips) (c0_i32_746 : BitVec 32) : Fin 2 → Nat :=
  let c192_940 : Index := 192#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3031 : Index := Scalar.indexCast v2432
  ![192, v3031.toNat]
def k0_off162 (k0_t2 : Fin k0_t2_loop.trips) (c0_i32_746 : BitVec 32) : Fin 3 → Nat :=
  let c0_954 : Index := 0#32
  let c224_955 : Index := 224#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3059 : Index := Scalar.indexCast v2432
  ![0, 224, v3059.toNat]
def k0_off163 (k0_t2 : Fin k0_t2_loop.trips) (c0_i32_746 : BitVec 32) : Fin 2 → Nat :=
  let c224_969 : Index := 224#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3120 : Index := Scalar.indexCast v2432
  ![224, v3120.toNat]
def k0_off164 (k0_t2 : Fin k0_t2_loop.trips) (c0_i32_746 : BitVec 32) : Fin 3 → Nat :=
  let c0_983 : Index := 0#32
  let c256_984 : Index := 256#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3148 : Index := Scalar.indexCast v2432
  ![0, 256, v3148.toNat]
def k0_off165 (k0_t2 : Fin k0_t2_loop.trips) (c0_i32_746 : BitVec 32) : Fin 2 → Nat :=
  let c256_998 : Index := 256#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3209 : Index := Scalar.indexCast v2432
  ![256, v3209.toNat]
def k0_off166 (k0_t2 : Fin k0_t2_loop.trips) (c0_i32_746 : BitVec 32) : Fin 3 → Nat :=
  let c0_1012 : Index := 0#32
  let c288_1013 : Index := 288#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3237 : Index := Scalar.indexCast v2432
  ![0, 288, v3237.toNat]
def k0_off167 (k0_t2 : Fin k0_t2_loop.trips) (c0_i32_746 : BitVec 32) : Fin 2 → Nat :=
  let c288_1027 : Index := 288#32
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let v2431 : BitVec 32 := Scalar.addi v619 c0_i32_746
  let v2432 : BitVec 32 := v2431
  let v3298 : Index := Scalar.indexCast v2432
  ![288, v3298.toNat]
def k0_off168 (i : grid0.Coords) (k0_t2 : Fin k0_t2_loop.trips) (c0_i32_745 : BitVec 32) : Fin 2 → Nat :=
  let arg1 : BitVec 32 := BitVec.ofNat 32 (i 1).val
  let c8_i32 : BitVec 32 := 8#32
  let v0 : BitVec 32 := Scalar.muli arg1 c8_i32
  let c0_i32_9 : BitVec 32 := 0#32
  let c1_i32 : BitVec 32 := 1#32
  let arg29 : BitVec 32 := Scf.iv c0_i32_9 c1_i32 k0_t2
  let c2_i32 : BitVec 32 := 2#32
  let v2426 : BitVec 32 := Scalar.muli arg29 c2_i32
  let v2427 : BitVec 32 := Scalar.addi v0 v2426
  let v2428 : BitVec 32 := Scalar.addi v2427 c0_i32_745
  let v3337 : Index := Scalar.indexCast v2428
  let c0_1042 : Index := 0#32
  ![v3337.toNat, 0]
def k0_mult4 (i : grid0.Coords) (k0_t2 : Fin k0_t2_loop.trips) : BitVec 32 :=
  let arg1 : BitVec 32 := BitVec.ofNat 32 (i 1).val
  let c8_i32 : BitVec 32 := 8#32
  let v0 : BitVec 32 := Scalar.muli arg1 c8_i32
  let c0_i32_9 : BitVec 32 := 0#32
  let c1_i32 : BitVec 32 := 1#32
  let arg29 : BitVec 32 := Scf.iv c0_i32_9 c1_i32 k0_t2
  let c2_i32 : BitVec 32 := 2#32
  let v2426 : BitVec 32 := Scalar.muli arg29 c2_i32
  let v2427 : BitVec 32 := Scalar.addi v0 v2426
  let c0_i32_745 : BitVec 32 := 0#32
  let v2428 : BitVec 32 := Scalar.addi v2427 c0_i32_745
  let c128_i32_1043 : BitVec 32 := 128#32
  let v3341 : BitVec 32 := Scalar.muli v2428 c128_i32_1043
  v3341
def k0_off169 (i : grid0.Coords) (k0_t2 : Fin k0_t2_loop.trips) (c0_i32_745 : BitVec 32) : Fin 2 → Nat :=
  let c0_1050 : Index := 0#32
  let arg1 : BitVec 32 := BitVec.ofNat 32 (i 1).val
  let c8_i32 : BitVec 32 := 8#32
  let v0 : BitVec 32 := Scalar.muli arg1 c8_i32
  let c0_i32_9 : BitVec 32 := 0#32
  let c1_i32 : BitVec 32 := 1#32
  let arg29 : BitVec 32 := Scf.iv c0_i32_9 c1_i32 k0_t2
  let c2_i32 : BitVec 32 := 2#32
  let v2426 : BitVec 32 := Scalar.muli arg29 c2_i32
  let v2427 : BitVec 32 := Scalar.addi v0 v2426
  let v2428 : BitVec 32 := Scalar.addi v2427 c0_i32_745
  let c128_i32_1043 : BitVec 32 := 128#32
  let v3341 : BitVec 32 := Scalar.muli v2428 c128_i32_1043
  let v3342 : BitVec 32 := v3341
  let v3355 : Index := Scalar.indexCast v3342
  ![0, v3355.toNat]
def k0_mult5 (k0_t2 : Fin k0_t2_loop.trips) : BitVec 32 :=
  let c0_i32_9 : BitVec 32 := 0#32
  let c1_i32 : BitVec 32 := 1#32
  let arg29 : BitVec 32 := Scf.iv c0_i32_9 c1_i32 k0_t2
  let c256_i32 : BitVec 32 := 256#32
  let v618 : BitVec 32 := Scalar.muli arg29 c256_i32
  let v619 : BitVec 32 := v618
  let c128_i32_1058 : BitVec 32 := 128#32
  let v3377 : BitVec 32 := Scalar.addi v619 c128_i32_1058
  v3377
def k0_mult6 (i : grid0.Coords) (k0_t2 : Fin k0_t2_loop.trips) : BitVec 32 :=
  let arg1 : BitVec 32 := BitVec.ofNat 32 (i 1).val
  let c8_i32 : BitVec 32 := 8#32
  let v0 : BitVec 32 := Scalar.muli arg1 c8_i32
  let c0_i32_9 : BitVec 32 := 0#32
  let c1_i32 : BitVec 32 := 1#32
  let arg29 : BitVec 32 := Scf.iv c0_i32_9 c1_i32 k0_t2
  let c2_i32_1056 : BitVec 32 := 2#32
  let v3372 : BitVec 32 := Scalar.muli arg29 c2_i32_1056
  let v3373 : BitVec 32 := Scalar.addi v0 v3372
  let c1_i32_1057 : BitVec 32 := 1#32
  let v3374 : BitVec 32 := Scalar.addi v3373 c1_i32_1057
  let c128_i32_1355 : BitVec 32 := 128#32
  let v4287 : BitVec 32 := Scalar.muli v3374 c128_i32_1355
  v4287
@[reducible] def k0_t3_loop : Scf.Loop 32 :=
  let c0_i32_14 : BitVec 32 := 0#32
  let c8_i32_15 : BitVec 32 := 8#32
  let v38 : BitVec 32 := Scalar.addi c0_i32_14 c8_i32_15
  let c1_i32_16 : BitVec 32 := 1#32
  ⟨c0_i32_14, v38, c1_i32_16⟩
@[reducible] def k0_t4_loop : Scf.Loop 32 :=
  let c0_i32_27 : BitVec 32 := 0#32
  let c8_i32_28 : BitVec 32 := 8#32
  let v60 : BitVec 32 := Scalar.addi c0_i32_27 c8_i32_28
  let c1_i32_29 : BitVec 32 := 1#32
  ⟨c0_i32_27, v60, c1_i32_29⟩
@[reducible] def k0_t5_loop : Scf.Loop 32 :=
  let c0_i32_50 : BitVec 32 := 0#32
  let c8_i32_51 : BitVec 32 := 8#32
  let v96 : BitVec 32 := Scalar.addi c0_i32_50 c8_i32_51
  let c1_i32_52 : BitVec 32 := 1#32
  ⟨c0_i32_50, v96, c1_i32_52⟩
@[reducible] def k0_t6_loop : Scf.Loop 32 :=
  let c0_i32_65 : BitVec 32 := 0#32
  let c8_i32_66 : BitVec 32 := 8#32
  let v118 : BitVec 32 := Scalar.addi c0_i32_65 c8_i32_66
  let c1_i32_67 : BitVec 32 := 1#32
  ⟨c0_i32_65, v118, c1_i32_67⟩
@[reducible] def k0_t7_loop : Scf.Loop 32 :=
  let c0_i32_89 : BitVec 32 := 0#32
  let c8_i32_90 : BitVec 32 := 8#32
  let v154 : BitVec 32 := Scalar.addi c0_i32_89 c8_i32_90
  let c1_i32_91 : BitVec 32 := 1#32
  ⟨c0_i32_89, v154, c1_i32_91⟩
@[reducible] def k0_t8_loop : Scf.Loop 32 :=
  let c0_i32_104 : BitVec 32 := 0#32
  let c8_i32_105 : BitVec 32 := 8#32
  let v176 : BitVec 32 := Scalar.addi c0_i32_104 c8_i32_105
  let c1_i32_106 : BitVec 32 := 1#32
  ⟨c0_i32_104, v176, c1_i32_106⟩
@[reducible] def k0_t9_loop : Scf.Loop 32 :=
  let c0_i32_128 : BitVec 32 := 0#32
  let c8_i32_129 : BitVec 32 := 8#32
  let v212 : BitVec 32 := Scalar.addi c0_i32_128 c8_i32_129
  let c1_i32_130 : BitVec 32 := 1#32
  ⟨c0_i32_128, v212, c1_i32_130⟩
@[reducible] def k0_t10_loop : Scf.Loop 32 :=
  let c0_i32_143 : BitVec 32 := 0#32
  let c8_i32_144 : BitVec 32 := 8#32
  let v234 : BitVec 32 := Scalar.addi c0_i32_143 c8_i32_144
  let c1_i32_145 : BitVec 32 := 1#32
  ⟨c0_i32_143, v234, c1_i32_145⟩
@[reducible] def k0_t11_loop : Scf.Loop 32 :=
  let c0_i32_168 : BitVec 32 := 0#32
  let c8_i32_169 : BitVec 32 := 8#32
  let v270 : BitVec 32 := Scalar.addi c0_i32_168 c8_i32_169
  let c1_i32_170 : BitVec 32 := 1#32
  ⟨c0_i32_168, v270, c1_i32_170⟩
@[reducible] def k0_t12_loop : Scf.Loop 32 :=
  let c0_i32_183 : BitVec 32 := 0#32
  let c8_i32_184 : BitVec 32 := 8#32
  let v292 : BitVec 32 := Scalar.addi c0_i32_183 c8_i32_184
  let c1_i32_185 : BitVec 32 := 1#32
  ⟨c0_i32_183, v292, c1_i32_185⟩
@[reducible] def k0_t13_loop : Scf.Loop 32 :=
  let c0_i32_207 : BitVec 32 := 0#32
  let c8_i32_208 : BitVec 32 := 8#32
  let v328 : BitVec 32 := Scalar.addi c0_i32_207 c8_i32_208
  let c1_i32_209 : BitVec 32 := 1#32
  ⟨c0_i32_207, v328, c1_i32_209⟩
@[reducible] def k0_t14_loop : Scf.Loop 32 :=
  let c0_i32_222 : BitVec 32 := 0#32
  let c8_i32_223 : BitVec 32 := 8#32
  let v350 : BitVec 32 := Scalar.addi c0_i32_222 c8_i32_223
  let c1_i32_224 : BitVec 32 := 1#32
  ⟨c0_i32_222, v350, c1_i32_224⟩
@[reducible] def k0_t15_loop : Scf.Loop 32 :=
  let c0_i32_246 : BitVec 32 := 0#32
  let c8_i32_247 : BitVec 32 := 8#32
  let v386 : BitVec 32 := Scalar.addi c0_i32_246 c8_i32_247
  let c1_i32_248 : BitVec 32 := 1#32
  ⟨c0_i32_246, v386, c1_i32_248⟩
@[reducible] def k0_t16_loop : Scf.Loop 32 :=
  let c0_i32_261 : BitVec 32 := 0#32
  let c8_i32_262 : BitVec 32 := 8#32
  let v408 : BitVec 32 := Scalar.addi c0_i32_261 c8_i32_262
  let c1_i32_263 : BitVec 32 := 1#32
  ⟨c0_i32_261, v408, c1_i32_263⟩
@[reducible] def k0_t17_loop : Scf.Loop 32 :=
  let c0_i32_285 : BitVec 32 := 0#32
  let c8_i32_286 : BitVec 32 := 8#32
  let v444 : BitVec 32 := Scalar.addi c0_i32_285 c8_i32_286
  let c1_i32_287 : BitVec 32 := 1#32
  ⟨c0_i32_285, v444, c1_i32_287⟩
@[reducible] def k0_t18_loop : Scf.Loop 32 :=
  let c0_i32_300 : BitVec 32 := 0#32
  let c8_i32_301 : BitVec 32 := 8#32
  let v466 : BitVec 32 := Scalar.addi c0_i32_300 c8_i32_301
  let c1_i32_302 : BitVec 32 := 1#32
  ⟨c0_i32_300, v466, c1_i32_302⟩
@[reducible] def k0_t19_loop : Scf.Loop 32 :=
  let c0_i32_324 : BitVec 32 := 0#32
  let c8_i32_325 : BitVec 32 := 8#32
  let v502 : BitVec 32 := Scalar.addi c0_i32_324 c8_i32_325
  let c1_i32_326 : BitVec 32 := 1#32
  ⟨c0_i32_324, v502, c1_i32_326⟩
@[reducible] def k0_t20_loop : Scf.Loop 32 :=
  let c0_i32_339 : BitVec 32 := 0#32
  let c8_i32_340 : BitVec 32 := 8#32
  let v524 : BitVec 32 := Scalar.addi c0_i32_339 c8_i32_340
  let c1_i32_341 : BitVec 32 := 1#32
  ⟨c0_i32_339, v524, c1_i32_341⟩
@[reducible] def k0_t21_loop : Scf.Loop 32 :=
  let c0_i32_363 : BitVec 32 := 0#32
  let c8_i32_364 : BitVec 32 := 8#32
  let v560 : BitVec 32 := Scalar.addi c0_i32_363 c8_i32_364
  let c1_i32_365 : BitVec 32 := 1#32
  ⟨c0_i32_363, v560, c1_i32_365⟩
@[reducible] def k0_t22_loop : Scf.Loop 32 :=
  let c0_i32_378 : BitVec 32 := 0#32
  let c8_i32_379 : BitVec 32 := 8#32
  let v582 : BitVec 32 := Scalar.addi c0_i32_378 c8_i32_379
  let c1_i32_380 : BitVec 32 := 1#32
  ⟨c0_i32_378, v582, c1_i32_380⟩
@[reducible] def k0_t23_loop : Scf.Loop 32 :=
  let c0_i32_399 : BitVec 32 := 0#32
  let c8_i32_400 : BitVec 32 := 8#32
  let v614 : BitVec 32 := Scalar.addi c0_i32_399 c8_i32_400
  let c1_i32_401 : BitVec 32 := 1#32
  ⟨c0_i32_399, v614, c1_i32_401⟩
def k0_mult7 (k0_t23 : Fin k0_t23_loop.trips) : BitVec 32 :=
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  v619
def k0_off170 (k0_t23 : Fin k0_t23_loop.trips) : Fin 2 → Nat :=
  let c0_412 : Index := 0#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v641 : Index := Scalar.indexCast v620
  ![0, v641.toNat]
def k0_off171 (k0_t23 : Fin k0_t23_loop.trips) : Fin 3 → Nat :=
  let c0_415 : Index := 0#32
  let c0_416 : Index := 0#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v649 : Index := Scalar.indexCast v620
  ![0, 0, v649.toNat]
def k0_off172 (k0_t23 : Fin k0_t23_loop.trips) : Fin 2 → Nat :=
  let c32_430 : Index := 32#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v685 : Index := Scalar.indexCast v620
  ![32, v685.toNat]
def k0_off173 (k0_t23 : Fin k0_t23_loop.trips) : Fin 3 → Nat :=
  let c0_433 : Index := 0#32
  let c32_434 : Index := 32#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v693 : Index := Scalar.indexCast v620
  ![0, 32, v693.toNat]
def k0_off174 (k0_t23 : Fin k0_t23_loop.trips) : Fin 2 → Nat :=
  let c64_448 : Index := 64#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v729 : Index := Scalar.indexCast v620
  ![64, v729.toNat]
def k0_off175 (k0_t23 : Fin k0_t23_loop.trips) : Fin 3 → Nat :=
  let c0_451 : Index := 0#32
  let c64_452 : Index := 64#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v737 : Index := Scalar.indexCast v620
  ![0, 64, v737.toNat]
def k0_off176 (k0_t23 : Fin k0_t23_loop.trips) : Fin 2 → Nat :=
  let c96_466 : Index := 96#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v773 : Index := Scalar.indexCast v620
  ![96, v773.toNat]
def k0_off177 (k0_t23 : Fin k0_t23_loop.trips) : Fin 3 → Nat :=
  let c0_469 : Index := 0#32
  let c96_470 : Index := 96#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v781 : Index := Scalar.indexCast v620
  ![0, 96, v781.toNat]
def k0_off178 (k0_t23 : Fin k0_t23_loop.trips) : Fin 2 → Nat :=
  let c128_484 : Index := 128#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v817 : Index := Scalar.indexCast v620
  ![128, v817.toNat]
def k0_off179 (k0_t23 : Fin k0_t23_loop.trips) : Fin 3 → Nat :=
  let c0_487 : Index := 0#32
  let c128_488 : Index := 128#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v825 : Index := Scalar.indexCast v620
  ![0, 128, v825.toNat]
def k0_off180 (k0_t23 : Fin k0_t23_loop.trips) : Fin 2 → Nat :=
  let c160_502 : Index := 160#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v861 : Index := Scalar.indexCast v620
  ![160, v861.toNat]
def k0_off181 (k0_t23 : Fin k0_t23_loop.trips) : Fin 3 → Nat :=
  let c0_505 : Index := 0#32
  let c160_506 : Index := 160#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v869 : Index := Scalar.indexCast v620
  ![0, 160, v869.toNat]
def k0_off182 (k0_t23 : Fin k0_t23_loop.trips) : Fin 2 → Nat :=
  let c192_520 : Index := 192#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v905 : Index := Scalar.indexCast v620
  ![192, v905.toNat]
def k0_off183 (k0_t23 : Fin k0_t23_loop.trips) : Fin 3 → Nat :=
  let c0_523 : Index := 0#32
  let c192_524 : Index := 192#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v913 : Index := Scalar.indexCast v620
  ![0, 192, v913.toNat]
def k0_off184 (k0_t23 : Fin k0_t23_loop.trips) : Fin 2 → Nat :=
  let c224_538 : Index := 224#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v949 : Index := Scalar.indexCast v620
  ![224, v949.toNat]
def k0_off185 (k0_t23 : Fin k0_t23_loop.trips) : Fin 3 → Nat :=
  let c0_541 : Index := 0#32
  let c224_542 : Index := 224#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v957 : Index := Scalar.indexCast v620
  ![0, 224, v957.toNat]
def k0_off186 (k0_t23 : Fin k0_t23_loop.trips) : Fin 2 → Nat :=
  let c256_556 : Index := 256#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v993 : Index := Scalar.indexCast v620
  ![256, v993.toNat]
def k0_off187 (k0_t23 : Fin k0_t23_loop.trips) : Fin 3 → Nat :=
  let c0_559 : Index := 0#32
  let c256_560 : Index := 256#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v1001 : Index := Scalar.indexCast v620
  ![0, 256, v1001.toNat]
def k0_off188 (k0_t23 : Fin k0_t23_loop.trips) : Fin 2 → Nat :=
  let c288_574 : Index := 288#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v1037 : Index := Scalar.indexCast v620
  ![288, v1037.toNat]
def k0_off189 (k0_t23 : Fin k0_t23_loop.trips) : Fin 3 → Nat :=
  let c0_577 : Index := 0#32
  let c288_578 : Index := 288#32
  let c0_i32_399 : BitVec 32 := 0#32
  let c1_i32_401 : BitVec 32 := 1#32
  let arg29 : BitVec 32 := Scf.iv c0_i32_399 c1_i32_401 k0_t23
  let c128_i32 : BitVec 32 := 128#32
  let v619 : BitVec 32 := Scalar.muli arg29 c128_i32
  let v620 : BitVec 32 := v619
  let v1045 : Index := Scalar.indexCast v620
  ![0, 288, v1045.toNat]
def k0_cond4 (i : grid0.Coords) : BitVec 1 :=
  let arg1 : BitVec 32 := BitVec.ofNat 32 (i 1).val
  let c5_i32 : BitVec 32 := 5#32
  let v615 : BitVec 1 := Scalar.cmpi .eq arg1 c5_i32
  let v616 : BitVec 32 := Scalar.extui v615
  let c0_i32_403 : BitVec 32 := 0#32
  let v617 : BitVec 1 := Scalar.cmpi .ne v616 c0_i32_403
  v617

def k0_off190 (i : grid0.Coords) : Fin 1 → Nat :=
  let arg0 : BitVec 32 := BitVec.ofNat 32 (i 0).val
  let v622 : Index := Scalar.indexCast arg0
  ![v622.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

def cc0_transform_3 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c5_i32 : BitVec 32 := 5#32
  let v2 : BitVec 32 := Scalar.select v1 arg1 c5_i32
  let c0_i32 : BitVec 32 := 0#32
  let c0_i32_0 : BitVec 32 := 0#32
  ![v0.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c5_i32 : BitVec 32 := 5#32
  let v2 : BitVec 32 := Scalar.select v1 arg1 c5_i32
  let c0_i32 : BitVec 32 := 0#32
  let c0_i32_0 : BitVec 32 := 0#32
  ![v0.toNat, c0_i32.toNat, v2.toNat]

def cc0_transform_6 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c5_i32 : BitVec 32 := 5#32
  let v2 : BitVec 32 := Scalar.select v1 arg1 c5_i32
  let c0_i32 : BitVec 32 := 0#32
  let c0_i32_0 : BitVec 32 := 0#32
  ![v0.toNat, c0_i32.toNat, v2.toNat]

def cc0_transform_8 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

def cc0_transform_10 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c5_i32 : BitVec 32 := 5#32
  let v2 : BitVec 32 := Scalar.select v1 arg1 c5_i32
  let c0_i32 : BitVec 32 := 0#32
  let c0_i32_0 : BitVec 32 := 0#32
  ![v0.toNat, c0_i32.toNat, v2.toNat]

def cc0_transform_13 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c5_i32 : BitVec 32 := 5#32
  let v2 : BitVec 32 := Scalar.select v1 arg1 c5_i32
  let c0_i32 : BitVec 32 := 0#32
  let c0_i32_0 : BitVec 32 := 0#32
  ![v0.toNat, c0_i32.toNat, v2.toNat]

def cc0_transform_15 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x320x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x320x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x320x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x320x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x320x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x6144 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .smem S24 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x320x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x320x48 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x320x1024 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x320x48 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "beta1" => some ((9 / 10 : ℝ) : EReal)
  | "eps" => some ((1 / 100000000 : ℝ) : EReal)
  | "gamma" => some ((101 / 100 : ℝ) : EReal)
  | "inv_fp8_max" => some ((1 / 448 : ℝ) : EReal)
  | "log_beta1" => some ((Real.log (9 / 10) : ℝ) : EReal)
  | "log_beta2" => some ((Real.log (999 / 1000) : ℝ) : EReal)
  | "neg_lr_wd" => some ((-1 / 10000 : ℝ) : EReal)
  | "tenth" => some ((1 / 10 : ℝ) : EReal)
  | "thousandth" => some ((1 / 1000 : ℝ) : EReal)
  | _ => none
-- ==== ReferenceIdeal.lean ====
abbrev S24x1024x6144 : Shape := ⟨3, ![24, 1024, 6144]⟩
abbrev S24x320x1024 : Shape := ⟨3, ![24, 320, 1024]⟩
abbrev S24x320x6144 : Shape := ⟨3, ![24, 320, 6144]⟩
abbrev S24x320x48 : Shape := ⟨3, ![24, 320, 48]⟩
abbrev S24 : Shape := ⟨1, ![24]⟩
abbrev S24x1024x48x128 : Shape := ⟨4, ![24, 1024, 48, 128]⟩
abbrev S24x320x48x128 : Shape := ⟨4, ![24, 320, 48, 128]⟩
abbrev S24x48x128 : Shape := ⟨3, ![24, 48, 128]⟩
abbrev S24x320x48x1 : Shape := ⟨4, ![24, 320, 48, 1]⟩
abbrev S24x1x1x1 : Shape := ⟨4, ![24, 1, 1, 1]⟩
abbrev S24x1x48x128 : Shape := ⟨4, ![24, 1, 48, 128]⟩
abbrev S24x6144 : Shape := ⟨2, ![24, 6144]⟩

abbrev nBuf : Space → Nat
  | .hbm => 26
  | .vmem => 16
  | .smem => 0
  | _ => 0

abbrev bufTy : (tb : Table) → Fin (tcTables nBuf tb) → BufTy
  | .hbm, ⟨0, _⟩ => ⟨S24x1024x6144, .f32⟩
  | .hbm, ⟨1, _⟩ => ⟨S24x1024x6144, .bf16⟩
  | .hbm, ⟨2, _⟩ => ⟨S24x320x1024, .bf16⟩
  | .hbm, ⟨3, _⟩ => ⟨S24x320x6144, .fp8e4m3⟩
  | .hbm, ⟨4, _⟩ => ⟨S24x320x48, .f32⟩
  | .hbm, ⟨5, _⟩ => ⟨S24x320x6144, .fp8e4m3⟩
  | .hbm, ⟨6, _⟩ => ⟨S24x320x48, .f32⟩
  | .hbm, ⟨7, _⟩ => ⟨S24, .i32⟩
  | .hbm, ⟨8, _⟩ => ⟨S24, .f32⟩
  | .hbm, ⟨9, _⟩ => ⟨S24x320x6144, .f32⟩
  | .hbm, ⟨10, _⟩ => ⟨S24x1024x48x128, .f32⟩
  | .hbm, ⟨11, _⟩ => ⟨S24x1024x48x128, .bf16⟩
  | .hbm, ⟨12, _⟩ => ⟨S24x320x48x128, .f32⟩
  | .hbm, ⟨13, _⟩ => ⟨S24x320x48x128, .fp8e4m3⟩
  | .hbm, ⟨14, _⟩ => ⟨S24x320x48x128, .fp8e4m3⟩
  | .hbm, ⟨15, _⟩ => ⟨S24x1024x48x128, .f32⟩
  | .hbm, ⟨16, _⟩ => ⟨S24x48x128, .f32⟩
  | .hbm, ⟨17, _⟩ => ⟨S24, .f32⟩
  | .hbm, ⟨18, _⟩ => ⟨S24x320x48x128, .fp8e4m3⟩
  | .hbm, ⟨19, _⟩ => ⟨S24x320x48, .f32⟩
  | .hbm, ⟨20, _⟩ => ⟨S24x320x48x128, .fp8e4m3⟩
  | .hbm, ⟨21, _⟩ => ⟨S24x320x48, .f32⟩
  | .hbm, ⟨22, _⟩ => ⟨S24x1024x6144, .f32⟩
  | .hbm, ⟨23, _⟩ => ⟨S24x6144, .f32⟩
  | .hbm, ⟨24, _⟩ => ⟨S24x320x6144, .fp8e4m3⟩
  | .hbm, ⟨25, _⟩ => ⟨S24x320x6144, .fp8e4m3⟩
  | .local _ .vmem, ⟨0, _⟩ => ⟨S24x1024x48x128, .f32⟩
  | .local _ .vmem, ⟨1, _⟩ => ⟨S24x1024x48x128, .bf16⟩
  | .local _ .vmem, ⟨2, _⟩ => ⟨S24x320x48x128, .f32⟩
  | .local _ .vmem, ⟨3, _⟩ => ⟨S24x320x48x128, .fp8e4m3⟩
  | .local _ .vmem, ⟨4, _⟩ => ⟨S24x320x48, .f32⟩
  | .local _ .vmem, ⟨5, _⟩ => ⟨S24x320x48x128, .fp8e4m3⟩
  | .local _ .vmem, ⟨6, _⟩ => ⟨S24x320x48, .f32⟩
  | .local _ .vmem, ⟨7, _⟩ => ⟨S24, .i32⟩
  | .local _ .vmem, ⟨8, _⟩ => ⟨S24, .f32⟩
  | .local _ .vmem, ⟨9, _⟩ => ⟨S24x1024x48x128, .f32⟩
  | .local _ .vmem, ⟨10, _⟩ => ⟨S24x48x128, .f32⟩
  | .local _ .vmem, ⟨11, _⟩ => ⟨S24, .f32⟩
  | .local _ .vmem, ⟨12, _⟩ => ⟨S24x320x48x128, .fp8e4m3⟩
  | .local _ .vmem, ⟨13, _⟩ => ⟨S24x320x48, .f32⟩
  | .local _ .vmem, ⟨14, _⟩ => ⟨S24x320x48x128, .fp8e4m3⟩
  | .local _ .vmem, ⟨15, _⟩ => ⟨S24x320x48, .f32⟩
  | _, _ => ⟨S24x1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "beta1" => some ((9 / 10 : ℝ) : EReal)
  | "eps" => some ((1 / 100000000 : ℝ) : EReal)
  | "gamma" => some ((101 / 100 : ℝ) : EReal)
  | "inv_fp8_max" => some ((1 / 448 : ℝ) : EReal)
  | "log_two" => some ((Real.log 2 : ℝ) : EReal)
  | "tenth" => some ((1 / 10 : ℝ) : EReal)
  | "thousandth" => some ((1 / 1000 : ℝ) : EReal)
  | _ => none

abbrev grid0 : Pipeline.Grid := .none

abbrev stage0_0 : Fin 1 → Memref sig .tc .vmem S24x1024x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024x48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x320x48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x320x48x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x320x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x320x48x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x320x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x1024x48x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x48x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24x320x48x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x320x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x320x48x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24x320x48 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KernelBody.lean ====
module

public import proofs.«01_k».proof.Proof.Gen.Kernel.Loops
public import proofs.«01_k».proof.Proof.Gen.Kernel.Frame

@[expose] public section

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The buffers that one trip of the moments loop touches: those it only reads, then those it writes. -/
abbrev Trip2 (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (X12 : BufTy.Contents (Elt F) arg12.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X25 : BufTy.Contents (Elt F) arg25.view.ty) (X26 : BufTy.Contents (Elt F) arg26.view.ty) (X27 : BufTy.Contents (Elt F) arg27.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg23.view.loc (c : Thread nD τ) ↦[arg23.view.set]{fullShare} X23) ∗ (arg24.view.loc (c : Thread nD τ) ↦[arg24.view.set]{fullShare} X24) ∗ (arg12.view.loc (c : Thread nD τ) ↦[arg12.view.set]{fullShare} X12) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27))

/-- One trip of the moments loop runs to its end: what it reads is unchanged, what it writes holds something. -/
theorem t2_step (arg0 arg1 v0 : BitVec 32) (h3 : k0_cond3 i = 1#1) (v13 : Elt F .i32) (v31 : IVec S32x128 32) (v32 : IVec S8x128 32)
    (k : Fin k0_t2_loop.trips) (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (E : Set ℕ) :
    iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)
    ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 k ())
        (fun _ => iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)) := by
  have hk : k.val < 4 := Nat.lt_of_lt_of_le k.isLt k0_t2_abs.2.1
  unfold k0_t2_body
  iintro ⟨%Y12, %Y18, %Y19, %Y20, %Y21, %Y22, %Y25, %Y26, %Y27, H5, H6, H7, H9, H23, H24, H12, H18, H19, H20, H21, H22, H25, H26, H27⟩
  sl_exec_parts
  sl_step
  iexists _; iexists _; iexists _; iexists _; iexists _; iexists _; iexists _; iexists _; iexists _;
  sl_close

set_option warn.classDefReducibility false in
/-- The moments loop by the invariant that the buffers it writes hold something. -/
@[sl_loop] def loopInv_k0_t2 (E : Set ℕ) (arg0 arg1 v0 : BitVec 32) (h3 : k0_cond3 i = 1#1) (v13 : Elt F .i32) (v31 : IVec S32x128 32) (v32 : IVec S8x128 32)
    (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 where
  inv := fun _ _ => iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)
  step := fun k _ => t2_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 k X5 X6 X7 X9 X23 X24 E

/-- Every buffer of the kernel function: the inputs at their contents, the outputs and the scratch at some. -/
abbrev Held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ ∃ Y11 Y12 Y13 Y14 Y15 Y16 Y17 Y18 Y19 Y20 Y21 Y22 Y23 Y24 Y25 Y26 Y27 Y28, (arg11.view.loc (c : Thread nD τ) ↦[arg11.view.set]{fullShare} Y11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (arg15.view.loc (c : Thread nD τ) ↦[arg15.view.set]{fullShare} Y15) ∗ (arg16.view.loc (c : Thread nD τ) ↦[arg16.view.set]{fullShare} Y16) ∗ (arg17.view.loc (c : Thread nD τ) ↦[arg17.view.set]{fullShare} Y17) ∗ (arg18.view.loc (c : Thread nD τ) ↦[arg18.view.set]{fullShare} Y18) ∗ (arg19.view.loc (c : Thread nD τ) ↦[arg19.view.set]{fullShare} Y19) ∗ (arg20.view.loc (c : Thread nD τ) ↦[arg20.view.set]{fullShare} Y20) ∗ (arg21.view.loc (c : Thread nD τ) ↦[arg21.view.set]{fullShare} Y21) ∗ (arg22.view.loc (c : Thread nD τ) ↦[arg22.view.set]{fullShare} Y22) ∗ (arg23.view.loc (c : Thread nD τ) ↦[arg23.view.set]{fullShare} Y23) ∗ (arg24.view.loc (c : Thread nD τ) ↦[arg24.view.set]{fullShare} Y24) ∗ (arg25.view.loc (c : Thread nD τ) ↦[arg25.view.set]{fullShare} Y25) ∗ (arg26.view.loc (c : Thread nD τ) ↦[arg26.view.set]{fullShare} Y26) ∗ (arg27.view.loc (c : Thread nD τ) ↦[arg27.view.set]{fullShare} Y27) ∗ (arg28.view.loc (c : Thread nD τ) ↦[arg28.view.set]{fullShare} Y28))

variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)

/-- A program whose end leaves `R`, then one that starts from `R`. -/
theorem wp_seq {α δ : Type} {P R : sProp 𝕄} {Q : δ → sProp 𝕄} (p : Prog (TpuEff nD τ sig (Elt F) Λ₀ .tc) α) (k : α → Prog (TpuEff nD τ sig (Elt F) Λ₀ .tc) δ)
    (hp : P ⊢ wp frame (wpE (defs₀ (F := F)) Variants.none (c : Thread nD τ) none) Set.univ (p) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= k) Q := by
  simp only [wp_bind]; exact hp.trans ((wp _ _ _ p).mono hk)

/-- The same for two steps that leave `R`. -/
theorem wp_seq₂ {α β δ : Type} {P R : sProp 𝕄} {Q : δ → sProp 𝕄} (p : Prog (TpuEff nD τ sig (Elt F) Λ₀ .tc) α) (q : α → Prog (TpuEff nD τ sig (Elt F) Λ₀ .tc) β) (k : β → Prog (TpuEff nD τ sig (Elt F) Λ₀ .tc) δ)
    (hp : P ⊢ wp frame (wpE (defs₀ (F := F)) Variants.none (c : Thread nD τ) none) Set.univ (p >>= q) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= fun a => q a >>= k) Q := by
  simp only [wp_bind] at hp ⊢; exact hp.trans ((wp _ _ _ p).mono fun a => (wp _ _ _ (q a)).mono hk)

/-- The same for three steps that leave `R`. -/
theorem wp_seq₃ {α β γ δ : Type} {P R : sProp 𝕄} {Q : δ → sProp 𝕄} (p : Prog (TpuEff nD τ sig (Elt F) Λ₀ .tc) α) (q : α → Prog (TpuEff nD τ sig (Elt F) Λ₀ .tc) β) (r : α → β → Prog (TpuEff nD τ sig (Elt F) Λ₀ .tc) γ) (k : γ → Prog (TpuEff nD τ sig (Elt F) Λ₀ .tc) δ)
    (hp : P ⊢ wp frame (wpE (defs₀ (F := F)) Variants.none (c : Thread nD τ) none) Set.univ (p >>= fun a => q a >>= fun b => r a b) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= fun a => q a >>= fun b => r a b >>= k) Q := by
  simp only [wp_bind] at hp ⊢; exact hp.trans ((wp _ _ _ p).mono fun a => (wp _ _ _ (q a)).mono fun b => (wp _ _ _ (r a b)).mono hk)

/-- A conditional of 2 steps, then the rest. -/
theorem wp_when₂ {C : Prop} [Decidable C] {α β δ : Type} {P R : sProp 𝕄} {Q : δ → sProp 𝕄} (p : C → Prog (TpuEff nD τ sig (Elt F) Λ₀ .tc) α) (q : C → α → Prog (TpuEff nD τ sig (Elt F) Λ₀ .tc) β) (k : Prog (TpuEff nD τ sig (Elt F) Λ₀ .tc) δ)
    (hp : ∀ h, P ⊢ wp frame (wpE (defs₀ (F := F)) Variants.none (c : Thread nD τ) none) Set.univ (p h >>= q h) fun _ => R) (hn : P ⊢ R) (hk : R ⊢ wp frame (wpE (defs₀ (F := F)) Variants.none (c : Thread nD τ) none) Set.univ k Q) :
    P ⊢ wp frame (wpE (defs₀ (F := F)) Variants.none (c : Thread nD τ) none) Set.univ (if h : C then p h >>= fun a => q h a >>= fun _ => k else k) Q := by
  split
  · next h => exact wp_seq₂ c _ _ _ (hp h) fun _ => hk
  · exact hn.trans (hk)

/-- A conditional of 3 steps, then the rest. -/
theorem wp_when₃ {C : Prop} [Decidable C] {α β γ δ : Type} {P R : sProp 𝕄} {Q : δ → sProp 𝕄} (p : C → Prog (TpuEff nD τ sig (Elt F) Λ₀ .tc) α) (q : C → α → Prog (TpuEff nD τ sig (Elt F) Λ₀ .tc) β) (r : C → α → β → Prog (TpuEff nD τ sig (Elt F) Λ₀ .tc) γ) (k : Prog (TpuEff nD τ sig (Elt F) Λ₀ .tc) δ)
    (hp : ∀ h, P ⊢ wp frame (wpE (defs₀ (F := F)) Variants.none (c : Thread nD τ) none) Set.univ (p h >>= fun a => q h a >>= fun b => r h a b) fun _ => R) (hn : P ⊢ R) (hk : R ⊢ wp frame (wpE (defs₀ (F := F)) Variants.none (c : Thread nD τ) none) Set.univ k Q) :
    P ⊢ wp frame (wpE (defs₀ (F := F)) Variants.none (c : Thread nD τ) none) Set.univ (if h : C then p h >>= fun a => q h a >>= fun b => r h a b >>= fun _ => k else k) Q := by
  split
  · next h => exact wp_seq₃ c _ _ _ _ (hp h) fun _ => hk
  · exact hn.trans (hk)

/-- Nothing to do. -/
theorem wp_ret {α : Type} {P : sProp 𝕄} (a : α) : P ⊢ wp frame (wpE (defs₀ (F := F)) Variants.none (c : Thread nD τ) none) Set.univ (pure a : Prog (TpuEff nD τ sig (Elt F) Λ₀ .tc) α) fun _ => P := by
  rw [wp_pure]; exact fupd_intro

/-- The part under `b < 24`: moments, scales and codes. -/
theorem part115_frame (arg0 arg1 v0 : BitVec 32) (h3 : k0_cond3 i = 1#1) :
    (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) ⊢ wp frame (wpE (defs₀ (F := F)) Variants.none (c : Thread nD τ) none) Set.univ (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3) (fun _ => (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10)) := by
  rw [k0_part115_eq_skeleton]; unfold k0_part115_skel
  iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexists _; iexists _; iexists _; iexists _; iexists _; iexists _; iexists _; iexists _; iexists _; iexists _; iexists _; iexists _; iexists _; iexists _; iexists _; iexists _; iexists _;
  sl_close

/-- The kernel's body keeps the inputs. -/
theorem body_frame :
    (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) ⊢ wp frame (wpE (defs₀ (F := F)) Variants.none (c : Thread nD τ) none) Set.univ (cc0_apollo_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10)) := by
  rw [cc0_apollo_step_eq_skeleton]; unfold cc0_apollo_step_skel
  dsimp only
  refine wp_when₂ c _ _ _ (fun h => ?_) .rfl ?_
  · skip
    iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
    sl_exec
    try sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _; iexists _; iexists _; iexists _; iexists _; iexists _; iexists _; iexists _; iexists _; iexists _; iexists _; iexists _; iexists _; iexists _; iexists _; iexists _;
    sl_close
  refine wp_when₃ c _ _ _ _ (fun h => ?_) .rfl ?_
  · skip
    iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
    sl_exec
    try sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _; iexists _; iexists _; iexists _; iexists _; iexists _; iexists _; iexists _; iexists _; iexists _; iexists _; iexists _; iexists _; iexists _; iexists _; iexists _;
    sl_close
  split
  · refine wp_seq c _ _ (part115_frame (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X2 X3 X4 X5 X6 X7 X8 X9 X10 _ _ _ _) fun _ => ?_
    split
    · skip
      iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
      sl_exec
      try sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexists _; iexists _; iexists _; iexists _; iexists _; iexists _; iexists _; iexists _; iexists _; iexists _; iexists _; iexists _; iexists _; iexists _; iexists _; iexists _; iexists _;
      sl_close
    · exact wp_ret c _
  · exact wp_ret c _

end Cert.Kernel.Step
-- ==== Proof.KernelFrame.lean ====
module

public import proofs.«01_k».proof.Proof.Gen.Kernel.Loops
public import proofs.«01_k».proof.Proof.Gen.Kernel.Frame
public import proofs.«01_k».proof.Proof.KernelBody
public import Idealize.ShloMosaic.Lib.Pipeline.Frame

@[expose] public section

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The body over its buffers: the inputs keep what they hold, every other buffer ends at something. -/
theorem body_owns {X2 X3 X4 X5 X6 X7 X8 X9 X10} :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) : sProp 𝕄)
    ⊢ wp frame (wpE (defs₀ (F := F)) Variants.none (c : Thread nD τ) none) Set.univ (cc0_apollo_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
      (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%x11, %f11, %e11, H11⟩, ⟨%x12, %f12, %e12, H12⟩, ⟨%x13, %f13, %e13, H13⟩, ⟨%x14, %f14, %e14, H14⟩, ⟨%x15, %f15, %e15, H15⟩, ⟨%x16, %f16, %e16, H16⟩, ⟨%x17, %f17, %e17, H17⟩, ⟨%x18, %f18, %e18, H18⟩, ⟨%x19, %f19, %e19, H19⟩, ⟨%x20, %f20, %e20, H20⟩, ⟨%x21, %f21, %e21, H21⟩, ⟨%x22, %f22, %e22, H22⟩, ⟨%x23, %f23, %e23, H23⟩, ⟨%x24, %f24, %e24, H24⟩, ⟨%x25, %f25, %e25, H25⟩, ⟨%x26, %f26, %e26, H26⟩, ⟨%x27, %f27, %e27, H27⟩, ⟨%x28, %f28, %e28, H28⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27 H28]
  · iapply (body_frame (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f2 f3 f4 f5 f6 f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists f11; iexists f12; iexists f13; iexists f14; iexists f15; iexists f16; iexists f17; iexists f18; iexists f19; iexists f20; iexists f21; iexists f22; iexists f23; iexists f24; iexists f25; iexists f26; iexists f27; iexists f28
    sl_close
  iintro %_ ⟨H2, H3, H4, H5, H6, H7, H8, H9, H10, %g11, %g12, %g13, %g14, %g15, %g16, %g17, %g18, %g19, %g20, %g21, %g22, %g23, %g24, %g25, %g26, %g27, %g28, H11, H12, H13, H14, H15, H16, H17, H18, H19, H20, H21, H22, H23, H24, H25, H26, H27, H28⟩
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  · iexists _, _; isplitr; swap; · iexact H28
    ipureintro; rfl
end

open Idealize.ShloMosaic.Pipeline (Dat)
variable (m : (ℓ : Loc nD τ sig) → Buf (Elt F) ℓ) (ρ : Dev nD → PrngReg)

/-- The outputs, of which the frame reads nothing. -/
def outs0 : Fin 16 → Bool := fun w => decide (9 ≤ w.val)

/-- The proof data: an input's buffer stays at its block, the scratch at anything, nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.mpr (Nat.le_add_left 16 _))
  Φ _ := Pipeline.ΦA spec0 c
  q _ := fullShare
  owed _ := 0

/-- An array of the pipeline starts as the memory holds it. -/
theorem A_eq (c : Dev nD) (w : Fin cfg0.W) : (dats m 0 c).A w = V m c (Pipeline.arrRef spec0 w) := by dsimp only [dats]

/-- An input block is in its slot when a grid point starts. -/
theorem before0 (c : Dev nD) (t : Fin cfg0.N) (d) : (dats m 0 c).before 0 t d = iblk m c 0 t := before0_0_of m (dats m 0 c) (A_eq m c 0) (fun _ => rfl) t d
/-- An input block is in its slot when a grid point starts. -/
theorem before1 (c : Dev nD) (t : Fin cfg0.N) (d) : (dats m 0 c).before 1 t d = iblk m c 1 t := before0_1_of m (dats m 0 c) (A_eq m c 1) (fun _ => rfl) t d
/-- An input block is in its slot when a grid point starts. -/
theorem before2 (c : Dev nD) (t : Fin cfg0.N) (d) : (dats m 0 c).before 2 t d = iblk m c 2 t := before0_2_of m (dats m 0 c) (A_eq m c 2) (fun _ => rfl) t d
/-- An input block is in its slot when a grid point starts. -/
theorem before3 (c : Dev nD) (t : Fin cfg0.N) (d) : (dats m 0 c).before 3 t d = iblk m c 3 t := before0_3_of m (dats m 0 c) (A_eq m c 3) (fun _ => rfl) t d
/-- An input block is in its slot when a grid point starts. -/
theorem before4 (c : Dev nD) (t : Fin cfg0.N) (d) : (dats m 0 c).before 4 t d = iblk m c 4 t := before0_4_of m (dats m 0 c) (A_eq m c 4) (fun _ => rfl) t d
/-- An input block is in its slot when a grid point starts. -/
theorem before5 (c : Dev nD) (t : Fin cfg0.N) (d) : (dats m 0 c).before 5 t d = iblk m c 5 t := before0_5_of m (dats m 0 c) (A_eq m c 5) (fun _ => rfl) t d
/-- An input block is in its slot when a grid point starts. -/
theorem before6 (c : Dev nD) (t : Fin cfg0.N) (d) : (dats m 0 c).before 6 t d = iblk m c 6 t := before0_6_of m (dats m 0 c) (A_eq m c 6) (fun _ => rfl) t d
/-- An input block is in its slot when a grid point starts. -/
theorem before7 (c : Dev nD) (t : Fin cfg0.N) (d) : (dats m 0 c).before 7 t d = iblk m c 7 t := before0_7_of m (dats m 0 c) (A_eq m c 7) (fun _ => rfl) t d
/-- An input block is in its slot when a grid point starts. -/
theorem before8 (c : Dev nD) (t : Fin cfg0.N) (d) : (dats m 0 c).before 8 t d = iblk m c 8 t := before0_8_of m (dats m 0 c) (A_eq m c 8) (fun _ => rfl) t d

/-- The invariant, buffer by buffer: each scratch buffer owned at something, and the random generator's register. -/
theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ ∃ r, prngReg c r) := by
  unfold Pipeline.ΦA; rw [scopedRest0_eq]; simp only [owns_whole]; try rfl

/-- The body at a point: what it is handed and what it returns. -/
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
    ⊢ wp frame (wpE (defs₀ (F := F)) Variants.none c none) Set.univ (bodyAt0 t)
      (fun _ => iprop((dats m 0 c).Φ t.succ ∗ (dats m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))) := by
  unfold bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0, before1, before2, before3, before4, before5, before6, before7, before8]
  iintro ⟨⟨⟨S0, S1, S2, S3, S4, S5, S6, S7, S8, S9, S10⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9, W10, W11, W12, W13, W14, W15⟩
  iapply (wp_wand_r Idealize.ShloMosaic.frame (wpE (defs₀ (F := F)) Variants.none (c : Thread nD τ) none) Set.univ)
  isplitl [S0 S1 S2 S3 S4 S5 S6 S7 S8 S9 S10 W0 W1 W2 W3 W4 W5 W6 W7 W8 W9 W10 W11 W12 W13 W14 W15]
  · iapply (body_owns (F := F) c)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro %_ ⟨W0, W1, W2, W3, W4, W5, W6, W7, W8, W9, W10, W11, W12, W13, W14, W15, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  iexact W15

/-- The body at a grid point, by name. -/
theorem body_row (t : Fin cfg0.N) : defs₀ (F := F) .tc cfg0.body (cfg0.bodyArgs t (cfg0.slots t)) = bodyAt0 t := by
  unfold defs₀; rw [Defs.onTc_tc]

/-- The body obligation with the outputs forgotten. -/
theorem body_obligation (c : Dev nD) :
    Pipeline.BodyObligation (dats (F := F) m 0 c) (defs₀ (F := F)) Variants.none () Set.univ outs0 := fun t => by
  rw [bigSep_W0, bigSep_W0, body_row]
  exact triple_restated (sound_body m c t) rfl .rfl fun _ => .rfl

set_option backward.isDefEq.respectTransparency.types false in
/-- Every run ends, no counter is left up, and what the pipeline's post says of the inputs holds. -/
theorem run_main :
    θ_run defs (onTc (τ := τ) (main (F := F))) (s₀ m ρ)
      (fun r => Pipeline.RDat.FramePost (cfgs 0) (fun c => (dats m 0 c).toRForget outs0) (V m) r ∧ r.2.sem = fun _ => 0) :=
  Pipeline.θ_run_frame_forget (Q' := _) cfgs (dats m) (0 : Fin 1) launch0 defs₀ Variants.none outs0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun _ h => ⟨fun c => ⟨(h.1.arr_in c 2 rfl).trans ((A_eq m c 2).trans (V_main_arg0 m c)), (h.1.arr_in c 3 rfl).trans ((A_eq m c 3).trans (V_main_arg1 m c)), (h.1.arr_in c 4 rfl).trans ((A_eq m c 4).trans (V_main_arg2 m c)), (h.1.arr_in c 5 rfl).trans ((A_eq m c 5).trans (V_main_arg3 m c)), (h.1.arr_in c 6 rfl).trans ((A_eq m c 6).trans (V_main_arg4 m c)), (h.1.arr_in c 7 rfl).trans ((A_eq m c 7).trans (V_main_arg5 m c)), (h.1.arr_in c 8 rfl).trans ((A_eq m c 8).trans (V_main_arg6 m c)), (h.1.arr_in c 0 rfl).trans ((A_eq m c 0).trans (V_main_arg7 m c)), (h.1.arr_in c 1 rfl).trans ((A_eq m c 1).trans (V_main_arg8 m c))⟩, h.2⟩) (run_main m ρ)

end Cert.Kernel.Step
-- ==== Proof.KernelIdealBody.lean ====
module

public import proofs.«01_k».proof.Proof.Gen.KernelIdeal.Loops
public import proofs.«01_k».proof.Proof.Gen.KernelIdeal.Frame

@[expose] public section

set_option maxRecDepth 16384
set_option pp.maxSteps 600

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The buffers that one trip of the moments loop touches: those it only reads, then those it writes. -/
abbrev Trip2 (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (X12 : BufTy.Contents (Elt F) arg12.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X25 : BufTy.Contents (Elt F) arg25.view.ty) (X26 : BufTy.Contents (Elt F) arg26.view.ty) (X27 : BufTy.Contents (Elt F) arg27.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg23.view.loc (c : Thread nD τ) ↦[arg23.view.set]{fullShare} X23) ∗ (arg24.view.loc (c : Thread nD τ) ↦[arg24.view.set]{fullShare} X24) ∗ (arg12.view.loc (c : Thread nD τ) ↦[arg12.view.set]{fullShare} X12) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27))

/-- One trip of the moments loop runs to its end: what it reads is unchanged, what it writes holds something. -/
theorem t2_step (arg0 arg1 v0 : BitVec 32) (h3 : k0_cond3 i = 1#1) (v13 : Elt F .i32) (v31 : IVec S32x128 32) (v32 : IVec S8x128 32)
    (k : Fin k0_t2_loop.trips) (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (E : Set ℕ) :
    iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)
    ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 k ())
        (fun _ => iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)) := by
  have hk : k.val < 4 := Nat.lt_of_lt_of_le k.isLt k0_t2_abs.2.1
  unfold k0_t2_body
  iintro ⟨%Y12, %Y18, %Y19, %Y20, %Y21, %Y22, %Y25, %Y26, %Y27, H5, H6, H7, H9, H23, H24, H12, H18, H19, H20, H21, H22, H25, H26, H27⟩
  sl_exec_parts
  sl_step
  iexists _; iexists _; iexists _; iexists _; iexists _; iexists _; iexists _; iexists _; iexists _;
  sl_close

set_option warn.classDefReducibility false in
/-- The moments loop by the invariant that the buffers it writes hold something. -/
@[sl_loop] def loopInv_k0_t2 (E : Set ℕ) (arg0 arg1 v0 : BitVec 32) (h3 : k0_cond3 i = 1#1) (v13 : Elt F .i32) (v31 : IVec S32x128 32) (v32 : IVec S8x128 32)
    (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 where
  inv := fun _ _ => iprop(∃ Y12 Y18 Y19 Y20 Y21 Y22 Y25 Y26 Y27, Trip2 (F := F) c arg5 arg6 arg7 arg9 arg12 arg18 arg19 arg20 arg21 arg22 arg23 arg24 arg25 arg26 arg27 X5 X6 X7 X9 X23 X24 Y12 Y18 Y19 Y20 Y21 Y22 Y25 Y26 Y27)
  step := fun k _ => t2_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 k X5 X6 X7 X9 X23 X24 E

/-- Every buffer of the kernel function: the inputs at their contents, the outputs and the scratch at some. -/
abbrev Held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ ∃ Y11 Y12 Y13 Y14 Y15 Y16 Y17 Y18 Y19 Y20 Y21 Y22 Y23 Y24 Y25 Y26 Y27 Y28, (arg11.view.loc (c : Thread nD τ) ↦[arg11.view.set]{fullShare} Y11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (arg15.view.loc (c : Thread nD τ) ↦[arg15.view.set]{fullShare} Y15) ∗ (arg16.view.loc (c : Thread nD τ) ↦[arg16.view.set]{fullShare} Y16) ∗ (arg17.view.loc (c : Thread nD τ) ↦[arg17.view.set]{fullShare} Y17) ∗ (arg18.view.loc (c : Thread nD τ) ↦[arg18.view.set]{fullShare} Y18) ∗ (arg19.view.loc (c : Thread nD τ) ↦[arg19.view.set]{fullShare} Y19) ∗ (arg20.view.loc (c : Thread nD τ) ↦[arg20.view.set]{fullShare} Y20) ∗ (arg21.view.loc (c : Thread nD τ) ↦[arg21.view.set]{fullShare} Y21) ∗ (arg22.view.loc (c : Thread nD τ) ↦[arg22.view.set]{fullShare} Y22) ∗ (arg23.view.loc (c : Thread nD τ) ↦[arg23.view.set]{fullShare} Y23) ∗ (arg24.view.loc (c : Thread nD τ) ↦[arg24.view.set]{fullShare} Y24) ∗ (arg25.view.loc (c : Thread nD τ) ↦[arg25.view.set]{fullShare} Y25) ∗ (arg26.view.loc (c : Thread nD τ) ↦[arg26.view.set]{fullShare} Y26) ∗ (arg27.view.loc (c : Thread nD τ) ↦[arg27.view.set]{fullShare} Y27) ∗ (arg28.view.loc (c : Thread nD τ) ↦[arg28.view.set]{fullShare} Y28))

variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty)

/-- A program whose end leaves `R`, then one that starts from `R`. -/
theorem wp_seq {α δ : Type} {P R : sProp 𝕄} {Q : δ → sProp 𝕄} (p : Prog (TpuEff nD τ sig (Elt F) Λ₀ .tc) α) (k : α → Prog (TpuEff nD τ sig (Elt F) Λ₀ .tc) δ)
    (hp : P ⊢ wp frame (wpE (defs₀ (F := F)) Variants.none (c : Thread nD τ) none) Set.univ (p) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= k) Q := by
  simp only [wp_bind]; exact hp.trans ((wp _ _ _ p).mono hk)

/-- The same for two steps that leave `R`. -/
theorem wp_seq₂ {α β δ : Type} {P R : sProp 𝕄} {Q : δ → sProp 𝕄} (p : Prog (TpuEff nD τ sig (Elt F) Λ₀ .tc) α) (q : α → Prog (TpuEff nD τ sig (Elt F) Λ₀ .tc) β) (k : β → Prog (TpuEff nD τ sig (Elt F) Λ₀ .tc) δ)
    (hp : P ⊢ wp frame (wpE (defs₀ (F := F)) Variants.none (c : Thread nD τ) none) Set.univ (p >>= q) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= fun a => q a >>= k) Q := by
  simp only [wp_bind] at hp ⊢; exact hp.trans ((wp _ _ _ p).mono fun a => (wp _ _ _ (q a)).mono hk)

/-- The same for three steps that leave `R`. -/
theorem wp_seq₃ {α β γ δ : Type} {P R : sProp 𝕄} {Q : δ → sProp 𝕄} (p : Prog (TpuEff nD τ sig (Elt F) Λ₀ .tc) α) (q : α → Prog (TpuEff nD τ sig (Elt F) Λ₀ .tc) β) (r : α → β → Prog (TpuEff nD τ sig (Elt F) Λ₀ .tc) γ) (k : γ → Prog (TpuEff nD τ sig (Elt F) Λ₀ .tc) δ)
    (hp : P ⊢ wp frame (wpE (defs₀ (F := F)) Variants.none (c : Thread nD τ) none) Set.univ (p >>= fun a => q a >>= fun b => r a b) fun _ => R) (hk : ∀ a, R ⊢ wp frame (wpE (defs₀ (F := F)) Variants.none (c : Thread nD τ) none) Set.univ (k a) Q) :
    P ⊢ wp frame (wpE (defs₀ (F := F)) Variants.none (c : Thread nD τ) none) Set.univ (p >>= fun a => q a >>= fun b => r a b >>= k) Q := by
  simp only [wp_bind] at hp ⊢; exact hp.trans ((wp _ _ _ p).mono fun a => (wp _ _ _ (q a)).mono fun b => (wp _ _ _ (r a b)).mono hk)

/-- A conditional of 2 steps, then the rest. -/
theorem wp_when₂ {C : Prop} [Decidable C] {α β δ : Type} {P R : sProp 𝕄} {Q : δ → sProp 𝕄} (p : C → Prog (TpuEff nD τ sig (Elt F) Λ₀ .tc) α) (q : C → α → Prog (TpuEff nD τ sig (Elt F) Λ₀ .tc) β) (k : Prog (TpuEff nD τ sig (Elt F) Λ₀ .tc) δ)
    (hp : ∀ h, P ⊢ wp frame (wpE (defs₀ (F := F)) Variants.none (c : Thread nD τ) none) Set.univ (p h >>= q h) fun _ => R) (hn : P ⊢ R) (hk : R ⊢ wp frame (wpE (defs₀ (F := F)) Variants.none (c : Thread nD τ) none) Set.univ k Q) :
    P ⊢ wp frame (wpE (defs₀ (F := F)) Variants.none (c : Thread nD τ) none) Set.univ (if h : C then p h >>= fun a => q h a >>= fun _ => k else k) Q := by
  split
  · next h => exact wp_seq₂ c _ _ _ (hp h) fun _ => hk
  · exact hn.trans (hk)

/-- A conditional of 3 steps, then the rest. -/
theorem wp_when₃ {C : Prop} [Decidable C] {α β γ δ : Type} {P R : sProp 𝕄} {Q : δ → sProp 𝕄} (p : C → Prog (TpuEff nD τ sig (Elt F) Λ₀ .tc) α) (q : C → α → Prog (TpuEff nD τ sig (Elt F) Λ₀ .tc) β) (r : C → α → β → Prog (TpuEff nD τ sig (Elt F) Λ₀ .tc) γ) (k : Prog (TpuEff nD τ sig (Elt F) Λ₀ .tc) δ)
    (hp : ∀ h, P ⊢ wp frame (wpE (defs₀ (F := F)) Variants.none (c : Thread nD τ) none) Set.univ (p h >>= fun a => q h a >>= fun b => r h a b) fun _ => R) (hn : P ⊢ R) (hk : R ⊢ wp frame (wpE (defs₀ (F := F)) Variants.none (c : Thread nD τ) none) Set.univ k Q) :
    P ⊢ wp frame (wpE (defs₀ (F := F)) Variants.none (c : Thread nD τ) none) Set.univ (if h : C then p h >>= fun a => q h a >>= fun b => r h a b >>= fun _ => k else k) Q := by
  split
  · next h => exact wp_seq₃ c _ _ _ _ (hp h) fun _ => hk
  · exact hn.trans (hk)

/-- Nothing to do. -/
theorem wp_ret {α : Type} {P : sProp 𝕄} (a : α) : P ⊢ wp frame (wpE (defs₀ (F := F)) Variants.none (c : Thread nD τ) none) Set.univ (pure a : Prog (TpuEff nD τ sig (Elt F) Λ₀ .tc) α) fun _ => P := by
  rw [wp_pure]; exact fupd_intro

/-- The part under `b < 24`: moments, scales and codes. -/
theorem part115_frame (arg0 arg1 v0 : BitVec 32) (h3 : k0_cond3 i = 1#1) :
    (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) ⊢ wp frame (wpE (defs₀ (F := F)) Variants.none (c : Thread nD τ) none) Set.univ (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3) (fun _ => (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10)) := by
  rw [k0_part115_eq_skeleton]; unfold k0_part115_skel
  iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexists _; iexists _; iexists _; iexists _; iexists _; iexists _; iexists _; iexists _; iexists _; iexists _; iexists _; iexists _; iexists _; iexists _; iexists _; iexists _; iexists _;
  sl_close

/-- The kernel's body keeps the inputs. -/
theorem body_frame :
    (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) ⊢ wp frame (wpE (defs₀ (F := F)) Variants.none (c : Thread nD τ) none) Set.univ (cc0_apollo_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => (Held (F := F) c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10)) := by
  rw [cc0_apollo_step_eq_skeleton]; unfold cc0_apollo_step_skel
  dsimp only
  refine wp_when₂ c _ _ _ (fun h => ?_) .rfl ?_
  · skip
    iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
    sl_exec
    try sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _; iexists _; iexists _; iexists _; iexists _; iexists _; iexists _; iexists _; iexists _; iexists _; iexists _; iexists _; iexists _; iexists _; iexists _; iexists _;
    sl_close
  refine wp_when₃ c _ _ _ _ (fun h => ?_) .rfl ?_
  · skip
    iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
    sl_exec
    try sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexists _; iexists _; iexists _; iexists _; iexists _; iexists _; iexists _; iexists _; iexists _; iexists _; iexists _; iexists _; iexists _; iexists _; iexists _; iexists _; iexists _;
    sl_close
  split
  · refine wp_seq c _ _ (part115_frame (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X2 X3 X4 X5 X6 X7 X8 X9 X10 _ _ _ _) fun _ => ?_
    split
    · skip
      iintro ⟨H2, H3, H4, H5, H6, H7, H8, H9, H10, %Y11, %Y12, %Y13, %Y14, %Y15, %Y16, %Y17, %Y18, %Y19, %Y20, %Y21, %Y22, %Y23, %Y24, %Y25, %Y26, %Y27, %Y28, H11, H12, H13, H14, H15, H16, H17, H18, H19, H20, H21, H22, H23, H24, H25, H26, H27, H28⟩
      sl_exec
      try sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexists _; iexists _; iexists _; iexists _; iexists _; iexists _; iexists _; iexists _; iexists _; iexists _; iexists _; iexists _; iexists _; iexists _; iexists _; iexists _; iexists _;
      sl_close
    · exact wp_ret c _
  · exact wp_ret c _

end Cert.KernelIdeal.Step
-- ==== Proof.KernelIdealFrame.lean ====
module

public import proofs.«01_k».proof.Proof.Gen.KernelIdeal.Loops
public import proofs.«01_k».proof.Proof.Gen.KernelIdeal.Frame
public import proofs.«01_k».proof.Proof.KernelIdealBody
public import Idealize.ShloMosaic.Lib.Pipeline.Frame

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The body over its buffers: the inputs keep what they hold, every other buffer ends at something. -/
theorem body_owns {X2 X3 X4 X5 X6 X7 X8 X9 X10} :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) : sProp 𝕄)
    ⊢ wp frame (wpE (defs₀ (F := F)) Variants.none (c : Thread nD τ) none) Set.univ (cc0_apollo_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
      (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d))) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%x11, %f11, %e11, H11⟩, ⟨%x12, %f12, %e12, H12⟩, ⟨%x13, %f13, %e13, H13⟩, ⟨%x14, %f14, %e14, H14⟩, ⟨%x15, %f15, %e15, H15⟩, ⟨%x16, %f16, %e16, H16⟩, ⟨%x17, %f17, %e17, H17⟩, ⟨%x18, %f18, %e18, H18⟩, ⟨%x19, %f19, %e19, H19⟩, ⟨%x20, %f20, %e20, H20⟩, ⟨%x21, %f21, %e21, H21⟩, ⟨%x22, %f22, %e22, H22⟩, ⟨%x23, %f23, %e23, H23⟩, ⟨%x24, %f24, %e24, H24⟩, ⟨%x25, %f25, %e25, H25⟩, ⟨%x26, %f26, %e26, H26⟩, ⟨%x27, %f27, %e27, H27⟩, ⟨%x28, %f28, %e28, H28⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27 H28]
  · iapply (body_frame (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f2 f3 f4 f5 f6 f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists f11; iexists f12; iexists f13; iexists f14; iexists f15; iexists f16; iexists f17; iexists f18; iexists f19; iexists f20; iexists f21; iexists f22; iexists f23; iexists f24; iexists f25; iexists f26; iexists f27; iexists f28
    sl_close
  iintro %_ ⟨H2, H3, H4, H5, H6, H7, H8, H9, H10, %g11, %g12, %g13, %g14, %g15, %g16, %g17, %g18, %g19, %g20, %g21, %g22, %g23, %g24, %g25, %g26, %g27, %g28, H11, H12, H13, H14, H15, H16, H17, H18, H19, H20, H21, H22, H23, H24, H25, H26, H27, H28⟩
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  · iexists _, _; isplitr; swap; · iexact H28
    ipureintro; rfl
end

open Idealize.ShloMosaic.Pipeline (Dat)
variable (m : (ℓ : Loc nD τ sig) → Buf (Elt F) ℓ) (ρ : Dev nD → PrngReg)

/-- The outputs, of which the frame reads nothing. -/
def outs0 : Fin 16 → Bool := fun w => decide (9 ≤ w.val)

/-- The proof data: an input's buffer stays at its block, the scratch at anything, nothing owed. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.mpr (Nat.le_add_left 16 _))
  Φ _ := Pipeline.ΦA spec0 c
  q _ := fullShare
  owed _ := 0

/-- An array of the pipeline starts as the memory holds it. -/
theorem A_eq (c : Dev nD) (w : Fin cfg0.W) : (dats m 0 c).A w = V m c (Pipeline.arrRef spec0 w) := by dsimp only [dats]

/-- An input block is in its slot when a grid point starts. -/
theorem before0 (c : Dev nD) (t : Fin cfg0.N) (d) : (dats m 0 c).before 0 t d = iblk m c 0 t := before0_0_of m (dats m 0 c) (A_eq m c 0) (fun _ => rfl) t d
/-- An input block is in its slot when a grid point starts. -/
theorem before1 (c : Dev nD) (t : Fin cfg0.N) (d) : (dats m 0 c).before 1 t d = iblk m c 1 t := before0_1_of m (dats m 0 c) (A_eq m c 1) (fun _ => rfl) t d
/-- An input block is in its slot when a grid point starts. -/
theorem before2 (c : Dev nD) (t : Fin cfg0.N) (d) : (dats m 0 c).before 2 t d = iblk m c 2 t := before0_2_of m (dats m 0 c) (A_eq m c 2) (fun _ => rfl) t d
/-- An input block is in its slot when a grid point starts. -/
theorem before3 (c : Dev nD) (t : Fin cfg0.N) (d) : (dats m 0 c).before 3 t d = iblk m c 3 t := before0_3_of m (dats m 0 c) (A_eq m c 3) (fun _ => rfl) t d
/-- An input block is in its slot when a grid point starts. -/
theorem before4 (c : Dev nD) (t : Fin cfg0.N) (d) : (dats m 0 c).before 4 t d = iblk m c 4 t := before0_4_of m (dats m 0 c) (A_eq m c 4) (fun _ => rfl) t d
/-- An input block is in its slot when a grid point starts. -/
theorem before5 (c : Dev nD) (t : Fin cfg0.N) (d) : (dats m 0 c).before 5 t d = iblk m c 5 t := before0_5_of m (dats m 0 c) (A_eq m c 5) (fun _ => rfl) t d
/-- An input block is in its slot when a grid point starts. -/
theorem before6 (c : Dev nD) (t : Fin cfg0.N) (d) : (dats m 0 c).before 6 t d = iblk m c 6 t := before0_6_of m (dats m 0 c) (A_eq m c 6) (fun _ => rfl) t d
/-- An input block is in its slot when a grid point starts. -/
theorem before7 (c : Dev nD) (t : Fin cfg0.N) (d) : (dats m 0 c).before 7 t d = iblk m c 7 t := before0_7_of m (dats m 0 c) (A_eq m c 7) (fun _ => rfl) t d
/-- An input block is in its slot when a grid point starts. -/
theorem before8 (c : Dev nD) (t : Fin cfg0.N) (d) : (dats m 0 c).before 8 t d = iblk m c 8 t := before0_8_of m (dats m 0 c) (A_eq m c 8) (fun _ => rfl) t d

/-- The invariant, buffer by buffer: each scratch buffer owned at something, and the random generator's register. -/
theorem Phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ ∃ r, prngReg c r) := by
  unfold Pipeline.ΦA; rw [scopedRest0_eq]; simp only [owns_whole]; try rfl

/-- The body at a point: what it is handed and what it returns. -/
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))
    ⊢ wp frame (wpE (defs₀ (F := F)) Variants.none c none) Set.univ (bodyAt0 t)
      (fun _ => iprop((dats m 0 c).Φ t.succ ∗ (dats m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d))) := by
  unfold bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0, before1, before2, before3, before4, before5, before6, before7, before8]
  iintro ⟨⟨⟨S0, S1, S2, S3, S4, S5, S6, S7, S8, S9, S10⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9, W10, W11, W12, W13, W14, W15⟩
  iapply (wp_wand_r Idealize.ShloMosaic.frame (wpE (defs₀ (F := F)) Variants.none (c : Thread nD τ) none) Set.univ)
  isplitl [S0 S1 S2 S3 S4 S5 S6 S7 S8 S9 S10 W0 W1 W2 W3 W4 W5 W6 W7 W8 W9 W10 W11 W12 W13 W14 W15]
  · iapply (body_owns (F := F) c)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro %_ ⟨W0, W1, W2, W3, W4, W5, W6, W7, W8, W9, W10, W11, W12, W13, W14, W15, S0, S1, S2, S3, S4, S5, S6, S7, S8, S9, S10⟩
  isplitl [S0 S1 S2 S3 S4 S5 S6 S7 S8 S9 S10 Hg]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  iexact W15

/-- The body at a grid point, by name. -/
theorem body_row (t : Fin cfg0.N) : defs₀ (F := F) .tc cfg0.body (cfg0.bodyArgs t (cfg0.slots t)) = bodyAt0 t := by
  unfold defs₀; rw [Defs.onTc_tc]

/-- The body obligation with the outputs forgotten. -/
theorem body_obligation (c : Dev nD) :
    Pipeline.BodyObligation (dats (F := F) m 0 c) (defs₀ (F := F)) Variants.none () Set.univ outs0 := fun t => by
  rw [bigSep_W0, bigSep_W0, body_row]
  exact triple_restated (sound_body m c t) rfl .rfl fun _ => .rfl

set_option backward.isDefEq.respectTransparency.types false in
/-- Every run ends, no counter is left up, and what the pipeline's post says of the inputs holds. -/
theorem run_main :
    θ_run defs (onTc (τ := τ) (main (F := F))) (s₀ m ρ)
      (fun r => Pipeline.RDat.FramePost (cfgs 0) (fun c => (dats m 0 c).toRForget outs0) (V m) r ∧ r.2.sem = fun _ => 0) :=
  Pipeline.θ_run_frame_forget (Q' := _) cfgs (dats m) (0 : Fin 1) launch0 defs₀ Variants.none outs0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun _ h => ⟨fun c => ⟨(h.1.arr_in c 2 rfl).trans ((A_eq m c 2).trans (V_main_arg0 m c)), (h.1.arr_in c 3 rfl).trans ((A_eq m c 3).trans (V_main_arg1 m c)), (h.1.arr_in c 4 rfl).trans ((A_eq m c 4).trans (V_main_arg2 m c)), (h.1.arr_in c 5 rfl).trans ((A_eq m c 5).trans (V_main_arg3 m c)), (h.1.arr_in c 6 rfl).trans ((A_eq m c 6).trans (V_main_arg4 m c)), (h.1.arr_in c 7 rfl).trans ((A_eq m c 7).trans (V_main_arg5 m c)), (h.1.arr_in c 8 rfl).trans ((A_eq m c 8).trans (V_main_arg6 m c)), (h.1.arr_in c 0 rfl).trans ((A_eq m c 0).trans (V_main_arg7 m c)), (h.1.arr_in c 1 rfl).trans ((A_eq m c 1).trans (V_main_arg8 m c))⟩, h.2⟩) (run_main m ρ)

end Cert.KernelIdeal.Step
-- ==== Proof.KernelIdealTrip.lean ====
module

public import proofs.«01_k».proof.Proof.Gen.KernelIdeal.Loops
public import proofs.«01_k».proof.Proof.Gen.KernelIdeal.Frame
public import Idealize.ShloMosaic.Lib.Pointwise

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

/-- The four 8-row bands of a group of 32 rows, added up. -/
def fold8 (x : FVec F S32x128 .f32) : FVec F S8x128 .f32 :=
  addf (addf (extractStridedSlice S8x128 ![0, 0] x slices_S32x128_o0_0_S8x128) (extractStridedSlice S8x128 ![8, 0] x slices_S32x128_o8_0_S8x128))
    (addf (extractStridedSlice S8x128 ![16, 0] x slices_S32x128_o16_0_S8x128) (extractStridedSlice S8x128 ![24, 0] x slices_S32x128_o24_0_S8x128))

/-- The ten groups of 32 rows, folded one after another. -/
def chain (f : Fin 10 → FVec F S32x128 .f32) : FVec F S8x128 .f32 :=
  addf (addf (addf (addf (addf (addf (addf (addf (addf (addf (broadcast S8x128 (Scalar.ofBits .f32 0x00000000#32)) (fold8 (f 0))) (fold8 (f 1))) (fold8 (f 2))) (fold8 (f 3))) (fold8 (f 4))) (fold8 (f 5))) (fold8 (f 6))) (fold8 (f 7))) (fold8 (f 8))) (fold8 (f 9))

/-- The lane number `w` at every place, as the lane broadcast writes it. -/
def laneIx (w : BitVec 32) : IVec S32x128 32 :=
  shapeCast S32x128 (shapeCast S32x128x1 (select (cmpi .slt (broadcast S32x128 w) (broadcast S32x128 0#32)) (addi (broadcast S32x128 w) (broadcast S32x128 128#32)) (broadcast S32x128 w)) shapeCasts_S32x128_S32x128x1) shapeCasts_S32x128x1_S32x128

/-- A block of codes as numbers. -/
def codes (x : Vec F S1x32x128 .fp8e4m3) : FVec F S32x128 .f32 := extf .f32 (shapeCast S32x128 x shapeCasts_S1x32x128_S32x128) bitsLt_fp8e4m3_f32

/-- The new first moment of a group. -/
def mOf (w : BitVec 32) (r : Vec F S32x128 .f32) (mc : Vec F S1x32x128 .fp8e4m3) (ms : Vec F S32x128 .f32) : FVec F S32x128 .f32 :=
  addf (mulf (codes mc) (dynamicGather 1 ms (laneIx w))) (mulf (broadcast S32x128 (Named.named κ "tenth" 0x3DCCCCCD#32)) r)

/-- The new second moment of a group. -/
def vOf (w : BitVec 32) (r : Vec F S32x128 .f32) (vc : Vec F S1x32x128 .fp8e4m3) (vs : Vec F S32x128 .f32) : FVec F S32x128 .f32 :=
  addf (mulf (mulf (codes vc) (dynamicGather 1 vs (laneIx w))) (mulf (codes vc) (dynamicGather 1 vs (laneIx w)))) (mulf (broadcast S32x128 (Named.named κ "thousandth" 0x3A83126F#32)) (mulf r r))

/-- The scaled gradient of a group. -/
def rtOf (w : BitVec 32) (eps : FVec F S32x128 .f32) (r : Vec F S32x128 .f32) (mc : Vec F S1x32x128 .fp8e4m3) (ms : Vec F S32x128 .f32) (vc : Vec F S1x32x128 .fp8e4m3) (vs : Vec F S32x128 .f32) : FVec F S32x128 .f32 :=
  divf (mOf w r mc ms) (addf (mulf (vOf w r vc vs) (rsqrt (maximumf (vOf w r vc vs) (broadcast S32x128 (Scalar.ofBits .f32 0x00800000#32))))) eps)

/-- The two 8-row bands of a group of 16 rows, added up. -/
def fold2 (x : FVec F S16x128 .f32) : FVec F S8x128 .f32 :=
  addf (extractStridedSlice S8x128 ![0, 0] x slices_S16x128_o0_0_S8x128) (extractStridedSlice S8x128 ![8, 0] x slices_S16x128_o8_0_S8x128)

/-- The sixty-four groups of 16 rows, sixteen at a time, folded one after another. -/
def chain64 (f : Fin 64 → FVec F S16x128 .f32) : FVec F S8x128 .f32 :=
  (addf (addf (addf (addf (addf (addf (addf (addf (addf (addf (addf (addf (addf (addf (addf (addf (addf (addf (fold2 (f 0)) (fold2 (f 1))) (fold2 (f 2))) (fold2 (f 3))) (fold2 (f 4))) (fold2 (f 5))) (fold2 (f 6))) (fold2 (f 7))) (fold2 (f 8))) (fold2 (f 9))) (fold2 (f 10))) (fold2 (f 11))) (fold2 (f 12))) (fold2 (f 13))) (fold2 (f 14))) (fold2 (f 15))) (addf (addf (addf (addf (addf (addf (addf (addf (addf (addf (addf (addf (addf (addf (addf (fold2 (f 16)) (fold2 (f 17))) (fold2 (f 18))) (fold2 (f 19))) (fold2 (f 20))) (fold2 (f 21))) (fold2 (f 22))) (fold2 (f 23))) (fold2 (f 24))) (fold2 (f 25))) (fold2 (f 26))) (fold2 (f 27))) (fold2 (f 28))) (fold2 (f 29))) (fold2 (f 30))) (fold2 (f 31)))) (addf (addf (addf (addf (addf (addf (addf (addf (addf (addf (addf (addf (addf (addf (addf (fold2 (f 32)) (fold2 (f 33))) (fold2 (f 34))) (fold2 (f 35))) (fold2 (f 36))) (fold2 (f 37))) (fold2 (f 38))) (fold2 (f 39))) (fold2 (f 40))) (fold2 (f 41))) (fold2 (f 42))) (fold2 (f 43))) (fold2 (f 44))) (fold2 (f 45))) (fold2 (f 46))) (fold2 (f 47)))) (addf (addf (addf (addf (addf (addf (addf (addf (addf (addf (addf (addf (addf (addf (addf (fold2 (f 48)) (fold2 (f 49))) (fold2 (f 50))) (fold2 (f 51))) (fold2 (f 52))) (fold2 (f 53))) (fold2 (f 54))) (fold2 (f 55))) (fold2 (f 56))) (fold2 (f 57))) (fold2 (f 58))) (fold2 (f 59))) (fold2 (f 60))) (fold2 (f 61))) (fold2 (f 62))) (fold2 (f 63))))

section
variable (i : grid0.Coords)
  (arg5 : Memref sig .tc .vmem S1x1024x1024 .bf16) (arg6 : Memref sig .tc .vmem S1x320x1024 .bf16)
  (arg7 : Memref sig .tc .vmem S1x320x1024 .fp8e4m3) (arg9 : Memref sig .tc .vmem S1x320x1024 .fp8e4m3)
  (arg20 : Memref sig .tc .vmem S320x256 .f32) (arg23 : Memref sig .tc .vmem S320x128 .f32) (arg24 : Memref sig .tc .vmem S320x128 .f32)
  (v0 : BitVec 32) (h3 : k0_cond3 i = 1#1) (v13 : Elt F .i32) (k : Fin k0_t2_loop.trips)
  (X5 : BufTy.Contents (Elt F) arg5.view.ty) (X6 : BufTy.Contents (Elt F) arg6.view.ty) (X7 : BufTy.Contents (Elt F) arg7.view.ty) (X9 : BufTy.Contents (Elt F) arg9.view.ty)
  (X23 : BufTy.Contents (Elt F) arg23.view.ty) (X24 : BufTy.Contents (Elt F) arg24.view.ty)

/-- The first column that trip `k` reads at its half `c`. -/
def colAt (k : Fin k0_t2_loop.trips) (c : BitVec 32) : Nat := k0_off148 k c 2

include h3 in
/-- A band of codes lies in its block. -/
theorem codes_inb (c : Fin 2) (g : Fin 10) : ∀ a, (![0, 32 * g.val, colAt k (BitVec.ofNat 32 (128 * c.val))] : Fin 3 → Nat) a + S1x32x128.size a ≤ S1x320x1024.size a := by
  intro a
  have h := k0_off148_inb i k h3 c a
  fin_cases a
  · exact h
  · have := g.isLt
    show 32 * g.val + 32 ≤ 320
    omega
  · exact h

/-- A band of the projected gradient lies in the scratch buffer. -/
theorem band_inb (c : Fin 2) (g : Fin 10) : ∀ a, (![32 * g.val, 128 * c.val] : Fin 2 → Nat) a + S32x128.size a ≤ S320x256.size a := by
  intro a
  fin_cases a
  · have := g.isLt
    show 32 * g.val + 32 ≤ 320
    omega
  · have := c.isLt
    show 128 * c.val + 128 ≤ 256
    omega

/-- A band of spread scales lies in the scratch buffer. -/
theorem scale_inb (g : Fin 10) : ∀ a, (![32 * g.val, 0] : Fin 2 → Nat) a + S32x128.size a ≤ S320x128.size a := by
  intro a
  fin_cases a
  · have := g.isLt
    show 32 * g.val + 32 ≤ 320
    omega
  · show 0 + 128 ≤ 128
    omega

/-- The projected gradient of the trip's 256 columns. -/
def projT : FVec F S320x256 .f32 :=
  shapeCast S320x256 (matmul dot_S320x1024_S1024x256_S320x256_1_0_0_1_n_n none
    (shapeCast S320x1024 (View.readAt (Elt F) arg6.view (Rect.unit (s := S1x320x1024) ![0, 0, 0] S1x320x1024.size inb_S1x320x1024_S1x320x1024_0_0_0).toLoadRect X6) shapeCasts_S1x320x1024_S320x1024)
    (shapeCast S1024x256 (View.readAt (Elt F) arg5.view (Rect.unit (s := S1x1024x1024) (k0_off147 k) S1x1024x256.size (k0_off147_inb i k h3)).toLoadRect X5) shapeCasts_S1x1024x256_S1024x256)
    (constant S320x256 .f32 0x00000000#32)) shapeCasts_S320x256_S320x256

/-- Group `g` of half `c` of the projected gradient, read back from the scratch buffer. -/
def rAt (c : Fin 2) (g : Fin 10) : Vec F S32x128 .f32 :=
  arg20.view.readCov [⟨Rect.unit (s := S320x256) ![0, 0] S320x256.size inb_S320x256_S320x256_0_0, projT i arg5 arg6 h3 k X5 X6⟩] (Rect.unit (s := S320x256) ![32 * g.val, 128 * c.val] S32x128.size (band_inb c g)).toLoadRect

/-- Group `g` of half `c` of the first moment's codes. -/
def mcAt (c : Fin 2) (g : Fin 10) : Vec F S1x32x128 .fp8e4m3 :=
  View.readAt (Elt F) arg7.view (Rect.unit (s := S1x320x1024) ![0, 32 * g.val, colAt k (BitVec.ofNat 32 (128 * c.val))] S1x32x128.size (codes_inb i h3 k c g)).toLoadRect X7

/-- Group `g` of half `c` of the second moment's codes. -/
def vcAt (c : Fin 2) (g : Fin 10) : Vec F S1x32x128 .fp8e4m3 :=
  View.readAt (Elt F) arg9.view (Rect.unit (s := S1x320x1024) ![0, 32 * g.val, colAt k (BitVec.ofNat 32 (128 * c.val))] S1x32x128.size (codes_inb i h3 k c g)).toLoadRect X9

/-- Group `g` of the first moment's scales. -/
def msAt (g : Fin 10) : Vec F S32x128 .f32 :=
  View.readAt (Elt F) arg23.view (Rect.unit (s := S320x128) ![32 * g.val, 0] S32x128.size (scale_inb g)).toLoadRect X23

/-- Group `g` of the second moment's scales. -/
def vsAt (g : Fin 10) : Vec F S32x128 .f32 :=
  View.readAt (Elt F) arg24.view (Rect.unit (s := S320x128) ![32 * g.val, 0] S32x128.size (scale_inb g)).toLoadRect X24

/-- The lane of half `c` of trip `k`. -/
def laneOf (c : Fin 2) : BitVec 32 := Scalar.addi (Scalar.addi v0 (Scalar.muli (Scf.iv 0#32 1#32 k) 2#32)) (BitVec.ofNat 32 c.val)

/-- The scaled gradient of group `g`, half `c`. -/
def rtAt (c : Fin 2) (g : Fin 10) : FVec F S32x128 .f32 :=
  rtOf (laneOf v0 k c) (k0_pay650 v13) (rAt i arg5 arg6 arg20 h3 k X5 X6 c g) (mcAt i arg7 h3 k X7 c g) (msAt arg23 X23 g) (vcAt i arg9 h3 k X9 c g) (vsAt arg24 X24 g)

/-- The squares of the projected gradient, summed to eight rows. -/
def rsum (c : Fin 2) : FVec F S8x128 .f32 := chain fun g => mulf (rAt i arg5 arg6 arg20 h3 k X5 X6 c g) (rAt i arg5 arg6 arg20 h3 k X5 X6 c g)

/-- The squares of the scaled gradient, summed to eight rows. -/
def tsum (c : Fin 2) : FVec F S8x128 .f32 := chain fun g => mulf (rtAt i arg5 arg6 arg7 arg9 arg20 arg23 arg24 v0 h3 v13 k X5 X6 X7 X9 X23 X24 c g) (rtAt i arg5 arg6 arg7 arg9 arg20 arg23 arg24 v0 h3 v13 k X5 X6 X7 X9 X23 X24 c g)

include h3 in
/-- A band of the gradient lies in its block. -/
theorem grad_inb (c : Fin 2) (p : Fin 64) : ∀ a, (![0, 16 * p.val, colAt k (BitVec.ofNat 32 (128 * c.val))] : Fin 3 → Nat) a + S1x16x128.size a ≤ S1x1024x1024.size a := by
  intro a
  have h := k0_off148_inb i k h3 c 2
  fin_cases a
  · show 0 + 1 ≤ 1
    omega
  · have := p.isLt
    show 16 * p.val + 16 ≤ 1024
    omega
  · exact h

include h3 in
/-- A band of the copy of the gradient lies in the scratch buffer. -/
theorem copy_inb (c : Fin 2) (p : Fin 64) : ∀ a, (![k0_off20 i k (BitVec.ofNat 32 (128 * c.val)) 0, 16 * p.val, k0_off20 i k (BitVec.ofNat 32 (128 * c.val)) 2] : Fin 3 → Nat) a + S1x16x128.size a ≤ S6x1024x1024.size a := by
  intro a
  fin_cases a
  · exact k0_off20_inb i k h3 c 0
  · have := p.isLt
    show 16 * p.val + 16 ≤ 1024
    omega
  · exact k0_off20_inb i k h3 c 2

/-- Sixteen rows of half `c` of the gradient's columns. -/
def gAt (c : Fin 2) (p : Fin 64) : FVec F S16x128 .bf16 :=
  shapeCast S16x128 (View.readAt (Elt F) arg5.view (Rect.unit (s := S1x1024x1024) ![0, 16 * p.val, colAt k (BitVec.ofNat 32 (128 * c.val))] S1x16x128.size (grad_inb i h3 k c p)).toLoadRect X5) shapeCasts_S1x16x128_S16x128

/-- The squares of half `c` of the gradient's columns, summed. -/
def gsq (c : Fin 2) : FVec F S1x128 .f32 :=
  shapeCast S1x128 (multiReduction .add [0] S128 (chain64 fun p => mulf (extf .f32 (gAt i arg5 h3 k X5 c p) bitsLt_bf16_f32) (extf .f32 (gAt i arg5 h3 k X5 c p) bitsLt_bf16_f32)) 0x00000000#32 reduces_S8x128_S128 (.inl rfl) rfl) shapeCasts_S128_S1x128

/-- The first `n` stores of the gradient into its scratch copy, the last first. -/
def copies : ℕ → List (View.Piece (Elt F) S6x1024x1024 .bf16)
  | 0 => []
  | n + 1 => ⟨Rect.unit (s := S6x1024x1024) ![k0_off20 i k (BitVec.ofNat 32 (128 * (n / 64 % 2))) 0, 16 * (n % 64), k0_off20 i k (BitVec.ofNat 32 (128 * (n / 64 % 2))) 2] S1x16x128.size
        (copy_inb i h3 k ⟨n / 64 % 2, Nat.mod_lt _ (by norm_num)⟩ ⟨n % 64, Nat.mod_lt _ (by norm_num)⟩),
      shapeCast S1x16x128 (gAt i arg5 h3 k X5 ⟨n / 64 % 2, Nat.mod_lt _ (by norm_num)⟩ ⟨n % 64, Nat.mod_lt _ (by norm_num)⟩) shapeCasts_S16x128_S1x16x128⟩ :: copies n

/-- The scale of half `c`. -/
def sAt (c : Fin 2) : FVec F S1x128 .f32 :=
  k0_pay605 (k0_pay648 v13) (k0_pay649 v13) (rsum i arg5 arg6 arg20 h3 k X5 X6 c) (tsum i arg5 arg6 arg7 arg9 arg20 arg23 arg24 v0 h3 v13 k X5 X6 X7 X9 X23 X24 c)

/-- The squares of both halves side by side. -/
def gsqs : FVec F S1x256 .f32 :=
  concatenate S1x256 1 [⟨S1x128, gsq i arg5 h3 k X5 0⟩, ⟨S1x128, gsq i arg5 h3 k X5 1⟩] concatenates_S1x128_S1x128_S1x256_d1

/-- What the first half adds to the norm's lanes, before it is squared. -/
def sg0 : FVec F S1x128 .f32 :=
  mulf (sAt i arg5 arg6 arg7 arg9 arg20 arg23 arg24 v0 h3 v13 k X5 X6 X7 X9 X23 X24 0) (sqrt (extractStridedSlice S1x128 ![0, 0] (gsqs i arg5 h3 k X5) slices_S1x256_o0_0_S1x128))

variable (arg12 : Memref sig .tc .vmem S8x6144 .f32) (arg18 : Memref sig .tc .vmem S6x1024x1024 .bf16) (arg19 : Memref sig .tc .vmem S48x128 .f32) (arg27 : Memref sig .tc .vmem S1x128 .f32)
  (arg0 : BitVec 32) (v32 : IVec S8x128 32)
  (Y12 : BufTy.Contents (Elt F) arg12.view.ty) (Y18 : BufTy.Contents (Elt F) arg18.view.ty) (Y19 : BufTy.Contents (Elt F) arg19.view.ty) (Y27 : BufTy.Contents (Elt F) arg27.view.ty)

/-- Half `c`'s store into the block of scales: the row of this matrix, the other rows as they were. -/
def piece12 (c : Fin 2) : View.Piece (Elt F) S8x6144 .f32 :=
  ⟨Rect.unit (s := S8x6144) (k0_off169 i k (BitVec.ofNat 32 c.val)) S8x128.size (k0_off169_inb i k h3 c),
    k0_pay607 arg0 (k0_pay648 v13) (k0_pay649 v13) v32 (rsum i arg5 arg6 arg20 h3 k X5 X6 c) (tsum i arg5 arg6 arg7 arg9 arg20 arg23 arg24 v0 h3 v13 k X5 X6 X7 X9 X23 X24 c)
      (View.readAt (Elt F) arg12.view (Rect.unit (s := S8x6144) (k0_off169 i k (BitVec.ofNat 32 c.val)) S8x128.size (k0_off169_inb i k h3 c)).toLoadRect Y12)⟩

/-- Half `c`'s store into the scratch row of scales. -/
def piece19 (c : Fin 2) : View.Piece (Elt F) S48x128 .f32 :=
  ⟨Rect.unit (s := S48x128) (k0_off168 i k (BitVec.ofNat 32 c.val)) S1x128.size (k0_off168_inb i k h3 c),
    shapeCast S1x128 (sAt i arg5 arg6 arg7 arg9 arg20 arg23 arg24 v0 h3 v13 k X5 X6 X7 X9 X23 X24 c) shapeCasts_S1x128_S1x128⟩

/-- The first half's store into the norm's lanes. -/
def first27 : View.Piece (Elt F) S1x128 .f32 :=
  ⟨Rect.unit (s := S1x128) ![0, 0] S1x128.size inb_S1x128_S1x128_0_0,
    shapeCast S1x128 (addf (View.readAt (Elt F) arg27.view (Rect.unit (s := S1x128) ![0, 0] S1x128.size inb_S1x128_S1x128_0_0).toLoadRect Y27)
      (mulf (sg0 i arg5 arg6 arg7 arg9 arg20 arg23 arg24 v0 h3 v13 k X5 X6 X7 X9 X23 X24) (sg0 i arg5 arg6 arg7 arg9 arg20 arg23 arg24 v0 h3 v13 k X5 X6 X7 X9 X23 X24))) shapeCasts_S1x128_S1x128⟩

/-- The second half's store into the norm's lanes. -/
def second27 : View.Piece (Elt F) S1x128 .f32 :=
  ⟨Rect.unit (s := S1x128) ![0, 0] S1x128.size inb_S1x128_S1x128_0_0,
    k0_pay651 (gsqs i arg5 h3 k X5) (sAt i arg5 arg6 arg7 arg9 arg20 arg23 arg24 v0 h3 v13 k X5 X6 X7 X9 X23 X24 1)
      (arg27.view.readCov [first27 i arg5 arg6 arg7 arg9 arg20 arg23 arg24 v0 h3 v13 k X5 X6 X7 X9 X23 X24 arg27 Y27] (Rect.unit (s := S1x128) ![0, 0] S1x128.size inb_S1x128_S1x128_0_0).toLoadRect)⟩

/-- What a trip leaves in the buffers that are followed. -/
def Trip (Y12' : BufTy.Contents (Elt F) arg12.view.ty) (Y18' : BufTy.Contents (Elt F) arg18.view.ty) (Y19' : BufTy.Contents (Elt F) arg19.view.ty) (Y27' : BufTy.Contents (Elt F) arg27.view.ty) : Prop :=
  Y12' = arg12.view.writes (Elt F) Y12 [piece12 i arg5 arg6 arg7 arg9 arg20 arg23 arg24 v0 h3 v13 k X5 X6 X7 X9 X23 X24 arg12 arg0 v32 Y12 1, piece12 i arg5 arg6 arg7 arg9 arg20 arg23 arg24 v0 h3 v13 k X5 X6 X7 X9 X23 X24 arg12 arg0 v32 Y12 0]
  ∧ Y18' = arg18.view.writes (Elt F) Y18 (copies i arg5 h3 k X5 128)
  ∧ Y19' = arg19.view.writes (Elt F) Y19 [piece19 i arg5 arg6 arg7 arg9 arg20 arg23 arg24 v0 h3 v13 k X5 X6 X7 X9 X23 X24 1, piece19 i arg5 arg6 arg7 arg9 arg20 arg23 arg24 v0 h3 v13 k X5 X6 X7 X9 X23 X24 0]
  ∧ Y27' = arg27.view.writes (Elt F) Y27 [second27 i arg5 arg6 arg7 arg9 arg20 arg23 arg24 v0 h3 v13 k X5 X6 X7 X9 X23 X24 arg27 Y27, first27 i arg5 arg6 arg7 arg9 arg20 arg23 arg24 v0 h3 v13 k X5 X6 X7 X9 X23 X24 arg27 Y27]

end

end Cert.KernelIdeal.Track
-- ==== Proof.KernelIdealPeaks.lean ====
module

public import proofs.«01_k».proof.Proof.KernelIdealTrip

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

/-- Where a lane number is the lane `w`. -/
def hitOf (v31 : IVec S32x128 32) (w : BitVec 32) : IVec S32x128 1 := cmpi .eq v31 (broadcast S32x128 w)

/-- A band of maxima with one lane replaced by the row maxima of `x`. -/
def peak (hit : IVec S32x128 1) (x : FVec F S32x128 .f32) (old : Vec F S32x128 .f32) : FVec F S32x128 .f32 :=
  shapeCast S32x128 (select hit (broadcastTo S32x128 (shapeCast S32x1 (shapeCast S32x1 (multiReduction .maximumf [1] S32 x 0xFF800000#32 reduces_S32x128_S32 (.inl rfl) rfl) shapeCasts_S32_S32x1) shapeCasts_S32x1_S32x1) broadcasts_S32x1_S32x128) old) shapeCasts_S32x128_S32x128

/-- The first half's stores into the maxima, group after group, the last first. -/
def lows (M : Memref sig .tc .vmem S320x128 .f32) (Y : BufTy.Contents (Elt F) M.view.ty) (hit : Fin 2 → IVec S32x128 1) (x : Fin 2 → Fin 10 → FVec F S32x128 .f32) : ℕ → List (View.Piece (Elt F) S320x128 .f32)
  | 0 => []
  | n + 1 => ⟨Rect.unit (s := S320x128) ![32 * (n % 10), 0] S32x128.size (scale_inb ⟨n % 10, Nat.mod_lt _ (by norm_num)⟩),
      peak (hit 0) (x 0 ⟨n % 10, Nat.mod_lt _ (by norm_num)⟩) (View.readAt (Elt F) M.view (Rect.unit (s := S320x128) ![32 * (n % 10), 0] S32x128.size (scale_inb ⟨n % 10, Nat.mod_lt _ (by norm_num)⟩)).toLoadRect Y)⟩ :: lows M Y hit x n

/-- The second half's stores into the maxima, after the first half's. -/
def highs (M : Memref sig .tc .vmem S320x128 .f32) (Y : BufTy.Contents (Elt F) M.view.ty) (hit : Fin 2 → IVec S32x128 1) (x : Fin 2 → Fin 10 → FVec F S32x128 .f32) : ℕ → List (View.Piece (Elt F) S320x128 .f32)
  | 0 => lows M Y hit x 10
  | n + 1 => ⟨Rect.unit (s := S320x128) ![32 * (n % 10), 0] S32x128.size (scale_inb ⟨n % 10, Nat.mod_lt _ (by norm_num)⟩),
      peak (hit 1) (x 1 ⟨n % 10, Nat.mod_lt _ (by norm_num)⟩) (M.view.readCov (highs M Y hit x n) (Rect.unit (s := S320x128) ![32 * (n % 10), 0] S32x128.size (scale_inb ⟨n % 10, Nat.mod_lt _ (by norm_num)⟩)).toLoadRect)⟩ :: highs M Y hit x n

/-- The roots of a group's second moments. -/
def qOf (w : BitVec 32) (r : Vec F S32x128 .f32) (vc : Vec F S1x32x128 .fp8e4m3) (vs : Vec F S32x128 .f32) : FVec F S32x128 .f32 :=
  mulf (vOf w r vc vs) (rsqrt (maximumf (vOf w r vc vs) (broadcast S32x128 (Scalar.ofBits .f32 0x00800000#32))))

section
variable (i : grid0.Coords)
  (arg5 : Memref sig .tc .vmem S1x1024x1024 .bf16) (arg6 : Memref sig .tc .vmem S1x320x1024 .bf16)
  (arg7 : Memref sig .tc .vmem S1x320x1024 .fp8e4m3) (arg9 : Memref sig .tc .vmem S1x320x1024 .fp8e4m3)
  (arg20 : Memref sig .tc .vmem S320x256 .f32) (arg23 : Memref sig .tc .vmem S320x128 .f32) (arg24 : Memref sig .tc .vmem S320x128 .f32)
  (v0 : BitVec 32) (h3 : k0_cond3 i = 1#1) (v13 : Elt F .i32) (k : Fin k0_t2_loop.trips)
  (X5 : BufTy.Contents (Elt F) arg5.view.ty) (X6 : BufTy.Contents (Elt F) arg6.view.ty) (X7 : BufTy.Contents (Elt F) arg7.view.ty) (X9 : BufTy.Contents (Elt F) arg9.view.ty)
  (X23 : BufTy.Contents (Elt F) arg23.view.ty) (X24 : BufTy.Contents (Elt F) arg24.view.ty)

/-- The first moments of group `g`, half `c`. -/
def mAt (c : Fin 2) (g : Fin 10) : FVec F S32x128 .f32 :=
  mOf (laneOf v0 k c) (rAt i arg5 arg6 arg20 h3 k X5 X6 c g) (mcAt i arg7 h3 k X7 c g) (msAt arg23 X23 g)

/-- The roots of the second moments of group `g`, half `c`. -/
def qAt (c : Fin 2) (g : Fin 10) : FVec F S32x128 .f32 :=
  qOf (laneOf v0 k c) (rAt i arg5 arg6 arg20 h3 k X5 X6 c g) (vcAt i arg9 h3 k X9 c g) (vsAt arg24 X24 g)

variable (arg25 : Memref sig .tc .vmem S320x128 .f32) (arg26 : Memref sig .tc .vmem S320x128 .f32) (v31 : IVec S32x128 32)
  (Y25 : BufTy.Contents (Elt F) arg25.view.ty) (Y26 : BufTy.Contents (Elt F) arg26.view.ty)

/-- What a trip leaves in the two buffers of maxima. -/
def Peaks (Z25 : BufTy.Contents (Elt F) arg25.view.ty) (Z26 : BufTy.Contents (Elt F) arg26.view.ty) : Prop :=
  Z25 = arg25.view.writes (Elt F) Y25 (highs arg25 Y25 (fun c => hitOf v31 (laneOf v0 k c)) (fun c g => absf (mAt i arg5 arg6 arg7 arg20 arg23 v0 h3 k X5 X6 X7 X23 c g)) 10)
  ∧ Z26 = arg26.view.writes (Elt F) Y26 (highs arg26 Y26 (fun c => hitOf v31 (laneOf v0 k c)) (fun c g => qAt i arg5 arg6 arg9 arg20 arg24 v0 h3 k X5 X6 X9 X24 c g) 10)

end

/-- The biased exponents of a band of maxima over the largest code: a search from the top bit down. -/
def expo (x : Vec F S32x128 .f32) : IVec S32x128 32 := Scf.fold (fun a e => k0_pay653 x a e) (k0_pay652)

/-- The scales of a band of maxima. -/
def scaleOf (x : Vec F S32x128 .f32) : FVec F S1x32x48 .f32 := k0_pay662 (k0_pay654 (expo x)) (k0_pay655 (expo x))

/-- A band of scales lies in the block of scales. -/
theorem out_inb (g : Fin 10) : ∀ a, (![0, 32 * g.val, 0] : Fin 3 → ℕ) a + S1x32x48.size a ≤ S1x320x48.size a := by
  revert g; decide

/-- The stores of the scales, band after band, the last first. -/
def scalePieces (M : Memref sig .tc .vmem S320x128 .f32) (Z : BufTy.Contents (Elt F) M.view.ty) : ℕ → List (View.Piece (Elt F) S1x320x48 .f32)
  | 0 => []
  | n + 1 => ⟨Rect.unit (s := S1x320x48) ![0, 32 * (n % 10), 0] S1x32x48.size (out_inb ⟨n % 10, Nat.mod_lt _ (by norm_num)⟩),
      scaleOf (View.readAt (Elt F) M.view (Rect.unit (s := S320x128) ![32 * (n % 10), 0] S32x128.size (scale_inb ⟨n % 10, Nat.mod_lt _ (by norm_num)⟩)).toLoadRect Z)⟩ :: scalePieces M Z n

end Cert.KernelIdeal.Track
-- ==== Proof.KernelIdealLoop.lean ====
module

public import proofs.«01_k».proof.Proof.KernelIdealPeaks

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

local notation "𝕄" => MT nD τ sig Unit (Elt F) ℕ (UR sig nD τ) ℕ

variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The buffers that one trip of the moments loop touches: those it only reads, then those it writes. -/
abbrev Trip2 (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (X12 : BufTy.Contents (Elt F) arg12.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X25 : BufTy.Contents (Elt F) arg25.view.ty) (X26 : BufTy.Contents (Elt F) arg26.view.ty) (X27 : BufTy.Contents (Elt F) arg27.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg23.view.loc (c : Thread nD τ) ↦[arg23.view.set]{fullShare} X23) ∗ (arg24.view.loc (c : Thread nD τ) ↦[arg24.view.set]{fullShare} X24) ∗ (arg12.view.loc (c : Thread nD τ) ↦[arg12.view.set]{fullShare} X12) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27))

/-- One trip of the moments loop runs to its end: what it reads is unchanged, and what it writes holds the scales, the copy of the gradient and the norm's lanes. -/
theorem t2_run (arg0 arg1 v0 : BitVec 32) (h3 : k0_cond3 i = 1#1) (v13 : Elt F .i32) (v31 : IVec S32x128 32) (v32 : IVec S8x128 32)
    (k : Fin k0_t2_loop.trips) (X5 : BufTy.Contents (Elt F) arg5.view.ty) (X6 : BufTy.Contents (Elt F) arg6.view.ty) (X7 : BufTy.Contents (Elt F) arg7.view.ty) (X9 : BufTy.Contents (Elt F) arg9.view.ty) (X23 : BufTy.Contents (Elt F) arg23.view.ty) (X24 : BufTy.Contents (Elt F) arg24.view.ty) (Y12 : BufTy.Contents (Elt F) arg12.view.ty) (Y18 : BufTy.Contents (Elt F) arg18.view.ty) (Y19 : BufTy.Contents (Elt F) arg19.view.ty) (Y20 : BufTy.Contents (Elt F) arg20.view.ty) (Y21 : BufTy.Contents (Elt F) arg21.view.ty) (Y22 : BufTy.Contents (Elt F) arg22.view.ty) (Y25 : BufTy.Contents (Elt F) arg25.view.ty) (Y26 : BufTy.Contents (Elt F) arg26.view.ty) (Y27 : BufTy.Contents (Elt F) arg27.view.ty) (E : Set ℕ) :
    Trip2 (F := F) c arg5 arg6 arg7 arg9 arg12 arg18 arg19 arg20 arg21 arg22 arg23 arg24 arg25 arg26 arg27 X5 X6 X7 X9 X23 X24 Y12 Y18 Y19 Y20 Y21 Y22 Y25 Y26 Y27
    ⊢ wp frame (wpE (defs₀ (F := F)) Variants.none (c : Thread nD τ) none) E
        (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 arg1 v0 h3 v13 v31 v32 k ())
        (fun _ => iprop(∃ Z12 Z18 Z19 Z20 Z21 Z22 Z25 Z26 Z27, ⌜Trip i arg5 arg6 arg7 arg9 arg20 arg23 arg24 v0 h3 v13 k X5 X6 X7 X9 X23 X24 arg12 arg18 arg19 arg27 arg0 v32 Y12 Y18 Y19 Y27 Z12 Z18 Z19 Z27 ∧ Peaks i arg5 arg6 arg7 arg9 arg20 arg23 arg24 v0 h3 k X5 X6 X7 X9 X23 X24 arg25 arg26 v31 Y25 Y26 Z25 Z26⌝ ∗ Trip2 (F := F) c arg5 arg6 arg7 arg9 arg12 arg18 arg19 arg20 arg21 arg22 arg23 arg24 arg25 arg26 arg27 X5 X6 X7 X9 X23 X24 Z12 Z18 Z19 Z20 Z21 Z22 Z25 Z26 Z27)) := by
  have hk : k.val < 4 := Nat.lt_of_lt_of_le k.isLt k0_t2_abs.2.1
  unfold k0_t2_body
  iintro ⟨H5, H6, H7, H9, H23, H24, H12, H18, H19, H20, H21, H22, H25, H26, H27⟩
  sl_exec_parts
  sl_step
  iexists _; iexists _; iexists _; iexists _; iexists _; iexists _; iexists _; iexists _; iexists _;
  isplitr
  on_goal 2 => sl_close
  ipureintro
  exact ⟨⟨rfl, rfl, rfl, rfl⟩, rfl, rfl⟩

end Cert.KernelIdeal.Track
-- ==== Proof.KernelIdealValue.lean ====
module

public import proofs.«01_k».proof.Proof.KernelIdealTrip
public import Idealize.ShloMosaic.Lib.Pipeline.ReadBack
public import Idealize.ShloMosaic.Lib.Pipeline.ValueKit.Tiles

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic

/-- A sum over ten groups of four bands of eight rows is the sum over the 320 rows. -/
theorem sum_bands (f : Fin 10 → Fin 32 → EReal) :
    ∑ a : Fin 8, ∑ g : Fin 10, ((f g ⟨a.val, by omega⟩ + f g ⟨8 + a.val, by omega⟩) + (f g ⟨16 + a.val, by omega⟩ + f g ⟨24 + a.val, by omega⟩))
      = ∑ q : Fin 320, f ⟨q.val / 32, by omega⟩ ⟨q.val % 32, Nat.mod_lt _ (by norm_num)⟩ := by
  rw [Finset.sum_comm]
  have h1 : ∀ g : Fin 10, ∑ a : Fin 8, ((f g ⟨a.val, by omega⟩ + f g ⟨8 + a.val, by omega⟩) + (f g ⟨16 + a.val, by omega⟩ + f g ⟨24 + a.val, by omega⟩)) = ∑ b : Fin 32, f g b := by
    intro g
    rw [Finset.sum_add_distrib, Finset.sum_add_distrib, Finset.sum_add_distrib]
    rw [show (∑ b : Fin 32, f g b) = ∑ b : Fin (16 + 16), f g b from rfl, Fin.sum_univ_add]
    rw [show (∑ b : Fin 16, f g (Fin.castAdd 16 b)) = ∑ b : Fin (8 + 8), f g (Fin.castAdd 16 b) from rfl, Fin.sum_univ_add]
    rw [show (∑ b : Fin 16, f g (Fin.natAdd 16 b)) = ∑ b : Fin (8 + 8), f g (Fin.natAdd 16 b) from rfl, Fin.sum_univ_add]
    congr 1
  rw [Finset.sum_congr rfl fun g _ => h1 g, ← Finset.sum_product' Finset.univ Finset.univ f]
  refine (Fintype.sum_equiv (finProdFinEquiv (m := 10) (n := 32)).symm _ _ fun q => ?_).symm
  rfl

/-- The eight rows of the chain, summed: the sum over the 320 rows. -/
theorem sum_chain (f : Fin 10 → FVec Ideal S32x128 .f32) (l : Fin 128) :
    ∑ a : Fin 8, chain f (ix2 a l) = ∑ q : Fin 320, f ⟨q.val / 32, by omega⟩ (ix2 ⟨q.val % 32, Nat.mod_lt _ (by norm_num)⟩ l) := by
  rw [← sum_bands fun g b => f g (ix2 b l)]
  refine Finset.sum_congr rfl fun a _ => ?_
  pointwise [chain, fold8]
  simp only [Fin.sum_univ_succ, Fin.sum_univ_zero]
  simp only [add_assoc, add_zero]
  rfl

/-- A trip is one of four. -/
theorem trips_lt (k : Fin k0_t2_loop.trips) : k.val < 4 := Nat.lt_of_lt_of_le k.isLt k0_t2_abs.2.1

/-- The column at which a half of a trip starts. -/
theorem colAt_eq : ∀ (k : Fin k0_t2_loop.trips) (c : Fin 2), colAt k (BitVec.ofNat 32 (128 * c.val)) = 256 * k.val + 128 * c.val := by
  decide +kernel

/-- The column at which a trip starts. -/
theorem off147_eq : ∀ (k : Fin k0_t2_loop.trips), k0_off147 k 2 = 256 * k.val := by
  decide +kernel

/-- Column `l` of half `c` of trip `k`. -/
abbrev colF (k : Fin k0_t2_loop.trips) (c : Fin 2) (l : Fin 128) : Fin 1024 := ⟨256 * k.val + 128 * c.val + l.val, by have := trips_lt k; omega⟩

/-- The new first moment from the old code, its scale and the projected gradient. -/
def mS (mc ms r : EReal) : EReal := mc * ms + ((1 / 10 : ℝ) : EReal) * r

/-- The new second moment from the old code, its scale and the projected gradient. -/
def vS (vc vs r : EReal) : EReal := (vc * vs) * (vc * vs) + ((1 / 1000 : ℝ) : EReal) * (r * r)

/-- A second moment times the inverse root of itself: its root. -/
def qS (v : EReal) : EReal := v * Ideal.rsqrt (max v (Ideal.ofBits FTy.f32 8388608#32))

/-- The scaled gradient. -/
def rtS (eps mc ms vc vs r : EReal) : EReal := Ideal.div (mS mc ms r) (qS (vS vc vs r) + eps)

/-- The lane word's own value, as the lane broadcast reads it. -/
theorem laneIx_apply (w : BitVec 32) (hw : w.toNat < 128) (a : Fin 32) (l : Fin 128) : (laneIx w (ix2 a l)).toNat % 128 = w.toNat := by
  pointwise [laneIx]
  have h : IntOp.cmpi CmpIPredicate.slt w 0#32 = 0#1 := by
    have : ¬ BitVec.slt w 0#32 = true := by
      simp only [BitVec.slt, BitVec.toInt_eq_toNat_cond]; simp; omega
    simp [IntOp.cmpi, this]
  rw [h]
  show w.toNat % 128 = w.toNat
  exact Nat.mod_eq_of_lt hw

section
variable (i : grid0.Coords)
  (arg5 : Memref sig .tc .vmem S1x1024x1024 .bf16) (arg6 : Memref sig .tc .vmem S1x320x1024 .bf16)
  (arg7 : Memref sig .tc .vmem S1x320x1024 .fp8e4m3) (arg9 : Memref sig .tc .vmem S1x320x1024 .fp8e4m3)
  (arg20 : Memref sig .tc .vmem S320x256 .f32) (arg23 : Memref sig .tc .vmem S320x128 .f32) (arg24 : Memref sig .tc .vmem S320x128 .f32)
  (v0 : BitVec 32) (h3 : k0_cond3 i = 1#1) (v13 : Elt Ideal .i32) (k : Fin k0_t2_loop.trips)
  (X5 : BufTy.Contents (Elt Ideal) arg5.view.ty) (X6 : BufTy.Contents (Elt Ideal) arg6.view.ty) (X7 : BufTy.Contents (Elt Ideal) arg7.view.ty) (X9 : BufTy.Contents (Elt Ideal) arg9.view.ty)
  (X23 : BufTy.Contents (Elt Ideal) arg23.view.ty) (X24 : BufTy.Contents (Elt Ideal) arg24.view.ty)

/-- Entry `(q, d)` of the projected gradient of a chunk. -/
def rS (x6 : S1x320x1024.Idx → EReal) (x5 : S1x1024x1024.Idx → EReal) (q : Fin 320) (d : Fin 1024) : EReal :=
  ∑ n : Fin 1024, x6 (ix3 0 q n) * x5 (ix3 0 n d)

/-- An entry of the product is a sum over the rows of the gradient. -/
theorem matmul_apply (A : FVec Ideal S1x320x1024 .bf16) (B : FVec Ideal S1x1024x256 .bf16) (q : Fin 320) (e : Fin 256) :
    shapeCast S320x256 (matmul dot_S320x1024_S1024x256_S320x256_1_0_0_1_n_n none (shapeCast S320x1024 A shapeCasts_S1x320x1024_S320x1024)
      (shapeCast S1024x256 B shapeCasts_S1x1024x256_S1024x256) (constant (F := Ideal) S320x256 .f32 0x00000000#32)) shapeCasts_S320x256_S320x256 (ix2 q e)
      = (∑ n : Fin 1024, (A (ix3 0 q n) : EReal) * (B (ix3 0 n e) : EReal) : EReal) := by
  pointwise

/-- A band of the projected gradient, entry by entry. -/
theorem rAt_apply (c : Fin 2) (g : Fin 10) (a : Fin 32) (l : Fin 128) :
    rAt (F := Ideal) i arg5 arg6 arg20 h3 k X5 X6 c g (ix2 a l)
      = rS (arg6.view.read (Elt Ideal) X6) (arg5.view.read (Elt Ideal) X5) ⟨32 * g.val + a.val, by omega⟩ (colF k c l) := by
  unfold rAt
  rw [View.readCov_fill _ _ _ _ _ (by intro a; fin_cases a <;> rfl)]
  rw [View.ld_unit_apply_of _ _ _ _ _ (ix2 (⟨32 * g.val + a.val, by omega⟩ : Fin 320) (⟨128 * c.val + l.val, by omega⟩ : Fin 256)) (by intro x; fin_cases x <;> rfl)]
  unfold projT rS
  rw [matmul_apply]
  refine Finset.sum_congr rfl fun n _ => ?_
  rw [View.readAt_eq_ld, View.readAt_eq_ld]
  congr 1
  · refine View.ld_unit_apply_of _ _ _ _ _ _ fun x => ?_
    fin_cases x
    · rfl
    · exact (Nat.zero_add _).symm
    · exact (Nat.zero_add _).symm
  · refine View.ld_unit_apply_of _ _ _ _ _ _ fun x => ?_
    have := off147_eq k
    fin_cases x
    · rfl
    · exact (Nat.zero_add _).symm
    · show 256 * k.val + 128 * c.val + l.val = k0_off147 k 2 + (128 * c.val + l.val)
      omega

/-- A band of codes of the first moments, entry by entry. -/
theorem mcAt_apply (c : Fin 2) (g : Fin 10) (a : Fin 32) (l : Fin 128) :
    mcAt (F := Ideal) i arg7 h3 k X7 c g (ix3 0 a l) = arg7.view.read (Elt Ideal) X7 (ix3 0 ⟨32 * g.val + a.val, by omega⟩ (colF k c l)) := by
  unfold mcAt
  rw [View.readAt_eq_ld]
  refine View.ld_unit_apply_of _ _ _ _ _ _ fun x => ?_
  have := colAt_eq k c
  fin_cases x
  · rfl
  · rfl
  · show _ = colAt k _ + l.val
    rw [this]
    rfl

/-- A band of codes of the second moments, entry by entry. -/
theorem vcAt_apply (c : Fin 2) (g : Fin 10) (a : Fin 32) (l : Fin 128) :
    vcAt (F := Ideal) i arg9 h3 k X9 c g (ix3 0 a l) = arg9.view.read (Elt Ideal) X9 (ix3 0 ⟨32 * g.val + a.val, by omega⟩ (colF k c l)) := by
  unfold vcAt
  rw [View.readAt_eq_ld]
  refine View.ld_unit_apply_of _ _ _ _ _ _ fun x => ?_
  have := colAt_eq k c
  fin_cases x
  · rfl
  · rfl
  · show _ = colAt k _ + l.val
    rw [this]
    rfl

/-- A band of scales of the first moments, entry by entry. -/
theorem msAt_apply (g : Fin 10) (a : Fin 32) (l : Fin 128) :
    msAt (F := Ideal) arg23 X23 g (ix2 a l) = arg23.view.read (Elt Ideal) X23 (ix2 ⟨32 * g.val + a.val, by omega⟩ l) := by
  unfold msAt
  rw [View.readAt_eq_ld]
  refine View.ld_unit_apply_of _ _ _ _ _ _ fun x => ?_
  fin_cases x
  · rfl
  · exact (Nat.zero_add l.val).symm

/-- A band of scales of the second moments, entry by entry. -/
theorem vsAt_apply (g : Fin 10) (a : Fin 32) (l : Fin 128) :
    vsAt (F := Ideal) arg24 X24 g (ix2 a l) = arg24.view.read (Elt Ideal) X24 (ix2 ⟨32 * g.val + a.val, by omega⟩ l) := by
  unfold vsAt
  rw [View.readAt_eq_ld]
  refine View.ld_unit_apply_of _ _ _ _ _ _ fun x => ?_
  fin_cases x
  · rfl
  · exact (Nat.zero_add l.val).symm

/-- A band of scaled gradients, entry by entry. -/
theorem rtOf_apply (w : BitVec 32) (hw : w.toNat < 128) (eps : FVec Ideal S32x128 .f32) (r : Vec Ideal S32x128 .f32) (mc : Vec Ideal S1x32x128 .fp8e4m3) (ms : Vec Ideal S32x128 .f32) (vc : Vec Ideal S1x32x128 .fp8e4m3) (vs : Vec Ideal S32x128 .f32) (a : Fin 32) (l : Fin 128) :
    rtOf w eps r mc ms vc vs (ix2 a l) = rtS (eps (ix2 a l)) (mc (ix3 0 a l)) (ms (ix2 a ⟨w.toNat, hw⟩)) (vc (ix3 0 a l)) (vs (ix2 a ⟨w.toNat, hw⟩)) (r (ix2 a l)) := by
  have e : (⟨(laneIx w (ix2 a l)).toNat % 128, Nat.mod_lt _ (by norm_num)⟩ : Fin 128) = ⟨w.toNat, hw⟩ := Fin.ext (laneIx_apply w hw a l)
  pointwise [rtOf, mOf, vOf, codes]
  rw [show (⟨(laneIx w (ix2 a l)).toNat % 128, _⟩ : Fin 128) = ⟨w.toNat, hw⟩ from e]
  rfl

/-- The scale of a column from the two sums of squares and the two bias corrections. -/
def sS (bc1 bc2 ts rs : EReal) : EReal :=
  Ideal.div (Ideal.sqrt ts * Ideal.div (Ideal.sqrt bc2) bc1) (Ideal.sqrt rs + ((1 / 100000000 : ℝ) : EReal))

/-- The scale of a column from its two sums. -/
theorem pay605_apply (bc1 bc2 : FVec Ideal S1x128 .f32) (rs ts : FVec Ideal S8x128 .f32) (l : Fin 128) :
    k0_pay605 bc1 bc2 rs ts (ix2 0 l) = sS (bc1 (ix2 0 l)) (bc2 (ix2 0 l)) (∑ a : Fin 8, ts (ix2 a l)) (∑ a : Fin 8, rs (ix2 a l)) := by
  pointwise [k0_pay605]
  rfl

/-- The bias corrections. -/
def bcS (lb : ℝ) (t : BitVec 32) : EReal := 1 - Ideal.exp (((t.toInt : ℝ) : EReal) * (lb : EReal))

/-- The correction of the first moments. -/
theorem pay648_apply (v13 : BitVec 32) (l : Fin 128) : k0_pay648 (F := Ideal) v13 (ix2 0 l) = bcS (Real.log (9 / 10)) v13 := by
  pointwise [k0_pay648, k0_pay647]
  rfl

/-- The correction of the second moments. -/
theorem pay649_apply (v13 : BitVec 32) (l : Fin 128) : k0_pay649 (F := Ideal) v13 (ix2 0 l) = bcS (Real.log (999 / 1000)) v13 := by
  pointwise [k0_pay649, k0_pay647]
  rfl

/-- The small number that is added to the root. -/
theorem pay650_apply (v13 : BitVec 32) (a : Fin 32) (l : Fin 128) : k0_pay650 (F := Ideal) v13 (ix2 a l) = Ideal.sqrt (bcS (Real.log (999 / 1000)) v13) * ((1 / 100000000 : ℝ) : EReal) := by
  have := pay649_apply v13 l
  pointwise [k0_pay650]
  rw [this]
  rfl

/-- The scale of a column `d` of a chunk, its codes scaled by lane `w`. -/
def colS (x5 : S1x1024x1024.Idx → EReal) (x6 : S1x320x1024.Idx → EReal) (x7 x9 : S1x320x1024.Idx → EReal) (x23 x24 : S320x128.Idx → EReal) (v13 : BitVec 32) (w : Fin 128) (d : Fin 1024) : EReal :=
  sS (bcS (Real.log (9 / 10)) v13) (bcS (Real.log (999 / 1000)) v13)
    (∑ q : Fin 320, rtS (Ideal.sqrt (bcS (Real.log (999 / 1000)) v13) * ((1 / 100000000 : ℝ) : EReal)) (x7 (ix3 0 q d)) (x23 (ix2 q w)) (x9 (ix3 0 q d)) (x24 (ix2 q w)) (rS x6 x5 q d)
      * rtS (Ideal.sqrt (bcS (Real.log (999 / 1000)) v13) * ((1 / 100000000 : ℝ) : EReal)) (x7 (ix3 0 q d)) (x23 (ix2 q w)) (x9 (ix3 0 q d)) (x24 (ix2 q w)) (rS x6 x5 q d))
    (∑ q : Fin 320, rS x6 x5 q d * rS x6 x5 q d)

/-- A row from its band and its place there. -/
theorem row_eq (q : Fin 320) (h : 32 * (q.val / 32) + q.val % 32 < 320) : (⟨32 * (q.val / 32) + q.val % 32, h⟩ : Fin 320) = q :=
  Fin.ext (Nat.div_add_mod q.val 32)

/-- The scale that a trip computes for a column. -/
theorem scale_apply (c : Fin 2) (l : Fin 128) (hw : (laneOf v0 k c).toNat < 128) :
    k0_pay605 (k0_pay648 v13) (k0_pay649 v13) (rsum (F := Ideal) i arg5 arg6 arg20 h3 k X5 X6 c) (tsum i arg5 arg6 arg7 arg9 arg20 arg23 arg24 v0 h3 v13 k X5 X6 X7 X9 X23 X24 c) (ix2 0 l)
      = colS (arg5.view.read (Elt Ideal) X5) (arg6.view.read (Elt Ideal) X6) (arg7.view.read (Elt Ideal) X7) (arg9.view.read (Elt Ideal) X9) (arg23.view.read (Elt Ideal) X23) (arg24.view.read (Elt Ideal) X24) v13 ⟨(laneOf v0 k c).toNat, hw⟩ (colF k c l) := by
  rw [pay605_apply, pay648_apply, pay649_apply]
  unfold colS rsum tsum
  rw [sum_chain, sum_chain]
  refine congrArg₂ (sS _ _) ?_ ?_
  · refine Finset.sum_congr rfl fun q _ => ?_
    rw [show ∀ x y : FVec Ideal S32x128 .f32, ∀ j, mulf x y j = (x j : EReal) * y j from fun _ _ _ => rfl]
    have e : rtAt (F := Ideal) i arg5 arg6 arg7 arg9 arg20 arg23 arg24 v0 h3 v13 k X5 X6 X7 X9 X23 X24 c ⟨q.val / 32, by omega⟩ (ix2 ⟨q.val % 32, Nat.mod_lt _ (by norm_num)⟩ l)
        = rtS (Ideal.sqrt (bcS (Real.log (999 / 1000)) v13) * ((1 / 100000000 : ℝ) : EReal)) (arg7.view.read (Elt Ideal) X7 (ix3 0 q (colF k c l))) (arg23.view.read (Elt Ideal) X23 (ix2 q ⟨(laneOf v0 k c).toNat, hw⟩)) (arg9.view.read (Elt Ideal) X9 (ix3 0 q (colF k c l))) (arg24.view.read (Elt Ideal) X24 (ix2 q ⟨(laneOf v0 k c).toNat, hw⟩)) (rS (arg6.view.read (Elt Ideal) X6) (arg5.view.read (Elt Ideal) X5) q (colF k c l)) := by
      unfold rtAt
      rw [rtOf_apply _ hw, pay650_apply, rAt_apply, mcAt_apply, vcAt_apply, msAt_apply, vsAt_apply]
      simp only [row_eq]
    rw [e]
  · refine Finset.sum_congr rfl fun q _ => ?_
    rw [show ∀ x y : FVec Ideal S32x128 .f32, ∀ j, mulf x y j = (x j : EReal) * y j from fun _ _ _ => rfl]
    rw [rAt_apply]
    simp only [row_eq]

end

end Cert.KernelIdeal.Track
-- ==== Proof.KernelIdealTripValue.lean ====
module

public import proofs.«01_k».proof.Proof.KernelIdealValue
public import Idealize.ShloMosaic.Lib.Writes
public import Idealize.ShloMosaic.Lib.WritesUnit
public import Idealize.ShloMosaic.Lib.VecWindow

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic

/-- The chunk a grid point works on. -/
abbrev chunkOf (i : grid0.Coords) : ℕ := (i 1).val

/-- There are six chunks. -/
theorem chunk_lt (i : grid0.Coords) : chunkOf i < 6 := (i 1).isLt

/-- The lane word the chunk starts at. -/
def base (i : grid0.Coords) : BitVec 32 := Scalar.muli (BitVec.ofNat 32 (i 1).val) 8#32

/-- The lane of a half of a trip, for each chunk and trip. -/
theorem lane_fin : ∀ (j : Fin 6) (k : Fin k0_t2_loop.trips) (c : Fin 2), (laneOf (Scalar.muli (BitVec.ofNat 32 j.val) 8#32) k c).toNat = 8 * j.val + 2 * k.val + c.val := by
  decide +kernel

/-- The lane of a half of a trip. -/
theorem lane_eq (i : grid0.Coords) (k : Fin k0_t2_loop.trips) (c : Fin 2) : (laneOf (base i) k c).toNat = 8 * chunkOf i + 2 * k.val + c.val :=
  lane_fin (i 1) k c

/-- The row of the kept scales that a half of a trip writes. -/
theorem off168_eq (i : grid0.Coords) (k : Fin k0_t2_loop.trips) (c : Fin 2) : k0_off168 i k (BitVec.ofNat 32 c.val) = ![8 * chunkOf i + 2 * k.val + c.val, 0] := by
  have h : k0_off168 i k (BitVec.ofNat 32 c.val) = ![(laneOf (base i) k c).toNat, 0] := rfl
  rw [h, lane_eq]

/-- The column of a half of a trip, for each chunk and trip. -/
theorem lane128_fin : ∀ (j : Fin 6) (k : Fin k0_t2_loop.trips) (c : Fin 2), (Scalar.indexCast (Scalar.muli (laneOf (Scalar.muli (BitVec.ofNat 32 j.val) 8#32) k c) 128#32) : BitVec 32).toNat = 1024 * j.val + 256 * k.val + 128 * c.val := by
  decide +kernel

/-- The columns of the block of scales that a half of a trip writes. -/
theorem off169_eq (i : grid0.Coords) (k : Fin k0_t2_loop.trips) (c : Fin 2) : k0_off169 i k (BitVec.ofNat 32 c.val) = ![0, 1024 * chunkOf i + 256 * k.val + 128 * c.val] := by
  have h : k0_off169 i k (BitVec.ofNat 32 c.val) = ![0, (Scalar.indexCast (Scalar.muli (laneOf (base i) k c) 128#32) : BitVec 32).toNat] := rfl
  rw [h]
  exact congrArg (fun x => ![0, x]) (lane128_fin (i 1) k c)

/-- The chunk of the kept gradient that a trip writes. -/
theorem off20_zero (i : grid0.Coords) (k : Fin k0_t2_loop.trips) (c : Fin 2) : k0_off20 i k (BitVec.ofNat 32 (128 * c.val)) 0 = chunkOf i := by
  have : ∀ j : Fin 6, (Scalar.indexCast (BitVec.ofNat 32 j.val) : BitVec 32).toNat = j.val := by decide +kernel
  exact this (i 1)

/-- The columns of the kept gradient that a half of a trip writes. -/
theorem off20_two (i : grid0.Coords) (k : Fin k0_t2_loop.trips) (c : Fin 2) : k0_off20 i k (BitVec.ofNat 32 (128 * c.val)) 2 = 256 * k.val + 128 * c.val :=
  colAt_eq k c

/-- The scale of column `e` of the chunk `J`. -/
def scol (x5 : S1x1024x1024.Idx → EReal) (x6 : S1x320x1024.Idx → EReal) (x7 x9 : S1x320x1024.Idx → EReal) (x23 x24 : S320x128.Idx → EReal) (v13 : BitVec 32) (J : ℕ) (e : ℕ) : EReal :=
  if h : e < 1024 ∧ J < 6 then colS x5 x6 x7 x9 x23 x24 v13 ⟨8 * J + e / 128, by omega⟩ ⟨e, h.1⟩ else 0

/-- The sum of squares of column `e` of a chunk of the gradient. -/
def gcol (x5 : S1x1024x1024.Idx → EReal) (e : ℕ) : EReal :=
  if h : e < 1024 then ∑ n : Fin 1024, x5 (ix3 0 n ⟨e, h⟩) * x5 (ix3 0 n ⟨e, h⟩) else 0

section
variable (i : grid0.Coords)
  (arg5 : Memref sig .tc .vmem S1x1024x1024 .bf16) (arg6 : Memref sig .tc .vmem S1x320x1024 .bf16)
  (arg7 : Memref sig .tc .vmem S1x320x1024 .fp8e4m3) (arg9 : Memref sig .tc .vmem S1x320x1024 .fp8e4m3)
  (arg20 : Memref sig .tc .vmem S320x256 .f32) (arg23 : Memref sig .tc .vmem S320x128 .f32) (arg24 : Memref sig .tc .vmem S320x128 .f32)
  (h3 : k0_cond3 i = 1#1) (v13 : Elt Ideal .i32) (k : Fin k0_t2_loop.trips)
  (X5 : BufTy.Contents (Elt Ideal) arg5.view.ty) (X6 : BufTy.Contents (Elt Ideal) arg6.view.ty) (X7 : BufTy.Contents (Elt Ideal) arg7.view.ty) (X9 : BufTy.Contents (Elt Ideal) arg9.view.ty)
  (X23 : BufTy.Contents (Elt Ideal) arg23.view.ty) (X24 : BufTy.Contents (Elt Ideal) arg24.view.ty)
  (arg12 : Memref sig .tc .vmem S8x6144 .f32) (arg18 : Memref sig .tc .vmem S6x1024x1024 .bf16) (arg19 : Memref sig .tc .vmem S48x128 .f32) (arg27 : Memref sig .tc .vmem S1x128 .f32)
  (Y12 : BufTy.Contents (Elt Ideal) arg12.view.ty) (Y18 : BufTy.Contents (Elt Ideal) arg18.view.ty) (Y19 : BufTy.Contents (Elt Ideal) arg19.view.ty) (Y27 : BufTy.Contents (Elt Ideal) arg27.view.ty)

/-- The scales that a half of a trip computes. -/
theorem sAt_apply (c : Fin 2) (l : Fin 128) :
    sAt (F := Ideal) i arg5 arg6 arg7 arg9 arg20 arg23 arg24 (base i) h3 v13 k X5 X6 X7 X9 X23 X24 c (ix2 0 l) = (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (256 * k.val + 128 * c.val + l.val) := by
  have hk := trips_lt k
  have hj := chunk_lt i
  have hl := lane_eq i k c
  unfold sAt
  rw [scale_apply (hw := by omega)]
  unfold scol
  rw [dif_pos ⟨by omega, hj⟩]
  congr 1
  refine Fin.ext ?_
  show (laneOf (base i) k c).toNat = 8 * chunkOf i + (256 * k.val + 128 * c.val + l.val) / 128
  omega

/-- A sum over sixty-four groups of two bands of eight rows is the sum over the 1024 rows. -/
theorem sum_bands64 (f : Fin 64 → Fin 16 → EReal) :
    ∑ a : Fin 8, ∑ g : Fin 64, (f g ⟨a.val, by omega⟩ + f g ⟨8 + a.val, by omega⟩)
      = ∑ q : Fin 1024, f ⟨q.val / 16, by omega⟩ ⟨q.val % 16, Nat.mod_lt _ (by norm_num)⟩ := by
  rw [Finset.sum_comm]
  have h1 : ∀ g : Fin 64, ∑ a : Fin 8, (f g ⟨a.val, by omega⟩ + f g ⟨8 + a.val, by omega⟩) = ∑ b : Fin 16, f g b := by
    intro g
    rw [Finset.sum_add_distrib]
    rw [show (∑ b : Fin 16, f g b) = ∑ b : Fin (8 + 8), f g b from rfl, Fin.sum_univ_add]
    rfl
  rw [Finset.sum_congr rfl fun g _ => h1 g, ← Finset.sum_product' Finset.univ Finset.univ f]
  refine (Fintype.sum_equiv (finProdFinEquiv (m := 64) (n := 16)).symm _ _ fun q => ?_).symm
  rfl

/-- An addition of two vectors at a place. -/
theorem addf_at {s : Shape} (x y : FVec Ideal s .f32) (j : s.Idx) : addf x y j = x j + y j := rfl

/-- A band of sixteen rows folded onto eight. -/
theorem fold2_apply (x : FVec Ideal S16x128 .f32) (a : Fin 8) (l : Fin 128) :
    fold2 x (ix2 a l) = x (ix2 ⟨a.val, by omega⟩ l) + x (ix2 ⟨8 + a.val, by omega⟩ l) := by
  pointwise [fold2]

/-- The sum of sixteen terms written out. -/
theorem sum16 (h : Fin 16 → EReal) : ∑ g, h g = h 0 + h 1 + h 2 + h 3 + h 4 + h 5 + h 6 + h 7 + h 8 + h 9 + h 10 + h 11 + h 12 + h 13 + h 14 + h 15 := by
  simp only [Fin.sum_univ_succ, Fin.sum_univ_zero, add_zero, add_assoc]
  rfl

/-- The sum of sixty-four terms written out, sixteen at a time. -/
theorem sum64 (h : Fin 64 → EReal) : ∑ g, h g = (h 0 + h 1 + h 2 + h 3 + h 4 + h 5 + h 6 + h 7 + h 8 + h 9 + h 10 + h 11 + h 12 + h 13 + h 14 + h 15) + (h 16 + h 17 + h 18 + h 19 + h 20 + h 21 + h 22 + h 23 + h 24 + h 25 + h 26 + h 27 + h 28 + h 29 + h 30 + h 31) + (h 32 + h 33 + h 34 + h 35 + h 36 + h 37 + h 38 + h 39 + h 40 + h 41 + h 42 + h 43 + h 44 + h 45 + h 46 + h 47) + (h 48 + h 49 + h 50 + h 51 + h 52 + h 53 + h 54 + h 55 + h 56 + h 57 + h 58 + h 59 + h 60 + h 61 + h 62 + h 63) := by
  have e : ∑ g, h g = ∑ a : Fin 4, ∑ b : Fin 16, h ⟨b.val + 16 * a.val, by omega⟩ := by
    rw [← Finset.sum_product' Finset.univ Finset.univ fun (a : Fin 4) (b : Fin 16) => h ⟨b.val + 16 * a.val, by omega⟩]
    exact (Fintype.sum_equiv (finProdFinEquiv (m := 4) (n := 16)) _ _ fun q => rfl).symm
  rw [e, Fin.sum_univ_four]
  simp only [sum16]
  rfl

/-- Sixty-four bands added up. -/
theorem chain64_apply (f : Fin 64 → FVec Ideal S16x128 .f32) (j : S8x128.Idx) :
    chain64 f j = (fold2 (f 0) j + fold2 (f 1) j + fold2 (f 2) j + fold2 (f 3) j + fold2 (f 4) j + fold2 (f 5) j + fold2 (f 6) j + fold2 (f 7) j + fold2 (f 8) j + fold2 (f 9) j + fold2 (f 10) j + fold2 (f 11) j + fold2 (f 12) j + fold2 (f 13) j + fold2 (f 14) j + fold2 (f 15) j) + (fold2 (f 16) j + fold2 (f 17) j + fold2 (f 18) j + fold2 (f 19) j + fold2 (f 20) j + fold2 (f 21) j + fold2 (f 22) j + fold2 (f 23) j + fold2 (f 24) j + fold2 (f 25) j + fold2 (f 26) j + fold2 (f 27) j + fold2 (f 28) j + fold2 (f 29) j + fold2 (f 30) j + fold2 (f 31) j) + (fold2 (f 32) j + fold2 (f 33) j + fold2 (f 34) j + fold2 (f 35) j + fold2 (f 36) j + fold2 (f 37) j + fold2 (f 38) j + fold2 (f 39) j + fold2 (f 40) j + fold2 (f 41) j + fold2 (f 42) j + fold2 (f 43) j + fold2 (f 44) j + fold2 (f 45) j + fold2 (f 46) j + fold2 (f 47) j) + (fold2 (f 48) j + fold2 (f 49) j + fold2 (f 50) j + fold2 (f 51) j + fold2 (f 52) j + fold2 (f 53) j + fold2 (f 54) j + fold2 (f 55) j + fold2 (f 56) j + fold2 (f 57) j + fold2 (f 58) j + fold2 (f 59) j + fold2 (f 60) j + fold2 (f 61) j + fold2 (f 62) j + fold2 (f 63) j) := by
  unfold chain64
  rfl

/-- The folded sum of the sixty-four groups, over its eight rows, is the sum over the 1024 rows. -/
theorem sum_chain64 (f : Fin 64 → FVec Ideal S16x128 .f32) (l : Fin 128) :
    ∑ a : Fin 8, chain64 f (ix2 a l) = ∑ q : Fin 1024, f ⟨q.val / 16, by omega⟩ (ix2 ⟨q.val % 16, Nat.mod_lt _ (by norm_num)⟩ l) := by
  rw [← sum_bands64 fun g b => f g (ix2 b l)]
  refine Finset.sum_congr rfl fun a _ => ?_
  refine ((chain64_apply f (ix2 a l)).trans (sum64 fun g => fold2 (f g) (ix2 a l)).symm).trans ?_
  exact Finset.sum_congr rfl fun g _ => fold2_apply (f g) a l

/-- A band of the gradient without its leading axis. -/
theorem cast_band (z : FVec Ideal S1x16x128 .bf16) (a : Fin 16) (l : Fin 128) :
    shapeCast S16x128 z shapeCasts_S1x16x128_S16x128 (ix2 a l) = z (ix3 0 a l) := by
  pointwise

/-- Eight rows summed to one. -/
theorem sum_rows (z : FVec Ideal S8x128 .f32) (l : Fin 128) :
    shapeCast S1x128 (multiReduction .add [0] S128 z 0x00000000#32 reduces_S8x128_S128 (.inl rfl) rfl) shapeCasts_S128_S1x128 (ix2 0 l)
      = ∑ a : Fin 8, z (ix2 a l) := by
  pointwise

/-- A band of the gradient, read from the block. -/
theorem gAt_apply (c : Fin 2) (p : Fin 64) (a : Fin 16) (l : Fin 128) :
    gAt (F := Ideal) i arg5 h3 k X5 c p (ix2 a l) = arg5.view.read (Elt Ideal) X5 (ix3 0 ⟨16 * p.val + a.val, by omega⟩ (colF k c l)) := by
  unfold gAt
  rw [View.readAt_eq_ld]
  have hc := colAt_eq k c
  refine (cast_band _ a l).trans ?_
  refine View.ld_unit_apply_of _ _ _ _ _ _ fun x => ?_
  fin_cases x
  · rfl
  · rfl
  · show 256 * k.val + 128 * c.val + l.val = colAt k _ + l.val
    omega

/-- The squares of a column of the gradient, summed. -/
theorem gsq_apply (c : Fin 2) (l : Fin 128) :
    gsq (F := Ideal) i arg5 h3 k X5 c (ix2 0 l) = gcol (arg5.view.read (Elt Ideal) X5) (256 * k.val + 128 * c.val + l.val) := by
  have hk := trips_lt k
  unfold gcol
  rw [dif_pos (show 256 * k.val + 128 * c.val + l.val < 1024 by omega)]
  unfold gsq
  refine (sum_rows _ l).trans ((sum_chain64 _ l).trans ?_)
  refine Finset.sum_congr rfl fun q _ => ?_
  have e := gAt_apply i arg5 h3 k X5 c ⟨q.val / 16, by omega⟩ ⟨q.val % 16, Nat.mod_lt _ (by norm_num)⟩ l
  have hq : (⟨16 * (q.val / 16) + q.val % 16, by omega⟩ : Fin 1024) = q := Fin.ext (Nat.div_add_mod q.val 16)
  rw [hq] at e
  exact congrArg₂ (· * ·) e e

/-- The two halves side by side, read back from either half. -/
theorem cat_left (x y : FVec Ideal S1x128 .f32) (l : Fin 128) :
    extractStridedSlice S1x128 ![0, 0] (concatenate S1x256 1 [⟨S1x128, x⟩, ⟨S1x128, y⟩] concatenates_S1x128_S1x128_S1x256_d1) slices_S1x256_o0_0_S1x128 (ix2 0 l) = x (ix2 0 l) := by
  pointwise

/-- The right half of two rows side by side. -/
theorem cat_right (x y : FVec Ideal S1x128 .f32) (l : Fin 128) :
    extractStridedSlice S1x128 ![0, 128] (concatenate S1x256 1 [⟨S1x128, x⟩, ⟨S1x128, y⟩] concatenates_S1x128_S1x128_S1x256_d1) slices_S1x256_o0_128_S1x128 (ix2 0 l) = y (ix2 0 l) := by
  pointwise

/-- A cast to the same shape changes nothing. -/
theorem cast_same (x : FVec Ideal S1x128 .f32) (l : Fin 128) : shapeCast S1x128 x shapeCasts_S1x128_S1x128 (ix2 0 l) = x (ix2 0 l) := by
  pointwise

/-- What the left half adds to the norm, before it is squared. -/
theorem sg0_apply (l : Fin 128) :
    sg0 (F := Ideal) i arg5 arg6 arg7 arg9 arg20 arg23 arg24 (base i) h3 v13 k X5 X6 X7 X9 X23 X24 (ix2 0 l) = (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + l.val) := by
  unfold sg0
  have e1 := sAt_apply i arg5 arg6 arg7 arg9 arg20 arg23 arg24 h3 v13 k X5 X6 X7 X9 X23 X24 0 l
  have e2 : extractStridedSlice S1x128 ![0, 0] (gsqs (F := Ideal) i arg5 h3 k X5) slices_S1x256_o0_0_S1x128 (ix2 0 l) = gcol (arg5.view.read (Elt Ideal) X5) (256 * k.val + 128 * 0 + l.val) :=
    (cat_left _ _ l).trans (gsq_apply i arg5 h3 k X5 0 l)
  refine (congrArg₂ (· * ·) e1 (congrArg Ideal.sqrt e2)).trans ?_
  simp only [Nat.mul_zero, Nat.add_zero, Fin.val_zero]

/-- The norm's lanes with the right half added. -/
theorem pay651_apply (x : FVec Ideal S1x256 .f32) (y z : FVec Ideal S1x128 .f32) (l : Fin 128) :
    k0_pay651 (F := Ideal) x y z (ix2 0 l) = z (ix2 0 l) + (y (ix2 0 l) * Ideal.sqrt (extractStridedSlice S1x128 ![0, 128] x slices_S1x256_o0_128_S1x128 (ix2 0 l))) * (y (ix2 0 l) * Ideal.sqrt (extractStridedSlice S1x128 ![0, 128] x slices_S1x256_o0_128_S1x128 (ix2 0 l))) := by
  unfold k0_pay651
  exact cast_same _ l

/-- The remainder by eight, as the program computes it. -/
theorem rem_fin : ∀ b : Fin 25, (Scalar.select (Scalar.andi (Scalar.xori (Scalar.cmpi .slt (Scalar.remsi (BitVec.ofNat 32 b.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 b.val) (Scalar.select (Scalar.cmpi .eq 8#32 0#32) 1#32 8#32)) 0#32)) (Scalar.addi (Scalar.remsi (BitVec.ofNat 32 b.val) (Scalar.select (Scalar.cmpi .eq 8#32 0#32) 1#32 8#32)) (Scalar.select (Scalar.cmpi .eq 8#32 0#32) 1#32 8#32)) (Scalar.remsi (BitVec.ofNat 32 b.val) (Scalar.select (Scalar.cmpi .eq 8#32 0#32) 1#32 8#32)) : BitVec 32) = BitVec.ofNat 32 (b.val % 8) := by
  decide +kernel

/-- A row written over one row of a block, the other rows kept. -/
theorem blend_apply (w : BitVec 32) (x : FVec Ideal S1x128 .f32) (y : FVec Ideal S8x128 .f32) (a : Fin 8) (l : Fin 128) :
    select (cmpi .eq (iota .tc S8x128 32 [0] iota_S8x128_d0_w32) (broadcast S8x128 w))
      (broadcastTo S8x128 (shapeCast S1x128 x shapeCasts_S1x128_S1x128) broadcasts_S1x128_S8x128) (shapeCast S8x128 y shapeCasts_S8x128_S8x128) (ix2 a l)
      = if BitVec.ofNat 32 a.val = w then x (ix2 0 l) else y (ix2 a l) := by
  pointwise
  by_cases h : BitVec.ofNat 32 a.val = w
  · simp [h, Scalar.select, IntOp.cmpi]
  · have h' : (BitVec.ofNat 32 a.val == w) = false := beq_eq_false_iff_ne.mpr h
    rw [if_neg h]
    simp [h', Scalar.select, IntOp.cmpi]

/-- A row is the one a matrix writes when their words agree. -/
theorem row_fin : ∀ (a : Fin 8) (b : Fin 25), BitVec.ofNat 32 a.val = BitVec.ofNat 32 (b.val % 8) ↔ a.val = b.val % 8 := by
  decide +kernel

/-- The block of scales with the row of a matrix put in. -/
theorem pay607_apply (b : Fin 25) (v20 v25 : FVec Ideal S1x128 .f32) (x y z : FVec Ideal S8x128 .f32) (a : Fin 8) (l : Fin 128) :
    k0_pay607 (F := Ideal) (BitVec.ofNat 32 b.val) v20 v25 (iota .tc S8x128 32 [0] iota_S8x128_d0_w32) x y z (ix2 a l)
      = if a.val = b.val % 8 then k0_pay605 v20 v25 x y (ix2 0 l) else z (ix2 a l) := by
  unfold k0_pay607
  refine (blend_apply _ _ _ a l).trans ?_
  refine if_congr ?_ rfl rfl
  rw [← row_fin a b, ← rem_fin b]

variable (b : Fin 25)
  (Z12 : BufTy.Contents (Elt Ideal) arg12.view.ty) (Z18 : BufTy.Contents (Elt Ideal) arg18.view.ty) (Z19 : BufTy.Contents (Elt Ideal) arg19.view.ty) (Z27 : BufTy.Contents (Elt Ideal) arg27.view.ty)

/-- A store of a half into the block of scales, at a place it covers. -/
theorem piece12_apply (c : Fin 2) (a : Fin 8) (l : Fin 128) (d : Fin 6144) (hd : d.val = 1024 * chunkOf i + 256 * k.val + 128 * c.val + l.val) :
    (piece12 (F := Ideal) i arg5 arg6 arg7 arg9 arg20 arg23 arg24 (base i) h3 v13 k X5 X6 X7 X9 X23 X24 arg12 (BitVec.ofNat 32 b.val) (iota .tc S8x128 32 [0] iota_S8x128_d0_w32) Y12 c).2 (ix2 a l)
      = if a.val = b.val % 8 then (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (d.val - 1024 * chunkOf i) else arg12.view.read (Elt Ideal) Y12 (ix2 a d) := by
  unfold piece12
  refine (pay607_apply b _ _ _ _ _ a l).trans ?_
  refine if_congr Iff.rfl ?_ ?_
  · refine (sAt_apply i arg5 arg6 arg7 arg9 arg20 arg23 arg24 h3 v13 k X5 X6 X7 X9 X23 X24 c l).trans ?_
    rw [hd]
    refine congrArg _ ?_
    omega
  · rw [View.readAt_eq_ld]
    refine View.ld_unit_apply_of _ _ _ _ _ _ fun x => ?_
    have o0 := congrFun (off169_eq i k c) 0
    have o1 := congrFun (off169_eq i k c) 1
    fin_cases x
    · show a.val = k0_off169 i k (BitVec.ofNat 32 c.val) 0 + a.val
      rw [o0]
      exact (Nat.zero_add _).symm
    · show d.val = k0_off169 i k (BitVec.ofNat 32 c.val) 1 + l.val
      rw [o1]
      exact hd

/-- What a trip leaves in the block of scales. -/
theorem trip12 (hT : Trip (F := Ideal) i arg5 arg6 arg7 arg9 arg20 arg23 arg24 (base i) h3 v13 k X5 X6 X7 X9 X23 X24 arg12 arg18 arg19 arg27 (BitVec.ofNat 32 b.val) (iota .tc S8x128 32 [0] iota_S8x128_d0_w32) Y12 Y18 Y19 Y27 Z12 Z18 Z19 Z27) (a : Fin 8) (d : Fin 6144) :
    arg12.view.read (Elt Ideal) Z12 (ix2 a d)
      = if a.val = b.val % 8 ∧ 1024 * chunkOf i + 256 * k.val ≤ d.val ∧ d.val < 1024 * chunkOf i + 256 * k.val + 256
        then (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (d.val - 1024 * chunkOf i) else arg12.view.read (Elt Ideal) Y12 (ix2 a d) := by
  rw [hT.1]
  have key : ∀ c : Fin 2, 1024 * chunkOf i + 256 * k.val + 128 * c.val ≤ d.val → d.val < 1024 * chunkOf i + 256 * k.val + 128 * c.val + 128 → ∀ L,
      arg12.view.read (Elt Ideal) (arg12.view.writes (Elt Ideal) Y12 (piece12 (F := Ideal) i arg5 arg6 arg7 arg9 arg20 arg23 arg24 (base i) h3 v13 k X5 X6 X7 X9 X23 X24 arg12 (BitVec.ofNat 32 b.val) (iota .tc S8x128 32 [0] iota_S8x128_d0_w32) Y12 c :: L)) (ix2 a d)
        = if a.val = b.val % 8 then (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (d.val - 1024 * chunkOf i) else arg12.view.read (Elt Ideal) Y12 (ix2 a d) := by
    intro c h1 h2 L
    have hl : d.val - (1024 * chunkOf i + 256 * k.val + 128 * c.val) < 128 := by omega
    refine Eq.trans ?_ (piece12_apply i arg5 arg6 arg7 arg9 arg20 arg23 arg24 h3 v13 k X5 X6 X7 X9 X23 X24 arg12 Y12 b c a ⟨_, hl⟩ d (by show d.val = _ + (d.val - _); omega))
    refine View.read_writes_cons_unit_of_mem arg12.view Y12 _ _ L (ix2 a d) (ix2 a ⟨_, hl⟩) (off169_eq i k c) fun x => ?_
    fin_cases x
    · show a.val = 0 + a.val
      omega
    · show d.val = (1024 * chunkOf i + 256 * k.val + 128 * c.val) + (d.val - (1024 * chunkOf i + 256 * k.val + 128 * c.val))
      omega
  have miss : ∀ c : Fin 2, (d.val < 1024 * chunkOf i + 256 * k.val + 128 * c.val ∨ 1024 * chunkOf i + 256 * k.val + 128 * c.val + 128 ≤ d.val) → ∀ L,
      arg12.view.read (Elt Ideal) (arg12.view.writes (Elt Ideal) Y12 (piece12 (F := Ideal) i arg5 arg6 arg7 arg9 arg20 arg23 arg24 (base i) h3 v13 k X5 X6 X7 X9 X23 X24 arg12 (BitVec.ofNat 32 b.val) (iota .tc S8x128 32 [0] iota_S8x128_d0_w32) Y12 c :: L)) (ix2 a d)
        = arg12.view.read (Elt Ideal) (arg12.view.writes (Elt Ideal) Y12 L) (ix2 a d) := by
    intro c h L
    exact View.read_writes_cons_unit_of_not_mem arg12.view Y12 _ _ L (ix2 a d) (off169_eq i k c) 1 h
  by_cases h1 : 1024 * chunkOf i + 256 * k.val + 128 ≤ d.val ∧ d.val < 1024 * chunkOf i + 256 * k.val + 256
  · rw [key 1 (by show _ + 128 * 1 ≤ _; omega) (by show _ < _ + 128 * 1 + 128; omega)]
    exact if_congr (by omega) rfl rfl
  · rw [miss 1 (by show _ < _ + 128 * 1 ∨ _ + 128 * 1 + 128 ≤ _; omega)]
    by_cases h0 : 1024 * chunkOf i + 256 * k.val ≤ d.val ∧ d.val < 1024 * chunkOf i + 256 * k.val + 128
    · rw [key 0 (by show _ + 128 * 0 ≤ _; omega) (by show _ < _ + 128 * 0 + 128; omega)]
      exact if_congr (by omega) rfl rfl
    · rw [miss 0 (by show _ < _ + 128 * 0 ∨ _ + 128 * 0 + 128 ≤ _; omega)]
      rw [if_neg (by omega)]
      rfl

/-- What a trip leaves in the scratch rows of scales. -/
theorem trip19 (hT : Trip (F := Ideal) i arg5 arg6 arg7 arg9 arg20 arg23 arg24 (base i) h3 v13 k X5 X6 X7 X9 X23 X24 arg12 arg18 arg19 arg27 (BitVec.ofNat 32 b.val) (iota .tc S8x128 32 [0] iota_S8x128_d0_w32) Y12 Y18 Y19 Y27 Z12 Z18 Z19 Z27) (r : Fin 48) (l : Fin 128) :
    arg19.view.read (Elt Ideal) Z19 (ix2 r l)
      = if 8 * chunkOf i + 2 * k.val ≤ r.val ∧ r.val < 8 * chunkOf i + 2 * k.val + 2
        then (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (128 * (r.val - 8 * chunkOf i) + l.val) else arg19.view.read (Elt Ideal) Y19 (ix2 r l) := by
  rw [hT.2.2.1]
  have key : ∀ c : Fin 2, r.val = 8 * chunkOf i + 2 * k.val + c.val → ∀ L,
      arg19.view.read (Elt Ideal) (arg19.view.writes (Elt Ideal) Y19 (piece19 (F := Ideal) i arg5 arg6 arg7 arg9 arg20 arg23 arg24 (base i) h3 v13 k X5 X6 X7 X9 X23 X24 c :: L)) (ix2 r l)
        = (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) (128 * (r.val - 8 * chunkOf i) + l.val) := by
    intro c h L
    refine (View.read_writes_cons_unit_of_mem arg19.view Y19 _ _ L (ix2 r l) (ix2 0 l) (off168_eq i k c) fun x => ?_).trans ?_
    · fin_cases x
      · exact h
      · show l.val = 0 + l.val
        omega
    · refine (cast_same _ l).trans ((sAt_apply i arg5 arg6 arg7 arg9 arg20 arg23 arg24 h3 v13 k X5 X6 X7 X9 X23 X24 c l).trans ?_)
      refine congrArg _ ?_
      omega
  have miss : ∀ c : Fin 2, r.val ≠ 8 * chunkOf i + 2 * k.val + c.val → ∀ L,
      arg19.view.read (Elt Ideal) (arg19.view.writes (Elt Ideal) Y19 (piece19 (F := Ideal) i arg5 arg6 arg7 arg9 arg20 arg23 arg24 (base i) h3 v13 k X5 X6 X7 X9 X23 X24 c :: L)) (ix2 r l)
        = arg19.view.read (Elt Ideal) (arg19.view.writes (Elt Ideal) Y19 L) (ix2 r l) := by
    intro c h L
    exact View.read_writes_cons_unit_of_not_mem arg19.view Y19 _ _ L (ix2 r l) (off168_eq i k c) 0 (by show r.val < 8 * chunkOf i + 2 * k.val + c.val ∨ 8 * chunkOf i + 2 * k.val + c.val + 1 ≤ r.val; omega)
  by_cases h1 : r.val = 8 * chunkOf i + 2 * k.val + 1
  · rw [key 1 h1, if_pos (by omega)]
  · rw [miss 1 h1]
    by_cases h0 : r.val = 8 * chunkOf i + 2 * k.val
    · rw [key 0 h0, if_pos (by omega)]
    · rw [miss 0 h0, if_neg (by omega)]
      rfl

/-- The norm's lanes with the left half added. -/
theorem acc_apply (y z : FVec Ideal S1x128 .f32) (l : Fin 128) :
    shapeCast S1x128 (addf y (mulf z z)) shapeCasts_S1x128_S1x128 (ix2 0 l) = y (ix2 0 l) + z (ix2 0 l) * z (ix2 0 l) :=
  cast_same _ l

/-- A row just stored, read back. -/
theorem cov_apply (arg27 : Memref sig .tc .vmem S1x128 .f32) (w : FVec Ideal S1x128 .f32) (l : Fin 128) :
    arg27.view.readCov (Val := Elt Ideal) [⟨Rect.unit (s := S1x128) ![0, 0] S1x128.size inb_S1x128_S1x128_0_0, w⟩] (Rect.unit (s := S1x128) ![0, 0] S1x128.size inb_S1x128_S1x128_0_0).toLoadRect (ix2 0 l) = w (ix2 0 l) := by
  have e := View.readCov_fill (Val := Elt Ideal) (e := .f32) arg27.view (off := ![0, 0]) inb_S1x128_S1x128_0_0 w [] (Rect.unit (s := S1x128) ![0, 0] S1x128.size inb_S1x128_S1x128_0_0) (fun x => by fin_cases x <;> rfl)
  refine (congrFun e (ix2 0 l)).trans ?_
  refine View.ld_unit_apply_of _ _ _ _ _ _ fun x => ?_
  fin_cases x
  · rfl
  · show l.val = 0 + l.val
    omega

/-- What a trip leaves in the norm's lanes. -/
theorem trip27 (hT : Trip (F := Ideal) i arg5 arg6 arg7 arg9 arg20 arg23 arg24 (base i) h3 v13 k X5 X6 X7 X9 X23 X24 arg12 arg18 arg19 arg27 (BitVec.ofNat 32 b.val) (iota .tc S8x128 32 [0] iota_S8x128_d0_w32) Y12 Y18 Y19 Y27 Z12 Z18 Z19 Z27) (l : Fin 128) :
    arg27.view.read (Elt Ideal) Z27 (ix2 0 l)
      = arg27.view.read (Elt Ideal) Y27 (ix2 0 l) + (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + l.val) * (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + l.val)
        + (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + 128 + l.val) * (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + 128 + l.val) := by
  rw [hT.2.2.2]
  have first : ∀ l, (first27 (F := Ideal) i arg5 arg6 arg7 arg9 arg20 arg23 arg24 (base i) h3 v13 k X5 X6 X7 X9 X23 X24 arg27 Y27).2 (ix2 0 l)
      = arg27.view.read (Elt Ideal) Y27 (ix2 0 l) + (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + l.val) * (fun e : ℕ => (scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i)) e * Ideal.sqrt (gcol (arg5.view.read (Elt Ideal) X5) e)) (256 * k.val + l.val) := by
    intro l
    unfold first27
    have e := sg0_apply i arg5 arg6 arg7 arg9 arg20 arg23 arg24 h3 v13 k X5 X6 X7 X9 X23 X24 l
    refine (acc_apply (View.readAt (Elt Ideal) arg27.view (Rect.unit (s := S1x128) ![0, 0] S1x128.size inb_S1x128_S1x128_0_0).toLoadRect Y27) (sg0 (F := Ideal) i arg5 arg6 arg7 arg9 arg20 arg23 arg24 (base i) h3 v13 k X5 X6 X7 X9 X23 X24) l).trans ?_
    refine congrArg₂ (· + ·) ?_ (congrArg₂ (· * ·) e e)
    rw [View.readAt_eq_ld]
    refine View.ld_unit_apply_of _ _ _ _ _ _ fun x => ?_
    fin_cases x
    · rfl
    · show l.val = 0 + l.val
      omega
  refine (View.read_writes_cons_unit_of_mem arg27.view Y27 _ _ _ (ix2 0 l) (ix2 0 l) rfl fun x => ?_).trans ?_
  · fin_cases x
    · rfl
    · show l.val = 0 + l.val
      omega
  · refine (pay651_apply _ _ _ l).trans ?_
    have e1 := sAt_apply i arg5 arg6 arg7 arg9 arg20 arg23 arg24 h3 v13 k X5 X6 X7 X9 X23 X24 1 l
    have e2 : extractStridedSlice S1x128 ![0, 128] (gsqs (F := Ideal) i arg5 h3 k X5) slices_S1x256_o0_128_S1x128 (ix2 0 l) = gcol (arg5.view.read (Elt Ideal) X5) (256 * k.val + 128 * 1 + l.val) :=
      (cat_right _ _ l).trans (gsq_apply i arg5 h3 k X5 1 l)
    have e3 := congrArg₂ (· * ·) e1 (congrArg Ideal.sqrt e2)
    refine congrArg₂ (· + ·) ?_ (congrArg₂ (· * ·) e3 e3)
    refine Eq.trans ?_ (first l)
    exact cov_apply arg27 _ l

/-- One store of a band of the gradient, at a place of it. -/
theorem copy_apply (c : Fin 2) (p : Fin 64) (a : Fin 16) (l : Fin 128) :
    shapeCast S1x16x128 (gAt (F := Ideal) i arg5 h3 k X5 c p) shapeCasts_S16x128_S1x16x128 (ix3 0 a l)
      = arg5.view.read (Elt Ideal) X5 (ix3 0 ⟨16 * p.val + a.val, by omega⟩ (colF k c l)) := by
  refine Eq.trans ?_ (gAt_apply i arg5 h3 k X5 c p a l)
  generalize gAt (F := Ideal) i arg5 h3 k X5 c p = z
  pointwise

/-- What the first `n` stores leave in the scratch copy of the gradient. -/
theorem copies_apply (n : ℕ) (hn : n ≤ 128) (p : Fin 6) (q e : Fin 1024) :
    arg18.view.read (Elt Ideal) (arg18.view.writes (Elt Ideal) Y18 (copies (F := Ideal) i arg5 h3 k X5 n)) (ix3 p q e)
      = if p.val = chunkOf i ∧ 256 * k.val ≤ e.val ∧ e.val < 256 * k.val + 256 ∧ 64 * ((e.val - 256 * k.val) / 128) + q.val / 16 < n
        then arg5.view.read (Elt Ideal) X5 (ix3 0 q e) else arg18.view.read (Elt Ideal) Y18 (ix3 p q e) := by
  induction n with
  | zero =>
    rw [if_neg (by omega)]
    rfl
  | succ n ih =>
    have hm : n / 64 % 2 = n / 64 := Nat.mod_eq_of_lt (by omega)
    have o0 := off20_zero i k ⟨n / 64 % 2, Nat.mod_lt _ (by norm_num)⟩
    have o2 := off20_two i k ⟨n / 64 % 2, Nat.mod_lt _ (by norm_num)⟩
    have heq : (![k0_off20 i k (BitVec.ofNat 32 (128 * (n / 64 % 2))) 0, 16 * (n % 64), k0_off20 i k (BitVec.ofNat 32 (128 * (n / 64 % 2))) 2] : Fin 3 → ℕ)
        = ![chunkOf i, 16 * (n % 64), 256 * k.val + 128 * (n / 64)] := by
      have h0 : k0_off20 i k (BitVec.ofNat 32 (128 * (n / 64 % 2))) 0 = chunkOf i := o0
      have h2 : k0_off20 i k (BitVec.ofNat 32 (128 * (n / 64 % 2))) 2 = 256 * k.val + 128 * (n / 64 % 2) := o2
      rw [h0, h2, hm]
    by_cases h : p.val = chunkOf i ∧ 16 * (n % 64) ≤ q.val ∧ q.val < 16 * (n % 64) + 16 ∧ 256 * k.val + 128 * (n / 64) ≤ e.val ∧ e.val < 256 * k.val + 128 * (n / 64) + 128
    · have hq : q.val - 16 * (n % 64) < 16 := by omega
      have he : e.val - (256 * k.val + 128 * (n / 64)) < 128 := by omega
      rw [if_pos (by omega)]
      refine (View.read_writes_cons_unit_of_mem arg18.view Y18 _ _ (copies (F := Ideal) i arg5 h3 k X5 n) (ix3 p q e) (ix3 0 ⟨_, hq⟩ ⟨_, he⟩) heq fun x => ?_).trans ?_
      · fin_cases x
        · show p.val = chunkOf i + 0
          omega
        · show q.val = 16 * (n % 64) + (q.val - 16 * (n % 64))
          omega
        · show e.val = 256 * k.val + 128 * (n / 64) + (e.val - (256 * k.val + 128 * (n / 64)))
          omega
      · refine (copy_apply i arg5 h3 k X5 _ _ _ _).trans ?_
        refine congrArg _ (congrArg₂ (ix3 0) (Fin.ext ?_) (Fin.ext ?_))
        · show 16 * (n % 64) + (q.val - 16 * (n % 64)) = q.val
          omega
        · show 256 * k.val + 128 * (n / 64 % 2) + (e.val - (256 * k.val + 128 * (n / 64))) = e.val
          omega
    · have hmiss : arg18.view.read (Elt Ideal) (arg18.view.writes (Elt Ideal) Y18 (copies (F := Ideal) i arg5 h3 k X5 (n + 1))) (ix3 p q e)
          = arg18.view.read (Elt Ideal) (arg18.view.writes (Elt Ideal) Y18 (copies (F := Ideal) i arg5 h3 k X5 n)) (ix3 p q e) := by
        by_cases hp : p.val = chunkOf i
        · by_cases hq : 16 * (n % 64) ≤ q.val ∧ q.val < 16 * (n % 64) + 16
          · refine View.read_writes_cons_unit_of_not_mem arg18.view Y18 _ _ (copies (F := Ideal) i arg5 h3 k X5 n) (ix3 p q e) heq 2 ?_
            show e.val < 256 * k.val + 128 * (n / 64) ∨ 256 * k.val + 128 * (n / 64) + 128 ≤ e.val
            omega
          · refine View.read_writes_cons_unit_of_not_mem arg18.view Y18 _ _ (copies (F := Ideal) i arg5 h3 k X5 n) (ix3 p q e) heq 1 ?_
            show q.val < 16 * (n % 64) ∨ 16 * (n % 64) + 16 ≤ q.val
            omega
        · refine View.read_writes_cons_unit_of_not_mem arg18.view Y18 _ _ (copies (F := Ideal) i arg5 h3 k X5 n) (ix3 p q e) heq 0 ?_
          show p.val < chunkOf i ∨ chunkOf i + 1 ≤ p.val
          omega
      rw [hmiss, ih (by omega)]
      refine if_congr ?_ rfl rfl
      constructor
      · rintro ⟨h1, h2, h3, h4⟩
        exact ⟨h1, h2, h3, by omega⟩
      · rintro ⟨h1, h2, h3, h4⟩
        refine ⟨h1, h2, h3, ?_⟩
        by_contra h5
        apply h
        have hlt := q.isLt
        refine ⟨h1, ?_, ?_, ?_, ?_⟩ <;> omega

/-- What a trip leaves in the scratch copy of the gradient. -/
theorem trip18 (hT : Trip (F := Ideal) i arg5 arg6 arg7 arg9 arg20 arg23 arg24 (base i) h3 v13 k X5 X6 X7 X9 X23 X24 arg12 arg18 arg19 arg27 (BitVec.ofNat 32 b.val) (iota .tc S8x128 32 [0] iota_S8x128_d0_w32) Y12 Y18 Y19 Y27 Z12 Z18 Z19 Z27) (p : Fin 6) (q e : Fin 1024) :
    arg18.view.read (Elt Ideal) Z18 (ix3 p q e)
      = if p.val = chunkOf i ∧ 256 * k.val ≤ e.val ∧ e.val < 256 * k.val + 256
        then arg5.view.read (Elt Ideal) X5 (ix3 0 q e) else arg18.view.read (Elt Ideal) Y18 (ix3 p q e) := by
  rw [hT.2.1, copies_apply i arg5 h3 k X5 arg18 Y18 128 le_rfl p q e]
  refine if_congr ?_ rfl rfl
  omega

end

end Cert.KernelIdeal.Track
-- ==== Proof.KernelIdealPeaksValue.lean ====
module

public import proofs.«01_k».proof.Proof.KernelIdealPeaks
public import proofs.«01_k».proof.Proof.KernelIdealTripValue

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic

/-- The greatest of 128 values. -/
def topOf (f : Fin 128 → EReal) : EReal :=
  (Finset.univ : Finset (Fin 128)).fold max (Ideal.ofBits FTy.f32 0xFF800000#32) f

/-- The greatest absolute value of the new first moments in row `q` of block `d` of the chunk `J`. -/
def mtop (x5 : S1x1024x1024.Idx → EReal) (x6 : S1x320x1024.Idx → EReal) (x7 : S1x320x1024.Idx → EReal) (x23 : S320x128.Idx → EReal) (J d : ℕ) (q : Fin 320) : EReal :=
  if h : d < 8 ∧ J < 6 then
    topOf fun l => FloatOps.absf (F := Ideal) (φ := FTy.f32) (mS (x7 (ix3 0 q ⟨128 * d + l.val, by omega⟩)) (x23 (ix2 q ⟨8 * J + d, by omega⟩)) (rS x6 x5 q ⟨128 * d + l.val, by omega⟩))
  else 0

/-- The lanes of the maxima after `n` trips of the chunk `J`: two lanes a trip are set, the others are as before. -/
def Tops (f : ℕ → Fin 320 → EReal) (J n : ℕ) (y z : S320x128.Idx → EReal) : Prop :=
  ∀ (q : Fin 320) (a : Fin 128), z (ix2 q a) = if 8 * J ≤ a.val ∧ a.val < 8 * J + 2 * n then f (a.val - 8 * J) q else y (ix2 q a)

/-- Before the first trip nothing is set. -/
theorem tops_zero (f : ℕ → Fin 320 → EReal) (J : ℕ) (y : S320x128.Idx → EReal) : Tops f J 0 y y := by
  intro q a
  rw [if_neg (by omega)]

/-- A lane of a band of maxima is replaced, the others are kept. -/
theorem peak_apply (hit : IVec S32x128 1) (x : FVec Ideal S32x128 .f32) (old : Vec Ideal S32x128 .f32) (a : Fin 32) (l : Fin 128) :
    peak (F := Ideal) hit x old (ix2 a l) = if hit (ix2 a l) = 1#1 then topOf (fun l => x (ix2 a l)) else old (ix2 a l) := by
  pointwise [peak]
  rfl

section
variable (M : Memref sig .tc .vmem S320x128 .f32) (Y : BufTy.Contents (Elt Ideal) M.view.ty) (hit : Fin 2 → IVec S32x128 1) (x : Fin 2 → Fin 10 → FVec Ideal S32x128 .f32)
  (w : Fin 2 → ℕ) (hh : ∀ c (a : Fin 32) (l : Fin 128), hit c (ix2 a l) = 1#1 ↔ l.val = w c)

/-- The maximum of row `q` of half `c`. -/
def rowTop (x : Fin 2 → Fin 10 → FVec Ideal S32x128 .f32) (c : Fin 2) (q : Fin 320) : EReal :=
  topOf fun l => x c ⟨q.val / 32, by omega⟩ (ix2 ⟨q.val % 32, Nat.mod_lt _ (by norm_num)⟩ l)

/-- A band of a buffer, entry by entry. -/
theorem topsBand_apply (Z : BufTy.Contents (Elt Ideal) M.view.ty) (n : ℕ) (a : Fin 32) (l : Fin 128) :
    View.readAt (Elt Ideal) M.view (Rect.unit (s := S320x128) ![32 * (n % 10), 0] S32x128.size (scale_inb ⟨n % 10, Nat.mod_lt _ (by norm_num)⟩)).toLoadRect Z (ix2 a l)
      = M.view.read (Elt Ideal) Z (ix2 ⟨32 * (n % 10) + a.val, by omega⟩ l) :=
  msAt_apply M Z ⟨n % 10, Nat.mod_lt _ (by norm_num)⟩ a l

include hh in
/-- What the first half's stores leave. -/
theorem lows_apply (f : BufTy.Contents (Elt Ideal) M.view.ty) (n : ℕ) (hn : n ≤ 10) (q : Fin 320) (l : Fin 128) :
    M.view.read (Elt Ideal) (M.view.writes (Elt Ideal) f (lows (F := Ideal) M Y hit x n)) (ix2 q l)
      = if q.val < 32 * n then (if l.val = w 0 then rowTop x 0 q else M.view.read (Elt Ideal) Y (ix2 q l)) else M.view.read (Elt Ideal) f (ix2 q l) := by
  induction n with
  | zero =>
    rw [if_neg (by omega)]
    rfl
  | succ n ih =>
    have hm : n % 10 = n := Nat.mod_eq_of_lt (by omega)
    by_cases h : 32 * n ≤ q.val ∧ q.val < 32 * n + 32
    · have hq : q.val - 32 * n < 32 := by omega
      rw [if_pos (by omega)]
      refine (View.read_writes_cons_unit_of_mem M.view f _ _ (lows (F := Ideal) M Y hit x n) (ix2 q l) (ix2 ⟨_, hq⟩ l) rfl fun a => ?_).trans ?_
      · fin_cases a
        · show q.val = 32 * (n % 10) + (q.val - 32 * n)
          omega
        · exact (Nat.zero_add l.val).symm
      · rw [peak_apply, topsBand_apply]
        have e1 : (⟨32 * (n % 10) + (q.val - 32 * n), by omega⟩ : Fin 320) = q := Fin.ext (by show 32 * (n % 10) + (q.val - 32 * n) = q.val; omega)
        have e2 : (⟨q.val / 32, by omega⟩ : Fin 10) = ⟨n % 10, Nat.mod_lt _ (by norm_num)⟩ := Fin.ext (by show q.val / 32 = n % 10; omega)
        have e3 : (⟨q.val % 32, Nat.mod_lt _ (by norm_num)⟩ : Fin 32) = ⟨q.val - 32 * n, hq⟩ := Fin.ext (by show q.val % 32 = q.val - 32 * n; omega)
        refine if_congr (hh 0 _ l) ?_ ?_
        · unfold rowTop
          rw [e2, e3]
        · exact congrArg (fun y => M.view.read (Elt Ideal) Y (ix2 y l)) e1
    · refine (View.read_writes_cons_unit_of_not_mem M.view f _ _ (lows (F := Ideal) M Y hit x n) (ix2 q l) rfl 0 ?_).trans ?_
      · show q.val < 32 * (n % 10) ∨ 32 * (n % 10) + 32 ≤ q.val
        omega
      · rw [ih (by omega)]
        exact if_congr (by omega) rfl rfl

include hh in
/-- What both halves' stores leave. -/
theorem highs_apply (f : BufTy.Contents (Elt Ideal) M.view.ty) (n : ℕ) (hn : n ≤ 10) (q : Fin 320) (l : Fin 128) :
    M.view.read (Elt Ideal) (M.view.writes (Elt Ideal) f (highs (F := Ideal) M Y hit x n)) (ix2 q l)
      = if q.val < 32 * n ∧ l.val = w 1 then rowTop x 1 q else if l.val = w 0 then rowTop x 0 q else M.view.read (Elt Ideal) Y (ix2 q l) := by
  induction n generalizing f q l with
  | zero =>
    rw [if_neg (by omega)]
    refine (lows_apply M Y hit x w hh f 10 le_rfl q l).trans ?_
    rw [if_pos q.isLt]
  | succ n ih =>
    have hm : n % 10 = n := Nat.mod_eq_of_lt (by omega)
    by_cases h : 32 * n ≤ q.val ∧ q.val < 32 * n + 32
    · have hq : q.val - 32 * n < 32 := by omega
      refine (View.read_writes_cons_unit_of_mem M.view f _ _ (highs (F := Ideal) M Y hit x n) (ix2 q l) (ix2 ⟨_, hq⟩ l) rfl fun a => ?_).trans ?_
      · fin_cases a
        · show q.val = 32 * (n % 10) + (q.val - 32 * n)
          omega
        · exact (Nat.zero_add l.val).symm
      · rw [peak_apply]
        unfold View.readCov
        rw [topsBand_apply]
        have e1 : (⟨32 * (n % 10) + (q.val - 32 * n), by omega⟩ : Fin 320) = q := Fin.ext (by show 32 * (n % 10) + (q.val - 32 * n) = q.val; omega)
        have e2 : (⟨q.val / 32, by omega⟩ : Fin 10) = ⟨n % 10, Nat.mod_lt _ (by norm_num)⟩ := Fin.ext (by show q.val / 32 = n % 10; omega)
        have e3 : (⟨q.val % 32, Nat.mod_lt _ (by norm_num)⟩ : Fin 32) = ⟨q.val - 32 * n, hq⟩ := Fin.ext (by show q.val % 32 = q.val - 32 * n; omega)
        refine if_congr ((hh 1 _ l).trans ⟨fun h => ⟨by omega, h⟩, fun h => h.2⟩) ?_ ?_
        · unfold rowTop
          rw [e2, e3]
        · refine (congrArg (fun y => M.view.read (Elt Ideal) (M.view.writes (Elt Ideal) M.view.junk (highs (F := Ideal) M Y hit x n)) (ix2 y l)) e1).trans ?_
          refine (ih _ (by omega) q l).trans ?_
          rw [if_neg (by omega)]
    · refine (View.read_writes_cons_unit_of_not_mem M.view f _ _ (highs (F := Ideal) M Y hit x n) (ix2 q l) rfl 0 ?_).trans ?_
      · show q.val < 32 * (n % 10) ∨ 32 * (n % 10) + 32 ≤ q.val
        omega
      · rw [ih _ (by omega)]
        exact if_congr (by omega) rfl rfl

end

/-- The lanes that a half of a trip hits. -/
theorem hit_apply (i : grid0.Coords) (k : Fin k0_t2_loop.trips) (c : Fin 2) (a : Fin 32) (l : Fin 128) :
    hitOf (iota .tc S32x128 32 [1] iota_S32x128_d1_w32) (laneOf (base i) k c) (ix2 a l) = 1#1 ↔ l.val = 8 * chunkOf i + 2 * k.val + c.val := by
  rw [← lane_eq]
  pointwise [hitOf]
  have hl := l.isLt
  have h : (BitVec.ofNat 32 l.val = laneOf (base i) k c) ↔ l.val = (laneOf (base i) k c).toNat := by
    rw [← BitVec.toNat_inj, BitVec.toNat_ofNat, Nat.mod_eq_of_lt (by omega)]
  rw [← h]
  show BitVec.ofBool (BitVec.ofNat 32 l.val == laneOf (base i) k c) = 1#1 ↔ _
  cases hb : (BitVec.ofNat 32 l.val == laneOf (base i) k c)
  · have := beq_eq_false_iff_ne.mp hb
    exact ⟨fun h => absurd h (by decide), fun h => absurd h this⟩
  · exact ⟨fun _ => eq_of_beq hb, fun _ => rfl⟩

section
variable (i : grid0.Coords)
  (arg5 : Memref sig .tc .vmem S1x1024x1024 .bf16) (arg6 : Memref sig .tc .vmem S1x320x1024 .bf16)
  (arg7 : Memref sig .tc .vmem S1x320x1024 .fp8e4m3) (arg9 : Memref sig .tc .vmem S1x320x1024 .fp8e4m3)
  (arg20 : Memref sig .tc .vmem S320x256 .f32) (arg23 : Memref sig .tc .vmem S320x128 .f32) (arg24 : Memref sig .tc .vmem S320x128 .f32)
  (h3 : k0_cond3 i = 1#1) (k : Fin k0_t2_loop.trips)
  (X5 : BufTy.Contents (Elt Ideal) arg5.view.ty) (X6 : BufTy.Contents (Elt Ideal) arg6.view.ty) (X7 : BufTy.Contents (Elt Ideal) arg7.view.ty) (X9 : BufTy.Contents (Elt Ideal) arg9.view.ty)
  (X23 : BufTy.Contents (Elt Ideal) arg23.view.ty) (X24 : BufTy.Contents (Elt Ideal) arg24.view.ty)
  (arg25 : Memref sig .tc .vmem S320x128 .f32) (arg26 : Memref sig .tc .vmem S320x128 .f32)
  (V25 Y25 Z25 : BufTy.Contents (Elt Ideal) arg25.view.ty) (Y26 Z26 : BufTy.Contents (Elt Ideal) arg26.view.ty)

/-- A band of new first moments, entry by entry. -/
theorem mOf_apply (w : BitVec 32) (hw : w.toNat < 128) (r : Vec Ideal S32x128 .f32) (mc : Vec Ideal S1x32x128 .fp8e4m3) (ms : Vec Ideal S32x128 .f32) (a : Fin 32) (l : Fin 128) :
    mOf w r mc ms (ix2 a l) = mS (mc (ix3 0 a l)) (ms (ix2 a ⟨w.toNat, hw⟩)) (r (ix2 a l)) := by
  have e : (⟨(laneIx w (ix2 a l)).toNat % 128, Nat.mod_lt _ (by norm_num)⟩ : Fin 128) = ⟨w.toNat, hw⟩ := Fin.ext (laneIx_apply w hw a l)
  pointwise [mOf, codes]
  rw [show (⟨(laneIx w (ix2 a l)).toNat % 128, _⟩ : Fin 128) = ⟨w.toNat, hw⟩ from e]
  rfl

/-- The maxima of a half of a trip. -/
theorem rowTop_eq (c : Fin 2) (q : Fin 320) :
    rowTop (fun c g => absf (mAt (F := Ideal) i arg5 arg6 arg7 arg20 arg23 (base i) h3 k X5 X6 X7 X23 c g)) c q
      = mtop (arg5.view.read (Elt Ideal) X5) (arg6.view.read (Elt Ideal) X6) (arg7.view.read (Elt Ideal) X7) (arg23.view.read (Elt Ideal) X23) (chunkOf i) (2 * k.val + c.val) q := by
  have hk := trips_lt k
  have hj := chunk_lt i
  have hl := lane_eq i k c
  have hw : (laneOf (base i) k c).toNat < 128 := by omega
  unfold mtop rowTop
  rw [dif_pos ⟨by omega, hj⟩]
  refine congrArg topOf (funext fun l => ?_)
  have e : mAt (F := Ideal) i arg5 arg6 arg7 arg20 arg23 (base i) h3 k X5 X6 X7 X23 c ⟨q.val / 32, by omega⟩ (ix2 ⟨q.val % 32, Nat.mod_lt _ (by norm_num)⟩ l)
      = mS (arg7.view.read (Elt Ideal) X7 (ix3 0 q (colF k c l))) (arg23.view.read (Elt Ideal) X23 (ix2 q ⟨(laneOf (base i) k c).toNat, hw⟩)) (rS (arg6.view.read (Elt Ideal) X6) (arg5.view.read (Elt Ideal) X5) q (colF k c l)) := by
    unfold mAt
    rw [mOf_apply _ hw, rAt_apply, mcAt_apply, msAt_apply]
    simp only [row_eq]
  refine (congrArg (FloatOps.absf (F := Ideal) (φ := FTy.f32)) e).trans ?_
  have e1 : (⟨128 * (2 * k.val + c.val) + l.val, by omega⟩ : Fin 1024) = colF k c l := Fin.ext (by show 128 * (2 * k.val + c.val) + l.val = 256 * k.val + 128 * c.val + l.val; omega)
  have e2 : (⟨8 * chunkOf i + (2 * k.val + c.val), by omega⟩ : Fin 128) = ⟨(laneOf (base i) k c).toNat, hw⟩ := Fin.ext (by show 8 * chunkOf i + (2 * k.val + c.val) = (laneOf (base i) k c).toNat; omega)
  rw [e1, e2]

/-- One trip more. -/
theorem tops_succ
    (hY : Tops (mtop (arg5.view.read (Elt Ideal) X5) (arg6.view.read (Elt Ideal) X6) (arg7.view.read (Elt Ideal) X7) (arg23.view.read (Elt Ideal) X23) (chunkOf i)) (chunkOf i) k.val (arg25.view.read (Elt Ideal) V25) (arg25.view.read (Elt Ideal) Y25))
    (hT : Peaks (F := Ideal) i arg5 arg6 arg7 arg9 arg20 arg23 arg24 (base i) h3 k X5 X6 X7 X9 X23 X24 arg25 arg26 (iota .tc S32x128 32 [1] iota_S32x128_d1_w32) Y25 Y26 Z25 Z26) :
    Tops (mtop (arg5.view.read (Elt Ideal) X5) (arg6.view.read (Elt Ideal) X6) (arg7.view.read (Elt Ideal) X7) (arg23.view.read (Elt Ideal) X23) (chunkOf i)) (chunkOf i) (k.val + 1) (arg25.view.read (Elt Ideal) V25) (arg25.view.read (Elt Ideal) Z25) := by
  intro q a
  rw [hT.1]
  refine (highs_apply arg25 Y25 _ _ (fun c => 8 * chunkOf i + 2 * k.val + c.val) (fun c a l => hit_apply i k c a l) Y25 10 le_rfl q a).trans ?_
  simp only [Fin.isValue, Fin.val_one, Fin.val_zero, Nat.add_zero]
  have hq := q.isLt
  by_cases h1 : a.val = 8 * chunkOf i + 2 * k.val + 1
  · rw [if_pos ⟨by omega, h1⟩, if_pos (by omega), rowTop_eq]
    exact congrArg (fun d => mtop _ _ _ _ _ d q) (by show 2 * k.val + 1 = _; omega)
  · rw [if_neg (fun h => h1 h.2)]
    by_cases h0 : a.val = 8 * chunkOf i + 2 * k.val
    · rw [if_pos h0, if_pos (by omega), rowTop_eq]
      exact congrArg (fun d => mtop _ _ _ _ _ d q) (by show 2 * k.val + 0 = _; omega)
    · rw [if_neg h0, hY q a]
      exact if_congr (by omega) rfl rfl

end

/-- One step of the search for the exponent of `x`. -/
def expoStep (x : EReal) (e : BitVec 32) (k : ℕ) : BitVec 32 :=
  if Ideal.ofBits FTy.f32 ((e + 128#32 >>> k) <<< 23) ≤ x * ((1 / 448 : ℝ) : EReal) then e + 128#32 >>> k else e

/-- The biased exponent of `x` over the largest code. -/
def expoS (x : EReal) : BitVec 32 := (List.range 8).foldl (expoStep x) 0#32

/-- The scale of a maximum `x`, as the kernel computes it. -/
def scaleS (x : EReal) : EReal :=
  if expoS x = 0#32 then 1 else Ideal.ofBits FTy.f32 ((expoS x + 1#32) <<< 23)

/-- One step of the search, entry by entry. -/
theorem step_apply (x : Vec Ideal S32x128 .f32) (k : Fin k0_t3_loop.trips) (e : IVec S32x128 32) (j : S32x128.Idx) :
    k0_pay653 (F := Ideal) x k e j = expoStep (x j) (e j) k.val := by
  unfold k0_pay653 expoStep
  have h : ∀ k : Fin k0_t3_loop.trips, Scalar.shrui 128#32 (Scf.iv 0#32 1#32 k) = 128#32 >>> k.val := by decide +kernel
  rw [h]
  generalize 128#32 >>> k.val = s
  by_cases hc : Ideal.ofBits FTy.f32 ((e j + s) <<< 23) ≤ x j * ((1 / 448 : ℝ) : EReal)
  · rw [if_pos hc]
    have h1 : cmpf .oge (mulf x (broadcast S32x128 (Named.named (F := Ideal) κ "inv_fp8_max" 0x3B124925#32))) (bitcastToFloat .f32 (shli (addi e (broadcast S32x128 s)) (broadcast S32x128 23#32))) j = 1#1 := by
      show BitVec.ofBool (decide (Ideal.ofBits FTy.f32 ((e j + s) <<< 23) ≤ x j * ((1 / 448 : ℝ) : EReal))) = 1#1
      rw [decide_eq_true hc]
      rfl
    exact if_pos h1
  · rw [if_neg hc]
    have h1 : ¬cmpf .oge (mulf x (broadcast S32x128 (Named.named (F := Ideal) κ "inv_fp8_max" 0x3B124925#32))) (bitcastToFloat .f32 (shli (addi e (broadcast S32x128 s)) (broadcast S32x128 23#32))) j = 1#1 := by
      show ¬BitVec.ofBool (decide (Ideal.ofBits FTy.f32 ((e j + s) <<< 23) ≤ x j * ((1 / 448 : ℝ) : EReal))) = 1#1
      rw [decide_eq_false hc]
      decide
    exact if_neg h1

/-- The exponents of a band, entry by entry. -/
theorem expo_apply (x : Vec Ideal S32x128 .f32) (j : S32x128.Idx) : expo (F := Ideal) x j = expoS (x j) := by
  unfold expo expoS
  rw [Scf.fold_eq]
  have h : ∀ (L : List (Fin k0_t3_loop.trips)) (e : IVec S32x128 32) (e' : BitVec 32), e j = e' →
      (L.foldl (fun acc k => k0_pay653 (F := Ideal) x k acc) e) j = (L.map Fin.val).foldl (expoStep (x j)) e' := by
    intro L
    induction L with
    | nil => intro e e' he; exact he
    | cons k L ih =>
      intro e e' he
      refine ih _ _ ?_
      exact (step_apply x k e j).trans (by rw [he])
  refine (h _ _ _ rfl).trans ?_
  rw [show (List.finRange k0_t3_loop.trips).map Fin.val = List.range 8 by decide +kernel]
  rfl

/-- The scales of a band, entry by entry. -/
theorem scaleOf_apply (x : Vec Ideal S32x128 .f32) (a : Fin 32) (l : Fin 48) :
    scaleOf (F := Ideal) x (ix3 0 a l) = scaleS (x (ix2 a ⟨l.val, by omega⟩)) := by
  unfold scaleOf scaleS
  rw [← expo_apply]
  generalize expo (F := Ideal) x = e
  pointwise [k0_pay662, k0_pay654, k0_pay655]
  generalize e (ix2 a ⟨l.val, _⟩) = b
  by_cases hb : b = 0#32
  · rw [if_pos hb, hb]
    rfl
  · rw [if_neg hb]
    have h1 : ¬IntOp.cmpi CmpIPredicate.eq b 0#32 = 1#1 := by
      show ¬BitVec.ofBool (b == 0#32) = 1#1
      rw [beq_eq_false_iff_ne.mpr hb]
      decide
    exact if_neg h1

/-- What the stores of the scales leave. -/
theorem scalePieces_apply (M : Memref sig .tc .vmem S320x128 .f32) (N : Memref sig .tc .vmem S1x320x48 .f32) (Z : BufTy.Contents (Elt Ideal) M.view.ty) (f : BufTy.Contents (Elt Ideal) N.view.ty) (n : ℕ) (hn : n ≤ 10) (q : Fin 320) (l : Fin 48) :
    N.view.read (Elt Ideal) (N.view.writes (Elt Ideal) f (scalePieces (F := Ideal) M Z n)) (ix3 0 q l)
      = if q.val < 32 * n then scaleS (M.view.read (Elt Ideal) Z (ix2 q ⟨l.val, by omega⟩)) else N.view.read (Elt Ideal) f (ix3 0 q l) := by
  induction n with
  | zero =>
    rw [if_neg (by omega)]
    rfl
  | succ n ih =>
    have hm : n % 10 = n := Nat.mod_eq_of_lt (by omega)
    by_cases h : 32 * n ≤ q.val ∧ q.val < 32 * n + 32
    · have hq : q.val - 32 * n < 32 := by omega
      rw [if_pos (by omega)]
      refine (View.read_writes_cons_unit_of_mem N.view f _ _ (scalePieces (F := Ideal) M Z n) (ix3 0 q l) (ix3 0 ⟨_, hq⟩ l) rfl fun a => ?_).trans ?_
      · fin_cases a
        · rfl
        · show q.val = 32 * (n % 10) + (q.val - 32 * n)
          omega
        · exact (Nat.zero_add l.val).symm
      · rw [scaleOf_apply, topsBand_apply]
        have e1 : (⟨32 * (n % 10) + (q.val - 32 * n), by omega⟩ : Fin 320) = q := Fin.ext (by show 32 * (n % 10) + (q.val - 32 * n) = q.val; omega)
        exact congrArg (fun y => scaleS (M.view.read (Elt Ideal) Z (ix2 y ⟨l.val, by omega⟩))) e1
    · refine (View.read_writes_cons_unit_of_not_mem N.view f _ _ (scalePieces (F := Ideal) M Z n) (ix3 0 q l) rfl 1 ?_).trans ?_
      · show q.val < 32 * (n % 10) ∨ 32 * (n % 10) + 32 ≤ q.val
        omega
      · rw [ih (by omega)]
        exact if_congr (by omega) rfl rfl

end Cert.KernelIdeal.Track
-- ==== Proof.KernelIdealMoments.lean ====
module

public import proofs.«01_k».proof.Proof.KernelIdealLoop
public import proofs.«01_k».proof.Proof.KernelIdealPeaksValue

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What the first `n` trips of the moments loop leave in the buffers that are followed, from what these held before: `sc` the scale of a
    column of the chunk, `sg` what a column adds to the norm before it is squared, `x5` the chunk of the gradient. -/
def Upto (sc sg : ℕ → EReal) (x5 : S1x1024x1024.Idx → EReal) (J b n : ℕ) (y12 z12 : S8x6144.Idx → EReal) (y18 z18 : S6x1024x1024.Idx → EReal)
    (y19 z19 : S48x128.Idx → EReal) (y27 z27 : S1x128.Idx → EReal) : Prop :=
  (∀ (a : Fin 8) (d : Fin 6144), z12 (ix2 a d) = if a.val = b % 8 ∧ 1024 * J ≤ d.val ∧ d.val < 1024 * J + 256 * n then sc (d.val - 1024 * J) else y12 (ix2 a d))
  ∧ (∀ (p : Fin 6) (q e : Fin 1024), z18 (ix3 p q e) = if p.val = J ∧ e.val < 256 * n then x5 (ix3 0 q e) else y18 (ix3 p q e))
  ∧ (∀ (r : Fin 48) (l : Fin 128), z19 (ix2 r l) = if 8 * J ≤ r.val ∧ r.val < 8 * J + 2 * n then sc (128 * (r.val - 8 * J) + l.val) else y19 (ix2 r l))
  ∧ (∀ l : Fin 128, z27 (ix2 0 l) = y27 (ix2 0 l) + ∑ k ∈ Finset.range (2 * n), sg (128 * k + l.val) * sg (128 * k + l.val))

/-- Before the first trip nothing has changed. -/
theorem upto_zero (sc sg : ℕ → EReal) (x5 : S1x1024x1024.Idx → EReal) (J b : ℕ) (y12 : S8x6144.Idx → EReal) (y18 : S6x1024x1024.Idx → EReal)
    (y19 : S48x128.Idx → EReal) (y27 : S1x128.Idx → EReal) : Upto sc sg x5 J b 0 y12 y12 y18 y18 y19 y19 y27 y27 := by
  refine ⟨fun a d => ?_, fun p q e => ?_, fun r l => ?_, fun l => ?_⟩
  · rw [if_neg (by omega)]
  · rw [if_neg (by omega)]
  · rw [if_neg (by omega)]
  · simp

/-- A choice by two ranges one after the other is the choice by both. -/
theorem ite_ite_or {α : Type} {P Q R : Prop} [Decidable P] [Decidable Q] [Decidable R] {x y : α} (h : R ↔ Q ∨ P) :
    (if Q then x else if P then x else y) = if R then x else y := by
  by_cases hq : Q
  · rw [if_pos hq, if_pos (h.mpr (.inl hq))]
  · rw [if_neg hq]
    by_cases hp : P
    · rw [if_pos hp, if_pos (h.mpr (.inr hp))]
    · rw [if_neg hp, if_neg (fun hr => (h.mp hr).elim hq hp)]

variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- The scale of column `e` of the chunk, from the blocks that the point reads. -/
abbrev scOf (v13 : BitVec 32) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X23 : BufTy.Contents (Elt Ideal) arg23.view.ty) (X24 : BufTy.Contents (Elt Ideal) arg24.view.ty) (e : ℕ) : EReal :=
  scol (arg5.view.read (Elt Ideal) X5) (arg6.view.read (Elt Ideal) X6) (arg7.view.read (Elt Ideal) X7) (arg9.view.read (Elt Ideal) X9) (arg23.view.read (Elt Ideal) X23) (arg24.view.read (Elt Ideal) X24) v13 (chunkOf i) e

/-- What column `e` adds to the norm, before it is squared. -/
abbrev sgOf (v13 : BitVec 32) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X23 : BufTy.Contents (Elt Ideal) arg23.view.ty) (X24 : BufTy.Contents (Elt Ideal) arg24.view.ty) (e : ℕ) : EReal :=
  scOf i arg5 arg6 arg7 arg9 arg23 arg24 v13 X5 X6 X7 X9 X23 X24 e * Ideal.sqrt (gcol (arg5.view.read (Elt Ideal) X5) e)

/-- `Upto` of the contents of the buffers. -/
abbrev After2 (v13 : BitVec 32) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X23 : BufTy.Contents (Elt Ideal) arg23.view.ty) (X24 : BufTy.Contents (Elt Ideal) arg24.view.ty) (b n : ℕ) (Y12 : BufTy.Contents (Elt Ideal) arg12.view.ty) (Y18 : BufTy.Contents (Elt Ideal) arg18.view.ty) (Y19 : BufTy.Contents (Elt Ideal) arg19.view.ty) (Y27 : BufTy.Contents (Elt Ideal) arg27.view.ty) (Z12 : BufTy.Contents (Elt Ideal) arg12.view.ty) (Z18 : BufTy.Contents (Elt Ideal) arg18.view.ty) (Z19 : BufTy.Contents (Elt Ideal) arg19.view.ty) (Z27 : BufTy.Contents (Elt Ideal) arg27.view.ty) : Prop :=
  Upto (scOf i arg5 arg6 arg7 arg9 arg23 arg24 v13 X5 X6 X7 X9 X23 X24) (sgOf i arg5 arg6 arg7 arg9 arg23 arg24 v13 X5 X6 X7 X9 X23 X24) (arg5.view.read (Elt Ideal) X5) (chunkOf i) b n
    (arg12.view.read (Elt Ideal) Y12) (arg12.view.read (Elt Ideal) Z12) (arg18.view.read (Elt Ideal) Y18) (arg18.view.read (Elt Ideal) Z18) (arg19.view.read (Elt Ideal) Y19) (arg19.view.read (Elt Ideal) Z19) (arg27.view.read (Elt Ideal) Y27) (arg27.view.read (Elt Ideal) Z27)

/-- The lanes of the maxima after `n` trips. -/
abbrev After3 (X5 : BufTy.Contents (Elt Ideal) arg5.view.ty) (X6 : BufTy.Contents (Elt Ideal) arg6.view.ty) (X7 : BufTy.Contents (Elt Ideal) arg7.view.ty) (X23 : BufTy.Contents (Elt Ideal) arg23.view.ty) (n : ℕ) (Y25 Z25 : BufTy.Contents (Elt Ideal) arg25.view.ty) : Prop :=
  Tops (mtop (arg5.view.read (Elt Ideal) X5) (arg6.view.read (Elt Ideal) X6) (arg7.view.read (Elt Ideal) X7) (arg23.view.read (Elt Ideal) X23) (chunkOf i)) (chunkOf i) n (arg25.view.read (Elt Ideal) Y25) (arg25.view.read (Elt Ideal) Z25)

/-- One trip more. -/
theorem upto_succ (h3 : k0_cond3 i = 1#1) (v13 : BitVec 32) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X23 : BufTy.Contents (Elt Ideal) arg23.view.ty) (X24 : BufTy.Contents (Elt Ideal) arg24.view.ty) (b : Fin 25) (k : Fin k0_t2_loop.trips)
    (Y12 : BufTy.Contents (Elt Ideal) arg12.view.ty) (Y18 : BufTy.Contents (Elt Ideal) arg18.view.ty) (Y19 : BufTy.Contents (Elt Ideal) arg19.view.ty) (Y27 : BufTy.Contents (Elt Ideal) arg27.view.ty) (Z12 : BufTy.Contents (Elt Ideal) arg12.view.ty) (Z18 : BufTy.Contents (Elt Ideal) arg18.view.ty) (Z19 : BufTy.Contents (Elt Ideal) arg19.view.ty) (Z27 : BufTy.Contents (Elt Ideal) arg27.view.ty) (W12 : BufTy.Contents (Elt Ideal) arg12.view.ty) (W18 : BufTy.Contents (Elt Ideal) arg18.view.ty) (W19 : BufTy.Contents (Elt Ideal) arg19.view.ty) (W27 : BufTy.Contents (Elt Ideal) arg27.view.ty)
    (hU : After2 i arg5 arg6 arg7 arg9 arg12 arg18 arg19 arg23 arg24 arg27 v13 X5 X6 X7 X9 X23 X24 b.val k.val Y12 Y18 Y19 Y27 Z12 Z18 Z19 Z27)
    (hT : Trip (F := Ideal) i arg5 arg6 arg7 arg9 arg20 arg23 arg24 (base i) h3 v13 k X5 X6 X7 X9 X23 X24 arg12 arg18 arg19 arg27 (BitVec.ofNat 32 b.val) (iota .tc S8x128 32 [0] iota_S8x128_d0_w32) Z12 Z18 Z19 Z27 W12 W18 W19 W27) :
    After2 i arg5 arg6 arg7 arg9 arg12 arg18 arg19 arg23 arg24 arg27 v13 X5 X6 X7 X9 X23 X24 b.val (k.val + 1) Y12 Y18 Y19 Y27 W12 W18 W19 W27 := by
  obtain ⟨u1, u2, u3, u4⟩ := hU
  refine ⟨fun a d => ?_, fun p q e => ?_, fun r l => ?_, fun l => ?_⟩
  · rw [trip12 (hT := hT) (a := a) (d := d), u1 a d]
    exact ite_ite_or (by omega)
  · rw [trip18 (hT := hT) (p := p) (q := q) (e := e), u2 p q e]
    exact ite_ite_or (by omega)
  · rw [trip19 (hT := hT) (r := r) (l := l), u3 r l]
    exact ite_ite_or (by omega)
  · rw [trip27 (hT := hT) (l := l), u4 l, show 2 * (k.val + 1) = 2 * k.val + 1 + 1 by omega, Finset.sum_range_succ, Finset.sum_range_succ]
    rw [show 256 * k.val + l.val = 128 * (2 * k.val) + l.val by omega, show 256 * k.val + 128 + l.val = 128 * (2 * k.val + 1) + l.val by omega]
    simp only [add_assoc]

/-- The moments loop, from some contents of what it touches. -/
theorem loop_run (h3 : k0_cond3 i = 1#1) (b : Fin 25) (arg1 : BitVec 32) (v13 : BitVec 32)
    (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X23 : BufTy.Contents (Elt Ideal) arg23.view.ty) (X24 : BufTy.Contents (Elt Ideal) arg24.view.ty) (Y12 : BufTy.Contents (Elt Ideal) arg12.view.ty) (Y18 : BufTy.Contents (Elt Ideal) arg18.view.ty) (Y19 : BufTy.Contents (Elt Ideal) arg19.view.ty) (Y20 : BufTy.Contents (Elt Ideal) arg20.view.ty) (Y21 : BufTy.Contents (Elt Ideal) arg21.view.ty) (Y22 : BufTy.Contents (Elt Ideal) arg22.view.ty) (Y25 : BufTy.Contents (Elt Ideal) arg25.view.ty) (Y26 : BufTy.Contents (Elt Ideal) arg26.view.ty) (Y27 : BufTy.Contents (Elt Ideal) arg27.view.ty) :
    Trip2 (F := Ideal) c arg5 arg6 arg7 arg9 arg12 arg18 arg19 arg20 arg21 arg22 arg23 arg24 arg25 arg26 arg27 X5 X6 X7 X9 X23 X24 Y12 Y18 Y19 Y20 Y21 Y22 Y25 Y26 Y27
    ⊢ wp frame (wpE (defs₀ (F := Ideal)) Variants.none (c : Thread nD τ) none) Set.univ (Scf.Loop.for k0_t2_loop (k0_t2_ok i h3) ⟨⟩ (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 b.val) arg1 (base i) h3 v13 (iota .tc S32x128 32 [1] iota_S32x128_d1_w32) (iota .tc S8x128 32 [0] iota_S8x128_d0_w32))) (fun _ => iprop(∃ Z12 Z18 Z19 Z20 Z21 Z22 Z25 Z26 Z27, ⌜After2 i arg5 arg6 arg7 arg9 arg12 arg18 arg19 arg23 arg24 arg27 v13 X5 X6 X7 X9 X23 X24 b.val 4 Y12 Y18 Y19 Y27 Z12 Z18 Z19 Z27 ∧ After3 i arg5 arg6 arg7 arg23 arg25 X5 X6 X7 X23 4 Y25 Z25⌝ ∗ Trip2 (F := Ideal) c arg5 arg6 arg7 arg9 arg12 arg18 arg19 arg20 arg21 arg22 arg23 arg24 arg25 arg26 arg27 X5 X6 X7 X9 X23 X24 Z12 Z18 Z19 Z20 Z21 Z22 Z25 Z26 Z27)) := by
  have key := Scf.wp_for (M := 𝕄) Idealize.ShloMosaic.frame (wpE (defs₀ (F := Ideal)) Variants.none (c : Thread nD τ) none) Set.univ k0_t2_loop.lb k0_t2_loop.ub k0_t2_loop.st (k0_t2_ok i h3) (⟨⟩ : PUnit)
    (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 b.val) arg1 (base i) h3 v13 (iota .tc S32x128 32 [1] iota_S32x128_d1_w32) (iota .tc S8x128 32 [0] iota_S8x128_d0_w32))
    (fun n _ => iprop(∃ Z12 Z18 Z19 Z20 Z21 Z22 Z25 Z26 Z27, ⌜After2 i arg5 arg6 arg7 arg9 arg12 arg18 arg19 arg23 arg24 arg27 v13 X5 X6 X7 X9 X23 X24 b.val n Y12 Y18 Y19 Y27 Z12 Z18 Z19 Z27 ∧ After3 i arg5 arg6 arg7 arg23 arg25 X5 X6 X7 X23 n Y25 Z25⌝ ∗ Trip2 (F := Ideal) c arg5 arg6 arg7 arg9 arg12 arg18 arg19 arg20 arg21 arg22 arg23 arg24 arg25 arg26 arg27 X5 X6 X7 X9 X23 X24 Z12 Z18 Z19 Z20 Z21 Z22 Z25 Z26 Z27))
    (fun k acc => ?_) (Q := fun _ => iprop(∃ Z12 Z18 Z19 Z20 Z21 Z22 Z25 Z26 Z27, ⌜After2 i arg5 arg6 arg7 arg9 arg12 arg18 arg19 arg23 arg24 arg27 v13 X5 X6 X7 X9 X23 X24 b.val 4 Y12 Y18 Y19 Y27 Z12 Z18 Z19 Z27 ∧ After3 i arg5 arg6 arg7 arg23 arg25 X5 X6 X7 X23 4 Y25 Z25⌝ ∗ Trip2 (F := Ideal) c arg5 arg6 arg7 arg9 arg12 arg18 arg19 arg20 arg21 arg22 arg23 arg24 arg25 arg26 arg27 X5 X6 X7 X9 X23 X24 Z12 Z18 Z19 Z20 Z21 Z22 Z25 Z26 Z27))
  · refine BIBase.Entails.trans ?_ key
    iintro H
    isplitl [H]
    · iexists _; iexists _; iexists _; iexists _; iexists _; iexists _; iexists _; iexists _; iexists _
      isplitr
      on_goal 2 => iexact H
      ipureintro
      exact ⟨upto_zero _ _ _ _ _ _ _ _ _, tops_zero _ _ _⟩
    · iintro %_ H
      iexact H
  · iintro ⟨%Z12, %Z18, %Z19, %Z20, %Z21, %Z22, %Z25, %Z26, %Z27, %hU, H⟩
    iapply (wp_wand_r Idealize.ShloMosaic.frame (wpE (defs₀ (F := Ideal)) Variants.none (c : Thread nD τ) none) Set.univ)
    isplitl [H]
    · iapply (t2_run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 b.val) arg1 (base i) h3 v13 (iota .tc S32x128 32 [1] iota_S32x128_d1_w32) (iota .tc S8x128 32 [0] iota_S8x128_d0_w32) k X5 X6 X7 X9 X23 X24 Z12 Z18 Z19 Z20 Z21 Z22 Z25 Z26 Z27 Set.univ)
      iexact H
    · iintro %_ ⟨%W12, %W18, %W19, %W20, %W21, %W22, %W25, %W26, %W27, %hT, H⟩
      iexists _; iexists _; iexists _; iexists _; iexists _; iexists _; iexists _; iexists _; iexists _
      isplitr
      on_goal 2 => iexact H
      ipureintro
      exact ⟨upto_succ (hU := hU.1) (hT := hT.1), tops_succ (hY := hU.2) (hT := hT.2)⟩

end Cert.KernelIdeal.Track
-- ==== Proof.KernelIdealPoint.lean ====
module

public import proofs.«01_k».proof.Proof.KernelIdealMoments

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

/-- Every buffer of the kernel function: the inputs at their contents, the followed outputs and scratch buffers at contents that `P`
    holds of, the others at some. -/
abbrev HeldP (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (P : BufTy.Contents (Elt Ideal) arg11.view.ty → BufTy.Contents (Elt Ideal) arg12.view.ty → BufTy.Contents (Elt Ideal) arg13.view.ty → BufTy.Contents (Elt Ideal) arg18.view.ty → BufTy.Contents (Elt Ideal) arg19.view.ty → BufTy.Contents (Elt Ideal) arg23.view.ty → BufTy.Contents (Elt Ideal) arg24.view.ty → BufTy.Contents (Elt Ideal) arg27.view.ty → BufTy.Contents (Elt Ideal) arg28.view.ty → BufTy.Contents (Elt Ideal) arg15.view.ty → BufTy.Contents (Elt Ideal) arg25.view.ty → Prop) : sProp 𝕄 :=
  iprop(∃ Z11 Z12 Z13 Z18 Z19 Z23 Z24 Z27 Z28 Z15 Z25 U14 U16 U17 U20 U21 U22 U26, ⌜P Z11 Z12 Z13 Z18 Z19 Z23 Z24 Z27 Z28 Z15 Z25⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} Z11) ∗ (arg12.view.loc (c : Thread nD τ) ↦[arg12.view.set]{fullShare} Z12) ∗ (arg13.view.loc (c : Thread nD τ) ↦[arg13.view.set]{fullShare} Z13) ∗ (arg14.view.loc (c : Thread nD τ) ↦[arg14.view.set]{fullShare} U14) ∗ (arg15.view.loc (c : Thread nD τ) ↦[arg15.view.set]{fullShare} Z15) ∗ (arg16.view.loc (c : Thread nD τ) ↦[arg16.view.set]{fullShare} U16) ∗ (arg17.view.loc (c : Thread nD τ) ↦[arg17.view.set]{fullShare} U17) ∗ (arg18.view.loc (c : Thread nD τ) ↦[arg18.view.set]{fullShare} Z18) ∗ (arg19.view.loc (c : Thread nD τ) ↦[arg19.view.set]{fullShare} Z19) ∗ (arg20.view.loc (c : Thread nD τ) ↦[arg20.view.set]{fullShare} U20) ∗ (arg21.view.loc (c : Thread nD τ) ↦[arg21.view.set]{fullShare} U21) ∗ (arg22.view.loc (c : Thread nD τ) ↦[arg22.view.set]{fullShare} U22) ∗ (arg23.view.loc (c : Thread nD τ) ↦[arg23.view.set]{fullShare} Z23) ∗ (arg24.view.loc (c : Thread nD τ) ↦[arg24.view.set]{fullShare} Z24) ∗ (arg25.view.loc (c : Thread nD τ) ↦[arg25.view.set]{fullShare} Z25) ∗ (arg26.view.loc (c : Thread nD τ) ↦[arg26.view.set]{fullShare} U26) ∗ (arg27.view.loc (c : Thread nD τ) ↦[arg27.view.set]{fullShare} Z27) ∗ (arg28.view.loc (c : Thread nD τ) ↦[arg28.view.set]{fullShare} Z28))

variable (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)

local notation "Pred" => (BufTy.Contents (Elt Ideal) arg11.view.ty → BufTy.Contents (Elt Ideal) arg12.view.ty → BufTy.Contents (Elt Ideal) arg13.view.ty → BufTy.Contents (Elt Ideal) arg18.view.ty → BufTy.Contents (Elt Ideal) arg19.view.ty → BufTy.Contents (Elt Ideal) arg23.view.ty → BufTy.Contents (Elt Ideal) arg24.view.ty → BufTy.Contents (Elt Ideal) arg27.view.ty → BufTy.Contents (Elt Ideal) arg28.view.ty → BufTy.Contents (Elt Ideal) arg15.view.ty → BufTy.Contents (Elt Ideal) arg25.view.ty → Prop)

/-- The step count that a point reads. -/
def stepAt (h3 : k0_cond3 i = 1#1) : BitVec 32 :=
  View.readAt (Elt Ideal) arg2.view (Rect.unit (s := S24) (k0_off18 i) S1.size (k0_off18_inb i h3)).toLoadRect X2 (Shape.Idx.first (s := S1) (by decide))

/-- The straight part of a point, run as the program spells it. -/
theorem part115_run (h3 : k0_cond3 i = 1#1) (b : Fin 25) (arg1 : BitVec 32) (P Q : Pred)
    (hPQ : ∀ Y11 Y12 Y13 Y18 Y19 Y23 Y24 Y27 Y28 Y15 Y25, P Y11 Y12 Y13 Y18 Y19 Y23 Y24 Y27 Y28 Y15 Y25 → ∀ Z11 Z12 Z13 Z18 Z19 Z23 Z24 Z27 Z28 Z15 Z25, Z11 = Y11 ∧ Z13 = Y13 ∧ Z23 = Y23 ∧ Z24 = Y24 ∧ Z28 = Y28 ∧ After2 i arg5 arg6 arg7 arg9 arg12 arg18 arg19 arg23 arg24 arg27 (stepAt i arg2 X2 h3) X5 X6 X7 X9 Y23 Y24 b.val 4 Y12 Y18 Y19 Y27 Z12 Z18 Z19 Z27 ∧ After3 i arg5 arg6 arg7 arg23 arg25 X5 X6 X7 Y23 4 Y25 Z25 ∧ Z15 = arg15.view.writes (Elt Ideal) arg15.view.junk (scalePieces (F := Ideal) arg25 Z25 10) → Q Z11 Z12 Z13 Z18 Z19 Z23 Z24 Z27 Z28 Z15 Z25) :
    (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) P ⊢ wp frame (wpE (defs₀ (F := Ideal)) Variants.none (c : Thread nD τ) none) Set.univ (k0_part115 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 b.val) arg1 (base i) h3) (fun _ => (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) Q) := by
  rw [k0_part115_eq_skeleton]; unfold k0_part115_skel
  iintro ⟨%Y11, %Y12, %Y13, %Y18, %Y19, %Y23, %Y24, %Y27, %Y28, %Y15, %Y25, %V14, %V16, %V17, %V20, %V21, %V22, %V26, %hP, H2, H3, H4, H5, H6, H7, H8, H9, H10, H11, H12, H13, H14, H15, H16, H17, H18, H19, H20, H21, H22, H23, H24, H25, H26, H27, H28⟩
  sl_exec_parts
  rw [wp_bind]
  iapply (wp_wand_r Idealize.ShloMosaic.frame (wpE (defs₀ (F := Ideal)) Variants.none (c : Thread nD τ) none) Set.univ)
  isplitl [H5 H6 H7 H9 H23 H24 H12 H18 H19 H20 H21 H22 H25 H26 H27]
  · iapply (loop_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h3 b arg1 (stepAt i arg2 X2 h3) X5 X6 X7 X9 Y23 Y24 Y12 Y18 Y19 V20 V21 V22 Y25 V26 Y27)
    sl_close
  iintro %_ ⟨%Z12, %Z18, %Z19, %Z20, %Z21, %Z22, %Z25, %Z26, %Z27, %hU, H5, H6, H7, H9, H23, H24, H12, H18, H19, H20, H21, H22, H25, H26, H27⟩
  sl_exec_parts
  sl_step
  iexists _; iexists _; iexists _; iexists _; iexists _; iexists _; iexists _; iexists _; iexists _; iexists _; iexists _; iexists _; iexists _; iexists _; iexists _; iexists _; iexists _; iexists _
  isplitr
  on_goal 2 => sl_close
  ipureintro
  exact hPQ _ _ _ _ _ _ _ _ _ _ _ hP _ _ _ _ _ _ _ _ _ _ _ ⟨rfl, rfl, rfl, rfl, rfl, hU.1, hU.2, rfl⟩

/-- A program whose end leaves `R`, then one that starts from `R`. -/
theorem wp_seq {α δ : Type} {P R : sProp 𝕄} {Q : δ → sProp 𝕄} (p : Prog (TpuEff nD τ sig (Elt Ideal) Λ₀ .tc) α) (k : α → Prog (TpuEff nD τ sig (Elt Ideal) Λ₀ .tc) δ)
    (hp : P ⊢ wp frame (wpE (defs₀ (F := Ideal)) Variants.none (c : Thread nD τ) none) Set.univ (p) fun _ => R) (hk : ∀ a, R ⊢ wp frame (wpE (defs₀ (F := Ideal)) Variants.none (c : Thread nD τ) none) Set.univ (k a) Q) :
    P ⊢ wp frame (wpE (defs₀ (F := Ideal)) Variants.none (c : Thread nD τ) none) Set.univ (p >>= k) Q := by
  simp only [wp_bind]; exact hp.trans ((wp _ _ _ p).mono hk)

/-- The same for two steps that leave `R`. -/
theorem wp_seq₂ {α β δ : Type} {P R : sProp 𝕄} {Q : δ → sProp 𝕄} (p : Prog (TpuEff nD τ sig (Elt Ideal) Λ₀ .tc) α) (q : α → Prog (TpuEff nD τ sig (Elt Ideal) Λ₀ .tc) β) (k : β → Prog (TpuEff nD τ sig (Elt Ideal) Λ₀ .tc) δ)
    (hp : P ⊢ wp frame (wpE (defs₀ (F := Ideal)) Variants.none (c : Thread nD τ) none) Set.univ (p >>= q) fun _ => R) (hk : ∀ a, R ⊢ wp frame (wpE (defs₀ (F := Ideal)) Variants.none (c : Thread nD τ) none) Set.univ (k a) Q) :
    P ⊢ wp frame (wpE (defs₀ (F := Ideal)) Variants.none (c : Thread nD τ) none) Set.univ (p >>= fun a => q a >>= k) Q := by
  simp only [wp_bind] at hp ⊢; exact hp.trans ((wp _ _ _ p).mono fun a => (wp _ _ _ (q a)).mono hk)

/-- The same for three steps that leave `R`. -/
theorem wp_seq₃ {α β γ δ : Type} {P R : sProp 𝕄} {Q : δ → sProp 𝕄} (p : Prog (TpuEff nD τ sig (Elt Ideal) Λ₀ .tc) α) (q : α → Prog (TpuEff nD τ sig (Elt Ideal) Λ₀ .tc) β) (r : α → β → Prog (TpuEff nD τ sig (Elt Ideal) Λ₀ .tc) γ) (k : γ → Prog (TpuEff nD τ sig (Elt Ideal) Λ₀ .tc) δ)
    (hp : P ⊢ wp frame (wpE (defs₀ (F := Ideal)) Variants.none (c : Thread nD τ) none) Set.univ (p >>= fun a => q a >>= fun b => r a b) fun _ => R) (hk : ∀ a, R ⊢ wp frame (wpE (defs₀ (F := Ideal)) Variants.none (c : Thread nD τ) none) Set.univ (k a) Q) :
    P ⊢ wp frame (wpE (defs₀ (F := Ideal)) Variants.none (c : Thread nD τ) none) Set.univ (p >>= fun a => q a >>= fun b => r a b >>= k) Q := by
  simp only [wp_bind] at hp ⊢; exact hp.trans ((wp _ _ _ p).mono fun a => (wp _ _ _ (q a)).mono fun b => (wp _ _ _ (r a b)).mono hk)

/-- A conditional of 2 steps, then the rest. -/
theorem wp_when₂ {C : Prop} [Decidable C] {α β δ : Type} {P R : sProp 𝕄} {Q : δ → sProp 𝕄} (p : C → Prog (TpuEff nD τ sig (Elt Ideal) Λ₀ .tc) α) (q : C → α → Prog (TpuEff nD τ sig (Elt Ideal) Λ₀ .tc) β) (k : Prog (TpuEff nD τ sig (Elt Ideal) Λ₀ .tc) δ)
    (hp : ∀ h, P ⊢ wp frame (wpE (defs₀ (F := Ideal)) Variants.none (c : Thread nD τ) none) Set.univ (p h >>= q h) fun _ => R) (hn : ¬C → P ⊢ R) (hk : R ⊢ wp frame (wpE (defs₀ (F := Ideal)) Variants.none (c : Thread nD τ) none) Set.univ k Q) :
    P ⊢ wp frame (wpE (defs₀ (F := Ideal)) Variants.none (c : Thread nD τ) none) Set.univ (if h : C then p h >>= fun a => q h a >>= fun _ => k else k) Q := by
  split
  · next h => exact wp_seq₂ c _ _ _ (hp h) fun _ => hk
  · next h => exact (hn h).trans hk

/-- A conditional of 3 steps, then the rest. -/
theorem wp_when₃ {C : Prop} [Decidable C] {α β γ δ : Type} {P R : sProp 𝕄} {Q : δ → sProp 𝕄} (p : C → Prog (TpuEff nD τ sig (Elt Ideal) Λ₀ .tc) α) (q : C → α → Prog (TpuEff nD τ sig (Elt Ideal) Λ₀ .tc) β) (r : C → α → β → Prog (TpuEff nD τ sig (Elt Ideal) Λ₀ .tc) γ) (k : Prog (TpuEff nD τ sig (Elt Ideal) Λ₀ .tc) δ)
    (hp : ∀ h, P ⊢ wp frame (wpE (defs₀ (F := Ideal)) Variants.none (c : Thread nD τ) none) Set.univ (p h >>= fun a => q h a >>= fun b => r h a b) fun _ => R) (hn : ¬C → P ⊢ R) (hk : R ⊢ wp frame (wpE (defs₀ (F := Ideal)) Variants.none (c : Thread nD τ) none) Set.univ k Q) :
    P ⊢ wp frame (wpE (defs₀ (F := Ideal)) Variants.none (c : Thread nD τ) none) Set.univ (if h : C then p h >>= fun a => q h a >>= fun b => r h a b >>= fun _ => k else k) Q := by
  split
  · next h => exact wp_seq₃ c _ _ _ _ (hp h) fun _ => hk
  · next h => exact (hn h).trans hk

/-- Nothing to do. -/
theorem wp_ret {α : Type} {P : sProp 𝕄} (a : α) : P ⊢ wp frame (wpE (defs₀ (F := Ideal)) Variants.none (c : Thread nD τ) none) Set.univ (pure a : Prog (TpuEff nD τ sig (Elt Ideal) Λ₀ .tc) α) fun _ => P := by
  rw [wp_pure]; exact fupd_intro

/-- A weaker predicate. -/
theorem held_mono (P Q : Pred) (h : ∀ Y11 Y12 Y13 Y18 Y19 Y23 Y24 Y27 Y28 Y15 Y25, P Y11 Y12 Y13 Y18 Y19 Y23 Y24 Y27 Y28 Y15 Y25 → Q Y11 Y12 Y13 Y18 Y19 Y23 Y24 Y27 Y28 Y15 Y25) : (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) P ⊢ (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) Q := by
  iintro ⟨%Z11, %Z12, %Z13, %Z18, %Z19, %Z23, %Z24, %Z27, %Z28, %Z15, %Z25, %U14, %U16, %U17, %U20, %U21, %U22, %U26, %hP, H2, H3, H4, H5, H6, H7, H8, H9, H10, H11, H12, H13, H14, H15, H16, H17, H18, H19, H20, H21, H22, H23, H24, H25, H26, H27, H28⟩
  iexists _; iexists _; iexists _; iexists _; iexists _; iexists _; iexists _; iexists _; iexists _; iexists _; iexists _; iexists _; iexists _; iexists _; iexists _; iexists _; iexists _; iexists _
  isplitr
  on_goal 2 => sl_close
  ipureintro
  exact h _ _ _ _ _ _ _ _ _ _ _ hP

/-- The condition of the part that starts a matrix. -/
def cond2 : BitVec 1 :=
  Scalar.cmpi .ne (Scalar.extui (Scalar.andi (Scalar.cmpi .slt (BitVec.ofNat 32 (i 0).val) 24#32) (Scalar.cmpi .eq (BitVec.ofNat 32 (i 1).val) 0#32)) : BitVec 32) 0#32

/-- The part under `b > 0`: what it leaves in the block of the weights' change. -/
def After1 (Y11 Z11 : BufTy.Contents (Elt Ideal) arg11.view.ty) (Y18 : BufTy.Contents (Elt Ideal) arg18.view.ty) (Y19 : BufTy.Contents (Elt Ideal) arg19.view.ty) (Y28 : BufTy.Contents (Elt Ideal) arg28.view.ty) : Prop :=
  if h1 : k0_cond1 i = 1#1 then
    Z11 = arg11.view.writes (Elt Ideal) Y11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) (base i) h1
      (View.readAt (Elt Ideal) arg28.view (Rect.unit (s := S1) ![0] S1.size inb_S1_S1_0).toLoadRect Y28 (Shape.Idx.first (s := S1) (by decide))) X4 Y18 Y19 k0_t1_loop.trips)
  else Z11 = Y11

/-- The part under `b < 24` and `j = 0`: the scales of the moments, spread over the lanes, and the norm's lanes. -/
def After0 (Y23 Z23 : BufTy.Contents (Elt Ideal) arg23.view.ty) (Y24 Z24 : BufTy.Contents (Elt Ideal) arg24.view.ty) (Y27 Z27 : BufTy.Contents (Elt Ideal) arg27.view.ty) (Y25 Z25 : BufTy.Contents (Elt Ideal) arg25.view.ty) : Prop :=
  if cond2 i = 1#1 then
    Z23 = arg23.view.writes (Elt Ideal) Y23
        [⟨Rect.unit (s := S320x128) ![0, 0] S320x48.size inb_S320x128_S320x48_0_0, k0_pay23 (View.readAt (Elt Ideal) arg8.view (Rect.unit (s := S1x320x48) ![0, 0, 0] S1x320x48.size inb_S1x320x48_S1x320x48_0_0_0).toLoadRect X8)⟩,
          ⟨Rect.unit (s := S320x128) ![0, 0] S320x128.size inb_S320x128_S320x128_0_0, k0_pay19 (F := Ideal)⟩]
    ∧ Z24 = arg24.view.writes (Elt Ideal) Y24
        [⟨Rect.unit (s := S320x128) ![0, 0] S320x48.size inb_S320x128_S320x48_0_0, k0_pay24 (View.readAt (Elt Ideal) arg10.view (Rect.unit (s := S1x320x48) ![0, 0, 0] S1x320x48.size inb_S1x320x48_S1x320x48_0_0_0).toLoadRect X10)⟩,
          ⟨Rect.unit (s := S320x128) ![0, 0] S320x128.size inb_S320x128_S320x128_0_0, k0_pay20 (F := Ideal)⟩]
    ∧ Z27 = arg27.view.writes (Elt Ideal) Y27 [⟨Rect.unit (s := S1x128) ![0, 0] S1x128.size inb_S1x128_S1x128_0_0, k0_pay3 (F := Ideal) (Scalar.ofBits .f32 0x00000000#32)⟩]
    ∧ Z25 = arg25.view.writes (Elt Ideal) Y25 [⟨Rect.unit (s := S320x128) ![0, 0] S320x128.size inb_S320x128_S320x128_0_0, k0_pay21 (F := Ideal)⟩]
  else Z23 = Y23 ∧ Z24 = Y24 ∧ Z27 = Y27 ∧ Z25 = Y25

/-- The part under `j = 5`: the norm and the factor of the matrix. -/
def After4 (h3 : k0_cond3 i = 1#1) (Y13 Z13 : BufTy.Contents (Elt Ideal) arg13.view.ty) (Y28 Z28 : BufTy.Contents (Elt Ideal) arg28.view.ty) (Y27 : BufTy.Contents (Elt Ideal) arg27.view.ty) : Prop :=
  if h4 : k0_cond4 i = 1#1 then
    Z28 = arg28.view.writes (Elt Ideal) Y28 [⟨Rect.unit (s := S1) ![0] S1.size inb_S1_S1_0, fun _ => k0_pay6
        (View.readAt (Elt Ideal) arg27.view (Rect.unit (s := S1x128) ![0, 0] S1x128.size inb_S1x128_S1x128_0_0).toLoadRect Y27)
        (View.readAt (Elt Ideal) arg3.view (Rect.unit (s := S24) (k0_off190 i) S1.size (k0_off190_inb i h3 h4)).toLoadRect X3 (Shape.Idx.first (s := S1) (by decide)))⟩]
    ∧ Z13 = arg13.view.writes (Elt Ideal) Y13 [⟨Rect.unit (s := S24) (k0_off190 i) S1.size (k0_off190_inb i h3 h4), fun _ => k0_pay7
        (View.readAt (Elt Ideal) arg27.view (Rect.unit (s := S1x128) ![0, 0] S1x128.size inb_S1x128_S1x128_0_0).toLoadRect Y27)
        (View.readAt (Elt Ideal) arg3.view (Rect.unit (s := S24) (k0_off190 i) S1.size (k0_off190_inb i h3 h4)).toLoadRect X3 (Shape.Idx.first (s := S1) (by decide)))⟩]
  else Z28 = Y28 ∧ Z13 = Y13

/-- What a grid point leaves in the buffers that are followed. -/
def Point (Y11 : BufTy.Contents (Elt Ideal) arg11.view.ty) (Y12 : BufTy.Contents (Elt Ideal) arg12.view.ty) (Y13 : BufTy.Contents (Elt Ideal) arg13.view.ty) (Y18 : BufTy.Contents (Elt Ideal) arg18.view.ty) (Y19 : BufTy.Contents (Elt Ideal) arg19.view.ty) (Y23 : BufTy.Contents (Elt Ideal) arg23.view.ty) (Y24 : BufTy.Contents (Elt Ideal) arg24.view.ty) (Y27 : BufTy.Contents (Elt Ideal) arg27.view.ty) (Y28 : BufTy.Contents (Elt Ideal) arg28.view.ty) (Y15 : BufTy.Contents (Elt Ideal) arg15.view.ty) (Y25 : BufTy.Contents (Elt Ideal) arg25.view.ty) (Z11 : BufTy.Contents (Elt Ideal) arg11.view.ty) (Z12 : BufTy.Contents (Elt Ideal) arg12.view.ty) (Z13 : BufTy.Contents (Elt Ideal) arg13.view.ty) (Z18 : BufTy.Contents (Elt Ideal) arg18.view.ty) (Z19 : BufTy.Contents (Elt Ideal) arg19.view.ty) (Z23 : BufTy.Contents (Elt Ideal) arg23.view.ty) (Z24 : BufTy.Contents (Elt Ideal) arg24.view.ty) (Z27 : BufTy.Contents (Elt Ideal) arg27.view.ty) (Z28 : BufTy.Contents (Elt Ideal) arg28.view.ty) (Z15 : BufTy.Contents (Elt Ideal) arg15.view.ty) (Z25 : BufTy.Contents (Elt Ideal) arg25.view.ty) : Prop :=
  ∃ (B27 : BufTy.Contents (Elt Ideal) arg27.view.ty) (B25 : BufTy.Contents (Elt Ideal) arg25.view.ty),
    After1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (X4 := X4) Y11 Z11 Y18 Y19 Y28
    ∧ After0 i arg8 arg10 arg23 arg24 arg25 arg27 (X8 := X8) (X10 := X10) Y23 Z23 Y24 Z24 Y27 B27 Y25 B25
    ∧ (if h3 : k0_cond3 i = 1#1 then
        After2 i arg5 arg6 arg7 arg9 arg12 arg18 arg19 arg23 arg24 arg27 (stepAt i arg2 X2 h3) X5 X6 X7 X9 Z23 Z24 (i 0).val 4 Y12 Y18 Y19 B27 Z12 Z18 Z19 Z27
        ∧ After4 i arg3 arg13 arg27 arg28 (X3 := X3) h3 Y13 Z13 Y28 Z28 Z27
        ∧ After3 i arg5 arg6 arg7 arg23 arg25 X5 X6 X7 Z23 4 B25 Z25 ∧ Z15 = arg15.view.writes (Elt Ideal) arg15.view.junk (scalePieces (F := Ideal) arg25 Z25 10)
      else Z12 = Y12 ∧ Z18 = Y18 ∧ Z19 = Y19 ∧ Z27 = B27 ∧ Z28 = Y28 ∧ Z13 = Y13 ∧ Z15 = Y15 ∧ Z25 = B25)

/-- The kernel's body at a grid point: it keeps the inputs, and the followed buffers change as `Point` says. -/
theorem body_run (P Q : Pred) (hPQ : ∀ Y11 Y12 Y13 Y18 Y19 Y23 Y24 Y27 Y28 Y15 Y25, P Y11 Y12 Y13 Y18 Y19 Y23 Y24 Y27 Y28 Y15 Y25 → ∀ Z11 Z12 Z13 Z18 Z19 Z23 Z24 Z27 Z28 Z15 Z25, Point c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X2 X3 X4 X5 X6 X7 X8 X9 X10 Y11 Y12 Y13 Y18 Y19 Y23 Y24 Y27 Y28 Y15 Y25 Z11 Z12 Z13 Z18 Z19 Z23 Z24 Z27 Z28 Z15 Z25 → Q Z11 Z12 Z13 Z18 Z19 Z23 Z24 Z27 Z28 Z15 Z25) :
    (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) P ⊢ wp frame (wpE (defs₀ (F := Ideal)) Variants.none (c : Thread nD τ) none) Set.univ (cc0_apollo_step (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) Q) := by
  rw [cc0_apollo_step_eq_skeleton]; unfold cc0_apollo_step_skel
  dsimp only
  refine wp_when₂ c (R := (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) fun Z11 Z12 Z13 Z18 Z19 Z23 Z24 Z27 Z28 Z15 Z25 => ∃ Y11, P Y11 Z12 Z13 Z18 Z19 Z23 Z24 Z27 Z28 Z15 Z25 ∧ After1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (X4 := X4) Y11 Z11 Z18 Z19 Z28) _ _ _ (fun h => ?_) (fun h => ?_) ?_
  · iintro ⟨%Y11, %Y12, %Y13, %Y18, %Y19, %Y23, %Y24, %Y27, %Y28, %Y15, %Y25, %V14, %V16, %V17, %V20, %V21, %V22, %V26, %hP, H2, H3, H4, H5, H6, H7, H8, H9, H10, H11, H12, H13, H14, H15, H16, H17, H18, H19, H20, H21, H22, H23, H24, H25, H26, H27, H28⟩
    sl_exec
    try sl_step
    iexists _; iexists _; iexists _; iexists _; iexists _; iexists _; iexists _; iexists _; iexists _; iexists _; iexists _; iexists _; iexists _; iexists _; iexists _; iexists _; iexists _; iexists _
    isplitr
    on_goal 2 => sl_close
    ipureintro
    refine ⟨Y11, hP, ?_⟩
    unfold After1
    rw [dif_pos h]
    rfl
  · refine held_mono c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10 _ _ fun Y11 Y12 Y13 Y18 Y19 Y23 Y24 Y27 Y28 Y15 Y25 hP => ⟨Y11, hP, ?_⟩
    unfold After1
    rw [dif_neg h]
  refine wp_when₃ c (R := (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) fun Z11 Z12 Z13 Z18 Z19 Z23 Z24 Z27 Z28 Z15 Z25 => ∃ Y11 Y23 Y24 Y27 Y25, P Y11 Z12 Z13 Z18 Z19 Y23 Y24 Y27 Z28 Z15 Y25 ∧ After1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (X4 := X4) Y11 Z11 Z18 Z19 Z28 ∧ After0 i arg8 arg10 arg23 arg24 arg25 arg27 (X8 := X8) (X10 := X10) Y23 Z23 Y24 Z24 Y27 Z27 Y25 Z25) _ _ _ _ (fun h => ?_) (fun h => ?_) ?_
  · iintro ⟨%Y11, %Y12, %Y13, %Y18, %Y19, %Y23, %Y24, %Y27, %Y28, %Y15, %Y25, %V14, %V16, %V17, %V20, %V21, %V22, %V26, %hP, H2, H3, H4, H5, H6, H7, H8, H9, H10, H11, H12, H13, H14, H15, H16, H17, H18, H19, H20, H21, H22, H23, H24, H25, H26, H27, H28⟩
    sl_exec
    try sl_step
    iexists _; iexists _; iexists _; iexists _; iexists _; iexists _; iexists _; iexists _; iexists _; iexists _; iexists _; iexists _; iexists _; iexists _; iexists _; iexists _; iexists _; iexists _
    isplitr
    on_goal 2 => sl_close
    ipureintro
    obtain ⟨W11, hP, hA⟩ := hP
    refine ⟨W11, Y23, Y24, Y27, Y25, hP, hA, ?_⟩
    unfold After0
    rw [if_pos (show cond2 i = 1#1 from h)]
    exact ⟨rfl, rfl, rfl, rfl⟩
  · refine held_mono c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10 _ _ fun Y11 Y12 Y13 Y18 Y19 Y23 Y24 Y27 Y28 Y15 Y25 hP => ?_
    obtain ⟨W11, hP, hA⟩ := hP
    refine ⟨W11, Y23, Y24, Y27, Y25, hP, hA, ?_⟩
    unfold After0
    rw [if_neg (show ¬cond2 i = 1#1 from h)]
    exact ⟨rfl, rfl, rfl, rfl⟩
  split
  · next h3 =>
    refine wp_seq c (R := (HeldP c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10) fun Z11 Z12 Z13 Z18 Z19 Z23 Z24 Z27 Z28 Z15 Z25 => ∃ Y11 Y12 Y18 Y19 Y23 Y24 Y27 B27 Y15 Y25 B25, P Y11 Y12 Z13 Y18 Y19 Y23 Y24 Y27 Z28 Y15 Y25 ∧ After1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (X4 := X4) Y11 Z11 Y18 Y19 Z28 ∧ After0 i arg8 arg10 arg23 arg24 arg25 arg27 (X8 := X8) (X10 := X10) Y23 Z23 Y24 Z24 Y27 B27 Y25 B25
        ∧ After2 i arg5 arg6 arg7 arg9 arg12 arg18 arg19 arg23 arg24 arg27 (stepAt i arg2 X2 h3) X5 X6 X7 X9 Z23 Z24 (i 0).val 4 Y12 Y18 Y19 B27 Z12 Z18 Z19 Z27 ∧ After3 i arg5 arg6 arg7 arg23 arg25 X5 X6 X7 Z23 4 B25 Z25 ∧ Z15 = arg15.view.writes (Elt Ideal) arg15.view.junk (scalePieces (F := Ideal) arg25 Z25 10)) _ _ ?_ fun _ => ?_
    · refine part115_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X2 X3 X4 X5 X6 X7 X8 X9 X10 h3 (i 0) _ _ _ fun Y11 Y12 Y13 Y18 Y19 Y23 Y24 Y27 Y28 Y15 Y25 hP Z11 Z12 Z13 Z18 Z19 Z23 Z24 Z27 Z28 Z15 Z25 hR => ?_
      obtain ⟨W11, W23, W24, W27, W25, hP, hA, hB⟩ := hP
      obtain ⟨rfl, rfl, rfl, rfl, rfl, hC⟩ := hR
      exact ⟨W11, Y12, Y18, Y19, W23, W24, W27, Y27, Y15, W25, Y25, hP, hA, hB, hC⟩
    · split
      · next h4 =>
        iintro ⟨%Y11, %Y12, %Y13, %Y18, %Y19, %Y23, %Y24, %Y27, %Y28, %Y15, %Y25, %V14, %V16, %V17, %V20, %V21, %V22, %V26, %hP, H2, H3, H4, H5, H6, H7, H8, H9, H10, H11, H12, H13, H14, H15, H16, H17, H18, H19, H20, H21, H22, H23, H24, H25, H26, H27, H28⟩
        sl_exec
        try sl_step
        iexists _; iexists _; iexists _; iexists _; iexists _; iexists _; iexists _; iexists _; iexists _; iexists _; iexists _; iexists _; iexists _; iexists _; iexists _; iexists _; iexists _; iexists _
        isplitr
        on_goal 2 => sl_close
        ipureintro
        obtain ⟨W11, W12, W18, W19, W23, W24, W27, B27, W15, W25, B25, hP, hA, hB, hC⟩ := hP
        refine hPQ _ _ _ _ _ _ _ _ _ _ _ hP _ _ _ _ _ _ _ _ _ _ _ ⟨B27, B25, hA, hB, ?_⟩
        rw [dif_pos h3]
        refine ⟨hC.1, ?_, hC.2⟩
        unfold After4
        rw [dif_pos h4]
        exact ⟨rfl, rfl⟩
      · next h4 =>
        refine BIBase.Entails.trans (held_mono c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10 _ _ fun Y11 Y12 Y13 Y18 Y19 Y23 Y24 Y27 Y28 Y15 Y25 hP => ?_) (wp_ret c _)
        obtain ⟨W11, W12, W18, W19, W23, W24, W27, B27, W15, W25, B25, hP, hA, hB, hC⟩ := hP
        refine hPQ _ _ _ _ _ _ _ _ _ _ _ hP _ _ _ _ _ _ _ _ _ _ _ ⟨B27, B25, hA, hB, ?_⟩
        rw [dif_pos h3]
        refine ⟨hC.1, ?_, hC.2⟩
        unfold After4
        rw [dif_neg h4]
        exact ⟨rfl, rfl⟩
  · next h3 =>
    refine BIBase.Entails.trans (held_mono c arg2 arg3 arg4 arg5 arg6 arg7 arg8 arg9 arg10 arg11 arg12 arg13 arg14 arg15 arg16 arg17 arg18 arg19 arg20 arg21 arg22 arg23 arg24 arg25 arg26 arg27 arg28 X2 X3 X4 X5 X6 X7 X8 X9 X10 _ _ fun Y11 Y12 Y13 Y18 Y19 Y23 Y24 Y27 Y28 Y15 Y25 hP => ?_) (wp_ret c _)
    obtain ⟨W11, W23, W24, W27, W25, hP, hA, hB⟩ := hP
    refine hPQ _ _ _ _ _ _ _ _ _ _ _ hP _ _ _ _ _ _ _ _ _ _ _ ⟨Y27, Y25, hA, hB, ?_⟩
    rw [dif_neg h3]
    exact ⟨rfl, rfl, rfl, rfl, rfl, rfl, rfl, rfl⟩

end Cert.KernelIdeal.Track
-- ==== Proof.KernelIdealReads.lean ====
module

public import proofs.«01_k».proof.Proof.KernelIdealPoint

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic

/-- The scales of the first moments, times the first rate, on the first 48 lanes. -/
def msx (x8 : S1x320x48.Idx → EReal) : S320x128.Idx → EReal :=
  fun y => if h : (y 1).val < 48 then x8 (ix3 0 (y 0) ⟨(y 1).val, h⟩) * ((9 / 10 : ℝ) : EReal) else 0

/-- The scales of the second moments, times the root of the second rate, on the first 48 lanes. -/
def vsx (x10 : S1x320x48.Idx → EReal) : S320x128.Idx → EReal :=
  fun y => if h : (y 1).val < 48 then x10 (ix3 0 (y 0) ⟨(y 1).val, h⟩) * Ideal.sqrt (1 - ((1 / 1000 : ℝ) : EReal)) else 0

/-- The block of zeros. -/
theorem pay19_apply (q : Fin 320) (l : Fin 128) : k0_pay19 (F := Ideal) (ix2 q l) = (0 : EReal) := by
  pointwise [k0_pay19, k0_pay18]

/-- The block of zeros. -/
theorem pay20_apply (q : Fin 320) (l : Fin 128) : k0_pay20 (F := Ideal) (ix2 q l) = (0 : EReal) := by
  pointwise [k0_pay20, k0_pay18]

/-- The scales of the first moments as they are stored. -/
theorem pay23_apply (x : FVec Ideal S1x320x48 .f32) (q : Fin 320) (l : Fin 48) : k0_pay23 (F := Ideal) x (ix2 q l) = (x (ix3 0 q l) : EReal) * ((9 / 10 : ℝ) : EReal) := by
  pointwise [k0_pay23]
  try rfl

/-- The scales of the second moments as they are stored. -/
theorem pay24_apply (x : FVec Ideal S1x320x48 .f32) (q : Fin 320) (l : Fin 48) : k0_pay24 (F := Ideal) x (ix2 q l) = (x (ix3 0 q l) : EReal) * Ideal.sqrt (1 - ((1 / 1000 : ℝ) : EReal)) := by
  pointwise [k0_pay24]
  try rfl

/-- The lanes of the norm start at zero. -/
theorem pay3_apply (l : Fin 128) : k0_pay3 (F := Ideal) (Scalar.ofBits .f32 0x00000000#32) (ix2 0 l) = (0 : EReal) := by
  pointwise [k0_pay3]

/-- The norm of a matrix from its lanes. -/
def normS (n : Fin 128 → EReal) : EReal := Ideal.sqrt (∑ l : Fin 128, n l)

/-- The factor that limits the growth of the norm. -/
def factorS (n : Fin 128 → EReal) (p : EReal) : EReal := min 1 (Ideal.div (((101 / 100 : ℝ) : EReal) * p) (normS n))

/-- The root of the lanes' sum is the norm. -/
theorem pay4_apply (x : FVec Ideal S1x128 .f32) : k0_pay4 (F := Ideal) x (ix2 0 0) = normS fun l => x (ix2 0 l) := by
  pointwise [k0_pay4]
  rfl

/-- The stored factor, before it is made a scalar. -/
theorem pay5_apply (x : FVec Ideal S1x128 .f32) (p : EReal) : k0_pay5 (F := Ideal) x p (ix2 0 0) = factorS (fun l => x (ix2 0 l)) p := by
  have := pay4_apply x
  pointwise [k0_pay5]
  rw [this]
  rfl

/-- The only entry of a one by one block. -/
theorem extract_apply (x : FVec Ideal S1x1 .f32) : extractAt ![0, 0] x inpos_S1x1_p0_0 = x (ix2 0 0) := by
  pointwise

/-- The factor that is stored. -/
theorem pay6_apply (x : FVec Ideal S1x128 .f32) (p : EReal) : k0_pay6 (F := Ideal) x p = factorS (fun l => x (ix2 0 l)) p := by
  unfold k0_pay6
  exact (extract_apply _).trans (pay5_apply x p)

/-- The limited norm that is stored. -/
theorem pay7_apply (x : FVec Ideal S1x128 .f32) (p : EReal) : k0_pay7 (F := Ideal) x p = factorS (fun l => x (ix2 0 l)) p * normS fun l => x (ix2 0 l) := by
  unfold k0_pay7
  refine (extract_apply _).trans ?_
  show (k0_pay5 (F := Ideal) x p (ix2 0 0) : EReal) * k0_pay4 (F := Ideal) x (ix2 0 0) = _
  rw [pay5_apply, pay4_apply]

section
variable (i : grid0.Coords)
variable (arg3 : Memref sig .tc .smem S24 .f32)
variable (arg2 : Memref sig .tc .smem S24 .i32)
variable (arg8 : Memref sig .tc .vmem S1x320x48 .f32)
variable (arg10 : Memref sig .tc .vmem S1x320x48 .f32)
variable (arg13 : Memref sig .tc .smem S24 .f32)
variable (arg23 : Memref sig .tc .vmem S320x128 .f32)
variable (arg24 : Memref sig .tc .vmem S320x128 .f32)
variable (arg27 : Memref sig .tc .vmem S1x128 .f32)
variable (arg28 : Memref sig .tc .smem S1 .f32)
variable (X3 Y3 Z3 : BufTy.Contents (Elt Ideal) arg3.view.ty)
variable (X2 Y2 Z2 : BufTy.Contents (Elt Ideal) arg2.view.ty)
variable (X8 Y8 Z8 : BufTy.Contents (Elt Ideal) arg8.view.ty)
variable (X10 Y10 Z10 : BufTy.Contents (Elt Ideal) arg10.view.ty)
variable (X13 Y13 Z13 : BufTy.Contents (Elt Ideal) arg13.view.ty)
variable (X23 Y23 Z23 : BufTy.Contents (Elt Ideal) arg23.view.ty)
variable (X24 Y24 Z24 : BufTy.Contents (Elt Ideal) arg24.view.ty)
variable (X27 Y27 Z27 : BufTy.Contents (Elt Ideal) arg27.view.ty)
variable (X28 Y28 Z28 : BufTy.Contents (Elt Ideal) arg28.view.ty)

/-- What the stores at the start of a matrix leave of the scales, lane by lane. -/
theorem scales23_read (hZ : Z23 = arg23.view.writes (Elt Ideal) Y23
        [⟨Rect.unit (s := S320x128) ![0, 0] S320x48.size inb_S320x128_S320x48_0_0, k0_pay23 (View.readAt (Elt Ideal) arg8.view (Rect.unit (s := S1x320x48) ![0, 0, 0] S1x320x48.size inb_S1x320x48_S1x320x48_0_0_0).toLoadRect X8)⟩,
          ⟨Rect.unit (s := S320x128) ![0, 0] S320x128.size inb_S320x128_S320x128_0_0, k0_pay19 (F := Ideal)⟩]) :
    arg23.view.read (Elt Ideal) Z23 = msx (arg8.view.read (Elt Ideal) X8) := by
  funext y
  obtain ⟨q, l, rfl⟩ : ∃ (q : Fin 320) (l : Fin 128), y = ix2 q l := ⟨y 0, y 1, by funext a; fin_cases a <;> rfl⟩
  rw [hZ]
  by_cases h : l.val < 48
  · refine (View.read_writes_cons_unit_of_mem arg23.view Y23 _ _ _ (ix2 q l) (ix2 q ⟨l.val, h⟩) rfl fun x => ?_).trans ?_
    · fin_cases x
      · show q.val = 0 + q.val
        omega
      · show l.val = 0 + l.val
        omega
    · refine (pay23_apply _ q ⟨l.val, h⟩).trans ?_
      unfold msx
      refine Eq.trans ?_ (dif_pos (show ((ix2 q l : S320x128.Idx) 1).val < 48 from h)).symm
      refine congrArg (· * _) ?_
      rw [View.readAt_eq_ld]
      refine View.ld_unit_apply_of _ _ _ _ _ _ fun x => ?_
      fin_cases x
      · rfl
      · show q.val = 0 + q.val
        omega
      · show l.val = 0 + l.val
        omega
  · refine (View.read_writes_cons_unit_of_not_mem arg23.view Y23 _ _ _ (ix2 q l) rfl 1 ?_).trans ?_
    · show l.val < 0 ∨ 0 + 48 ≤ l.val
      omega
    refine (View.read_writes_cons_unit_of_mem arg23.view Y23 _ _ _ (ix2 q l) (ix2 q l) rfl fun x => ?_).trans ?_
    · fin_cases x
      · show q.val = 0 + q.val
        omega
      · show l.val = 0 + l.val
        omega
    · refine (pay19_apply q l).trans ?_
      unfold msx
      exact Eq.symm (dif_neg (c := ((ix2 q l : S320x128.Idx) 1).val < 48) h)

/-- What the stores at the start of a matrix leave of the scales, lane by lane. -/
theorem scales24_read (hZ : Z24 = arg24.view.writes (Elt Ideal) Y24
        [⟨Rect.unit (s := S320x128) ![0, 0] S320x48.size inb_S320x128_S320x48_0_0, k0_pay24 (View.readAt (Elt Ideal) arg10.view (Rect.unit (s := S1x320x48) ![0, 0, 0] S1x320x48.size inb_S1x320x48_S1x320x48_0_0_0).toLoadRect X10)⟩,
          ⟨Rect.unit (s := S320x128) ![0, 0] S320x128.size inb_S320x128_S320x128_0_0, k0_pay20 (F := Ideal)⟩]) :
    arg24.view.read (Elt Ideal) Z24 = vsx (arg10.view.read (Elt Ideal) X10) := by
  funext y
  obtain ⟨q, l, rfl⟩ : ∃ (q : Fin 320) (l : Fin 128), y = ix2 q l := ⟨y 0, y 1, by funext a; fin_cases a <;> rfl⟩
  rw [hZ]
  by_cases h : l.val < 48
  · refine (View.read_writes_cons_unit_of_mem arg24.view Y24 _ _ _ (ix2 q l) (ix2 q ⟨l.val, h⟩) rfl fun x => ?_).trans ?_
    · fin_cases x
      · show q.val = 0 + q.val
        omega
      · show l.val = 0 + l.val
        omega
    · refine (pay24_apply _ q ⟨l.val, h⟩).trans ?_
      unfold vsx
      refine Eq.trans ?_ (dif_pos (show ((ix2 q l : S320x128.Idx) 1).val < 48 from h)).symm
      refine congrArg (· * _) ?_
      rw [View.readAt_eq_ld]
      refine View.ld_unit_apply_of _ _ _ _ _ _ fun x => ?_
      fin_cases x
      · rfl
      · show q.val = 0 + q.val
        omega
      · show l.val = 0 + l.val
        omega
  · refine (View.read_writes_cons_unit_of_not_mem arg24.view Y24 _ _ _ (ix2 q l) rfl 1 ?_).trans ?_
    · show l.val < 0 ∨ 0 + 48 ≤ l.val
      omega
    refine (View.read_writes_cons_unit_of_mem arg24.view Y24 _ _ _ (ix2 q l) (ix2 q l) rfl fun x => ?_).trans ?_
    · fin_cases x
      · show q.val = 0 + q.val
        omega
      · show l.val = 0 + l.val
        omega
    · refine (pay20_apply q l).trans ?_
      unfold vsx
      exact Eq.symm (dif_neg (c := ((ix2 q l : S320x128.Idx) 1).val < 48) h)

/-- The lanes of the norm at the start of a matrix. -/
theorem lanes_read (hZ : Z27 = arg27.view.writes (Elt Ideal) Y27 [⟨Rect.unit (s := S1x128) ![0, 0] S1x128.size inb_S1x128_S1x128_0_0, k0_pay3 (F := Ideal) (Scalar.ofBits .f32 0x00000000#32)⟩]) (l : Fin 128) :
    arg27.view.read (Elt Ideal) Z27 (ix2 0 l) = (0 : EReal) := by
  rw [hZ]
  refine (View.read_writes_cons_unit_of_mem arg27.view Y27 _ _ _ (ix2 0 l) (ix2 0 l) rfl fun x => ?_).trans (pay3_apply l)
  fin_cases x
  · rfl
  · show l.val = 0 + l.val
    omega

/-- The lanes of the norm as they are read whole. -/
theorem lanes_whole (l : Fin 128) :
    View.readAt (Elt Ideal) arg27.view (Rect.unit (s := S1x128) ![0, 0] S1x128.size inb_S1x128_S1x128_0_0).toLoadRect Y27 (ix2 0 l) = arg27.view.read (Elt Ideal) Y27 (ix2 0 l) := by
  rw [View.readAt_eq_ld]
  refine View.ld_unit_apply_of _ _ _ _ _ _ fun x => ?_
  fin_cases x
  · rfl
  · show l.val = 0 + l.val
    omega

/-- The place of a matrix in the list of norms. -/
theorem off190_eq : k0_off190 i 0 = (i 0).val := by
  have : ∀ b : Fin 25, (Scalar.indexCast (BitVec.ofNat 32 b.val) : BitVec 32).toNat = b.val := by decide +kernel
  exact this (i 0)

/-- The place of a matrix in the list of steps. -/
theorem off18_eq : k0_off18 i 0 = (i 0).val := off190_eq i

/-- The step of the matrix. -/
theorem step_read (h3 : k0_cond3 i = 1#1) (b : Fin 24) (hb : b.val = (i 0).val) : stepAt i arg2 X2 h3 = arg2.view.read (Elt Ideal) X2 (ix1 b) := by
  unfold stepAt
  rw [View.readAt_eq_ld]
  refine View.ld_unit_apply_of _ _ _ _ _ _ fun x => ?_
  fin_cases x
  show b.val = k0_off18 i 0 + 0
  rw [off18_eq, hb]
  rfl

/-- The previous norm of the matrix. -/
theorem prev_read (h3 : k0_cond3 i = 1#1) (h4 : k0_cond4 i = 1#1) (b : Fin 24) (hb : b.val = (i 0).val) :
    View.readAt (Elt Ideal) arg3.view (Rect.unit (s := S24) (k0_off190 i) S1.size (k0_off190_inb i h3 h4)).toLoadRect X3 (Shape.Idx.first (s := S1) (by decide)) = arg3.view.read (Elt Ideal) X3 (ix1 b) := by
  rw [View.readAt_eq_ld]
  refine View.ld_unit_apply_of _ _ _ _ _ _ fun x => ?_
  fin_cases x
  show b.val = k0_off190 i 0 + 0
  rw [off190_eq, hb]
  rfl

/-- What the end of a matrix leaves: the factor, and the norm at the matrix's place. -/
theorem after4_read (h3 : k0_cond3 i = 1#1) (h4 : k0_cond4 i = 1#1) (b : Fin 24) (hb : b.val = (i 0).val)
    (h : After4 i arg3 arg13 arg27 arg28 (X3 := X3) h3 Y13 Z13 Y28 Z28 Y27) :
    arg28.view.read (Elt Ideal) Z28 (ix1 0) = factorS (fun l => arg27.view.read (Elt Ideal) Y27 (ix2 0 l)) (arg3.view.read (Elt Ideal) X3 (ix1 b))
    ∧ ∀ a : Fin 24, arg13.view.read (Elt Ideal) Z13 (ix1 a) = if a = b then factorS (fun l => arg27.view.read (Elt Ideal) Y27 (ix2 0 l)) (arg3.view.read (Elt Ideal) X3 (ix1 b)) * normS (fun l => arg27.view.read (Elt Ideal) Y27 (ix2 0 l)) else arg13.view.read (Elt Ideal) Y13 (ix1 a) := by
  unfold After4 at h
  rw [dif_pos h4] at h
  obtain ⟨h28, h13⟩ := h
  have ep := prev_read i arg3 X3 h3 h4 b hb
  have el : (fun l => View.readAt (Elt Ideal) arg27.view (Rect.unit (s := S1x128) ![0, 0] S1x128.size inb_S1x128_S1x128_0_0).toLoadRect Y27 (ix2 0 l)) = fun l => arg27.view.read (Elt Ideal) Y27 (ix2 0 l) := funext fun l => lanes_whole arg27 Y27 l
  constructor
  · rw [h28]
    refine (View.read_writes_cons_unit_of_mem arg28.view Y28 _ _ _ (ix1 0) (ix1 0) rfl fun x => ?_).trans ?_
    · fin_cases x
      rfl
    · refine (pay6_apply _ _).trans ?_
      rw [el, ep]
  · intro a
    rw [h13]
    by_cases hab : a = b
    · rw [if_pos hab]
      refine (View.read_writes_cons_unit_of_mem arg13.view Y13 _ _ _ (ix1 a) (ix1 0) rfl fun x => ?_).trans ?_
      · fin_cases x
        show a.val = k0_off190 i 0 + 0
        rw [off190_eq, hab, hb]
        rfl
      · refine (pay7_apply _ _).trans ?_
        rw [el, ep]
    · rw [if_neg hab]
      refine View.read_writes_cons_unit_of_not_mem arg13.view Y13 _ _ _ (ix1 a) rfl 0 ?_
      show a.val < k0_off190 i 0 ∨ k0_off190 i 0 + 1 ≤ a.val
      rw [off190_eq]
      have : a.val ≠ b.val := fun e => hab (Fin.ext e)
      omega

/-- The update is written from the second row of the grid on. -/
theorem cond1_iff : k0_cond1 i = 1#1 ↔ 0 < (i 0).val := by
  have : ∀ b : Fin 25, (Scalar.cmpi .ne (Scalar.extui (Scalar.cmpi .sgt (BitVec.ofNat 32 b.val) 0#32) : BitVec 32) 0#32 = 1#1) ↔ 0 < b.val := by decide +kernel
  exact this (i 0)

/-- A matrix starts at its first chunk. -/
theorem cond2_iff : cond2 i = 1#1 ↔ (i 0).val < 24 ∧ (i 1).val = 0 := by
  have : ∀ (b : Fin 25) (j : Fin 6), (Scalar.cmpi .ne (Scalar.extui (Scalar.andi (Scalar.cmpi .slt (BitVec.ofNat 32 b.val) 24#32) (Scalar.cmpi .eq (BitVec.ofNat 32 j.val) 0#32)) : BitVec 32) 0#32 = 1#1) ↔ b.val < 24 ∧ j.val = 0 := by decide +kernel
  exact this (i 0) (i 1)

/-- Scales are computed in every row of the grid but the last. -/
theorem cond3_iff : k0_cond3 i = 1#1 ↔ (i 0).val < 24 := by
  have : ∀ b : Fin 25, (Scalar.cmpi .ne (Scalar.extui (Scalar.cmpi .slt (BitVec.ofNat 32 b.val) 24#32) : BitVec 32) 0#32 = 1#1) ↔ b.val < 24 := by decide +kernel
  exact this (i 0)

/-- A matrix ends at its sixth chunk. -/
theorem cond4_iff : k0_cond4 i = 1#1 ↔ (i 1).val = 5 := by
  have : ∀ b : Fin 6, (Scalar.cmpi .ne (Scalar.extui (Scalar.cmpi .eq (BitVec.ofNat 32 b.val) 5#32) : BitVec 32) 0#32 = 1#1) ↔ b.val = 5 := by decide +kernel
  exact this (i 1)

end

end Cert.KernelIdeal.Track
-- ==== Proof.KernelIdealDelta.lean ====
module

public import proofs.«01_k».proof.Proof.KernelIdealPoint

/-! The block of the weights' change that a grid point writes: eight trips, each a column of 128, each eight bands of 128 rows. -/

@[expose] public section
set_option maxRecDepth 16384
noncomputable section

namespace Cert.KernelIdeal.Track
open Cert.KernelIdeal Cert.KernelIdeal.Gen
open Idealize.ShloMosaic Idealize.ShloMosaic.TcCoe Idealize.ShloMosaic.Tactic

/-- An entry of the weights' change, from the weight block, the kept gradient, the kept scales and the kept factor. -/
def changeAt (x4 : S1x1024x1024.Idx → EReal) (x18 : S6x1024x1024.Idx → EReal) (x19 : S48x128.Idx → EReal) (f : EReal) (J : Fin 6) (q e : Fin 1024) : EReal :=
  x18 (ix3 J q e) * (x19 (ix2 ⟨8 * J.val + e.val / 128, by omega⟩ ⟨e.val % 128, Nat.mod_lt _ (by norm_num)⟩) * -(((1 / 1000 : ℝ) : EReal) * f))
    + x4 (ix3 0 q e) * ((-1 / 10000 : ℝ) : EReal)

/-- The same, at a place of the block. -/
def change (x4 : S1x1024x1024.Idx → EReal) (x18 : S6x1024x1024.Idx → EReal) (x19 : S48x128.Idx → EReal) (f : EReal) (J : Fin 6) (y : S1x1024x1024.Idx) : EReal :=
  changeAt x4 x18 x19 f J (y 1) (y 2)

/-- The row that a trip multiplies the gradient by. -/
theorem pay8_apply (f : EReal) (x : Vec Ideal S1x128 .f32) (l : Fin 128) :
    k0_pay8 (F := Ideal) f x (ix2 0 l) = x (ix2 0 l) * -(((1 / 1000 : ℝ) : EReal) * f) := by
  have h : k0_pay8 (F := Ideal) f x (ix2 0 l) = x (ix2 0 l) * (Ideal.ofBits .f32 0x00000000#32 - ((1 / 1000 : ℝ) : EReal) * f) := rfl
  rw [h]
  refine congrArg (x (ix2 0 l) * ·) ?_
  have z : Ideal.ofBits .f32 0x00000000#32 = 0 := by simp [Ideal.ofBits, Ideal.ieee]
  rw [z]
  exact zero_sub _

/-- What a trip stores in a band, entry by entry. -/
theorem pay2_apply (x : FVec Ideal S1x128 .f32) (g : Vec Ideal S1x128x128 .bf16) (w : Vec Ideal S1x128x128 .f32) (a l : Fin 128) :
    k0_pay2 (F := Ideal) x g w (ix3 0 a l) = g (ix3 0 a l) * x (ix2 0 l) + w (ix3 0 a l) * ((-1 / 10000 : ℝ) : EReal) := by
  pointwise [k0_pay2]
  rfl

/-- A trip of the loop is one of eight. -/
theorem trips1_lt (k : Fin k0_t1_loop.trips) : k.val < 8 := Nat.lt_of_lt_of_le k.isLt k0_t1_abs.2.1

/-- The row of the kept scales that a trip reads. -/
theorem off1_eq (i : grid0.Coords) (k : Fin k0_t1_loop.trips) : k0_off1 i k = ![8 * chunkOf i + k.val, 0] := by
  have h : ∀ (j : Fin 6) (k : Fin k0_t1_loop.trips), (Scalar.indexCast (Scalar.addi (Scalar.muli (BitVec.ofNat 32 j.val) 8#32) (Scf.iv 0#32 1#32 k)) : BitVec 32).toNat = 8 * j.val + k.val := by decide +kernel
  exact congrArg (fun x => ![x, 0]) (h (i 1) k)

/-- The column that a trip works on. -/
theorem col1_eq : ∀ k : Fin k0_t1_loop.trips, (Scalar.indexCast (Scalar.muli (Scf.iv 0#32 1#32 k) 128#32) : BitVec 32).toNat = 128 * k.val := by
  decide +kernel

/-- The chunk of the kept gradient that a trip reads. -/
theorem chunk1_eq : ∀ j : Fin 6, (Scalar.indexCast (BitVec.ofNat 32 j.val) : BitVec 32).toNat = j.val := by
  decide +kernel

/-- Where band 0 of a trip lies in the kept gradient. -/
theorem off2_eq (i : grid0.Coords) (k : Fin k0_t1_loop.trips) : k0_off2 i k = ![chunkOf i, 0, 128 * k.val] :=
  congrArg₂ (fun x y => ![x, 0, y]) (chunk1_eq (i 1)) (col1_eq k)

/-- Where band 0 of a trip lies in the block of weights. -/
theorem off3_eq (k : Fin k0_t1_loop.trips) : k0_off3 k = ![0, 0, 128 * k.val] :=
  congrArg (fun y => ![0, 0, y]) (col1_eq k)

/-- Where band 1 of a trip lies in the kept gradient. -/
theorem off4_eq (i : grid0.Coords) (k : Fin k0_t1_loop.trips) : k0_off4 i k = ![chunkOf i, 128, 128 * k.val] :=
  congrArg₂ (fun x y => ![x, 128, y]) (chunk1_eq (i 1)) (col1_eq k)

/-- Where band 1 of a trip lies in the block of weights. -/
theorem off5_eq (k : Fin k0_t1_loop.trips) : k0_off5 k = ![0, 128, 128 * k.val] :=
  congrArg (fun y => ![0, 128, y]) (col1_eq k)

/-- Where band 2 of a trip lies in the kept gradient. -/
theorem off6_eq (i : grid0.Coords) (k : Fin k0_t1_loop.trips) : k0_off6 i k = ![chunkOf i, 256, 128 * k.val] :=
  congrArg₂ (fun x y => ![x, 256, y]) (chunk1_eq (i 1)) (col1_eq k)

/-- Where band 2 of a trip lies in the block of weights. -/
theorem off7_eq (k : Fin k0_t1_loop.trips) : k0_off7 k = ![0, 256, 128 * k.val] :=
  congrArg (fun y => ![0, 256, y]) (col1_eq k)

/-- Where band 3 of a trip lies in the kept gradient. -/
theorem off8_eq (i : grid0.Coords) (k : Fin k0_t1_loop.trips) : k0_off8 i k = ![chunkOf i, 384, 128 * k.val] :=
  congrArg₂ (fun x y => ![x, 384, y]) (chunk1_eq (i 1)) (col1_eq k)

/-- Where band 3 of a trip lies in the block of weights. -/
theorem off9_eq (k : Fin k0_t1_loop.trips) : k0_off9 k = ![0, 384, 128 * k.val] :=
  congrArg (fun y => ![0, 384, y]) (col1_eq k)

/-- Where band 4 of a trip lies in the kept gradient. -/
theorem off10_eq (i : grid0.Coords) (k : Fin k0_t1_loop.trips) : k0_off10 i k = ![chunkOf i, 512, 128 * k.val] :=
  congrArg₂ (fun x y => ![x, 512, y]) (chunk1_eq (i 1)) (col1_eq k)

/-- Where band 4 of a trip lies in the block of weights. -/
theorem off11_eq (k : Fin k0_t1_loop.trips) : k0_off11 k = ![0, 512, 128 * k.val] :=
  congrArg (fun y => ![0, 512, y]) (col1_eq k)

/-- Where band 5 of a trip lies in the kept gradient. -/
theorem off12_eq (i : grid0.Coords) (k : Fin k0_t1_loop.trips) : k0_off12 i k = ![chunkOf i, 640, 128 * k.val] :=
  congrArg₂ (fun x y => ![x, 640, y]) (chunk1_eq (i 1)) (col1_eq k)

/-- Where band 5 of a trip lies in the block of weights. -/
theorem off13_eq (k : Fin k0_t1_loop.trips) : k0_off13 k = ![0, 640, 128 * k.val] :=
  congrArg (fun y => ![0, 640, y]) (col1_eq k)

/-- Where band 6 of a trip lies in the kept gradient. -/
theorem off14_eq (i : grid0.Coords) (k : Fin k0_t1_loop.trips) : k0_off14 i k = ![chunkOf i, 768, 128 * k.val] :=
  congrArg₂ (fun x y => ![x, 768, y]) (chunk1_eq (i 1)) (col1_eq k)

/-- Where band 6 of a trip lies in the block of weights. -/
theorem off15_eq (k : Fin k0_t1_loop.trips) : k0_off15 k = ![0, 768, 128 * k.val] :=
  congrArg (fun y => ![0, 768, y]) (col1_eq k)

/-- Where band 7 of a trip lies in the kept gradient. -/
theorem off16_eq (i : grid0.Coords) (k : Fin k0_t1_loop.trips) : k0_off16 i k = ![chunkOf i, 896, 128 * k.val] :=
  congrArg₂ (fun x y => ![x, 896, y]) (chunk1_eq (i 1)) (col1_eq k)

/-- Where band 7 of a trip lies in the block of weights. -/
theorem off17_eq (k : Fin k0_t1_loop.trips) : k0_off17 k = ![0, 896, 128 * k.val] :=
  congrArg (fun y => ![0, 896, y]) (col1_eq k)

section
variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)
variable (h1 : k0_cond1 i = 1#1) (f : Elt Ideal .f32) (v0 : BitVec 32)
variable (X4 : BufTy.Contents (Elt Ideal) arg4.view.ty) (X18 : BufTy.Contents (Elt Ideal) arg18.view.ty) (X19 : BufTy.Contents (Elt Ideal) arg19.view.ty)

/-- One band of a trip: what it stores is the weights' change there. -/
theorem band_apply (k : Fin k0_t1_loop.trips) (r : Fin 8) (o1 : Fin 2 → ℕ) (o2 o3 : Fin 3 → ℕ) (e1 : o1 = ![8 * chunkOf i + k.val, 0]) (e2 : o2 = ![chunkOf i, 128 * r.val, 128 * k.val]) (e3 : o3 = ![0, 128 * r.val, 128 * k.val])
    (b1 : ∀ a, o1 a + S1x128.size a ≤ S48x128.size a) (b2 : ∀ a, o2 a + S1x128x128.size a ≤ S6x1024x1024.size a) (b3 : ∀ a, o3 a + S1x128x128.size a ≤ S1x1024x1024.size a) (x : (Rect.unit (s := S1x1024x1024) o3 S1x128x128.size b3).shape.Idx) :
    k0_pay2 (F := Ideal) (k0_pay8 f (View.readAt (Elt Ideal) arg19.view (Rect.unit (s := S48x128) o1 S1x128.size b1).toLoadRect X19))
        (View.readAt (Elt Ideal) arg18.view (Rect.unit (s := S6x1024x1024) o2 S1x128x128.size b2).toLoadRect X18)
        (View.readAt (Elt Ideal) arg4.view (Rect.unit (s := S1x1024x1024) o3 S1x128x128.size b3).toLoadRect X4) x
      = (change (arg4.view.read (Elt Ideal) X4) (arg18.view.read (Elt Ideal) X18) (arg19.view.read (Elt Ideal) X19) f (i 1)) ((Rect.unit (s := S1x1024x1024) o3 S1x128x128.size b3).emb x) := by
  subst e1 e2 e3
  have hk := trips1_lt k
  obtain ⟨a, l, rfl⟩ : ∃ (a l : Fin 128), x = (ix3 0 a l : S1x128x128.Idx) := ⟨x 1, x 2, by
    funext n
    fin_cases n
    · exact Subsingleton.elim (α := Fin 1) _ _
    · rfl
    · rfl⟩
  have hy : (Rect.unit (s := S1x1024x1024) ![0, 128 * r.val, 128 * k.val] S1x128x128.size b3).emb (ix3 0 a l : S1x128x128.Idx)
      = (ix3 0 ⟨128 * r.val + a.val, by omega⟩ ⟨128 * k.val + l.val, by omega⟩ : S1x1024x1024.Idx) := by
    refine Rect.emb_eq_of_coords _ _ _ fun n => ?_
    fin_cases n
    · rfl
    · show 128 * r.val + a.val = 128 * r.val + 1 * a.val
      omega
    · show 128 * k.val + l.val = 128 * k.val + 1 * l.val
      omega
  refine (pay2_apply _ _ _ a l).trans ?_
  refine Eq.trans ?_ (congrArg (change (arg4.view.read (Elt Ideal) X4) (arg18.view.read (Elt Ideal) X18) (arg19.view.read (Elt Ideal) X19) f (i 1)) hy).symm
  show _ = changeAt _ _ _ _ _ _ _
  unfold changeAt
  refine congrArg₂ (· + ·) (congrArg₂ (· * ·) ?_ ((pay8_apply f _ l).trans (congrArg (· * _) ?_))) (congrArg (· * _) ?_)
  · rw [View.readAt_eq_ld]
    refine View.ld_unit_apply_of _ _ _ _ _ _ fun n => ?_
    fin_cases n
    · rfl
    · rfl
    · rfl
  · rw [View.readAt_eq_ld]
    refine View.ld_unit_apply_of _ _ _ _ _ _ fun n => ?_
    fin_cases n
    · show 8 * (i 1).val + (128 * k.val + l.val) / 128 = 8 * (i 1).val + k.val + 0
      omega
    · show (128 * k.val + l.val) % 128 = 0 + l.val
      omega
  · rw [View.readAt_eq_ld]
    refine View.ld_unit_apply_of _ _ _ _ _ _ fun n => ?_
    fin_cases n
    · rfl
    · rfl
    · rfl

/-- A place is in the band its coordinates say. -/
theorem band_mem (k : Fin k0_t1_loop.trips) (r : Fin 8) (o3 : Fin 3 → ℕ) (e3 : o3 = ![0, 128 * r.val, 128 * k.val]) (b3 : ∀ a, o3 a + S1x128x128.size a ≤ S1x1024x1024.size a) (q e : Fin 1024)
    (hq : q.val / 128 = r.val) (he : e.val / 128 = k.val) : (ix3 0 q e : S1x1024x1024.Idx) ∈ (Rect.unit (s := S1x1024x1024) o3 S1x128x128.size b3).set := by
  subst e3
  refine (Rect.unit (s := S1x1024x1024) ![0, 128 * r.val, 128 * k.val] S1x128x128.size b3).mem_set.mpr fun n => ?_
  fin_cases n
  · exact ⟨0, Nat.one_pos, rfl⟩
  · exact ⟨q.val % 128, Nat.mod_lt _ (by norm_num), by show q.val = 128 * r.val + 1 * (q.val % 128); omega⟩
  · exact ⟨e.val % 128, Nat.mod_lt _ (by norm_num), by show e.val = 128 * k.val + 1 * (e.val % 128); omega⟩

/-- Every store of a trip is the weights' change at its place. -/
theorem trip1_agree (k : Fin k0_t1_loop.trips) : ∀ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 k), ∀ x : p.1.shape.Idx, p.2 x = (change (arg4.view.read (Elt Ideal) X4) (arg18.view.read (Elt Ideal) X18) (arg19.view.read (Elt Ideal) X19) f (i 1)) (p.1.emb x) := by
  unfold tripL_k0_t1 trip_k0_t1
  dsimp only
  refine List.forall_mem_cons.mpr ⟨fun x => band_apply i arg4 arg18 arg19 f X4 X18 X19 k 7 (k0_off1 i k) (k0_off16 i k) (k0_off17 k) (off1_eq i k) (off16_eq i k) (off17_eq k) _ _ _ x, ?_⟩
  refine List.forall_mem_cons.mpr ⟨fun x => band_apply i arg4 arg18 arg19 f X4 X18 X19 k 6 (k0_off1 i k) (k0_off14 i k) (k0_off15 k) (off1_eq i k) (off14_eq i k) (off15_eq k) _ _ _ x, ?_⟩
  refine List.forall_mem_cons.mpr ⟨fun x => band_apply i arg4 arg18 arg19 f X4 X18 X19 k 5 (k0_off1 i k) (k0_off12 i k) (k0_off13 k) (off1_eq i k) (off12_eq i k) (off13_eq k) _ _ _ x, ?_⟩
  refine List.forall_mem_cons.mpr ⟨fun x => band_apply i arg4 arg18 arg19 f X4 X18 X19 k 4 (k0_off1 i k) (k0_off10 i k) (k0_off11 k) (off1_eq i k) (off10_eq i k) (off11_eq k) _ _ _ x, ?_⟩
  refine List.forall_mem_cons.mpr ⟨fun x => band_apply i arg4 arg18 arg19 f X4 X18 X19 k 3 (k0_off1 i k) (k0_off8 i k) (k0_off9 k) (off1_eq i k) (off8_eq i k) (off9_eq k) _ _ _ x, ?_⟩
  refine List.forall_mem_cons.mpr ⟨fun x => band_apply i arg4 arg18 arg19 f X4 X18 X19 k 2 (k0_off1 i k) (k0_off6 i k) (k0_off7 k) (off1_eq i k) (off6_eq i k) (off7_eq k) _ _ _ x, ?_⟩
  refine List.forall_mem_cons.mpr ⟨fun x => band_apply i arg4 arg18 arg19 f X4 X18 X19 k 1 (k0_off1 i k) (k0_off4 i k) (k0_off5 k) (off1_eq i k) (off4_eq i k) (off5_eq k) _ _ _ x, ?_⟩
  refine List.forall_mem_cons.mpr ⟨fun x => band_apply i arg4 arg18 arg19 f X4 X18 X19 k 0 (k0_off1 i k) (k0_off2 i k) (k0_off3 k) (off1_eq i k) (off2_eq i k) (off3_eq k) _ _ _ x, ?_⟩
  exact fun p hp => absurd hp List.not_mem_nil

/-- A trip's stores hold every place of its columns. -/
theorem trip1_cover (k : Fin k0_t1_loop.trips) (q e : Fin 1024) (he : e.val / 128 = k.val) : ∃ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 k), (ix3 0 q e : S1x1024x1024.Idx) ∈ p.1.set := by
  unfold tripL_k0_t1 trip_k0_t1
  dsimp only
  by_cases t7 : q.val / 128 = 7
  · exact ⟨_, List.mem_cons_self, band_mem k 7 (k0_off17 k) (off17_eq k) (k0_off17_inb i k h1) q e t7 he⟩
  by_cases t6 : q.val / 128 = 6
  · exact ⟨_, List.mem_cons_of_mem _ (List.mem_cons_self), band_mem k 6 (k0_off15 k) (off15_eq k) (k0_off15_inb i k h1) q e t6 he⟩
  by_cases t5 : q.val / 128 = 5
  · exact ⟨_, List.mem_cons_of_mem _ (List.mem_cons_of_mem _ (List.mem_cons_self)), band_mem k 5 (k0_off13 k) (off13_eq k) (k0_off13_inb i k h1) q e t5 he⟩
  by_cases t4 : q.val / 128 = 4
  · exact ⟨_, List.mem_cons_of_mem _ (List.mem_cons_of_mem _ (List.mem_cons_of_mem _ (List.mem_cons_self))), band_mem k 4 (k0_off11 k) (off11_eq k) (k0_off11_inb i k h1) q e t4 he⟩
  by_cases t3 : q.val / 128 = 3
  · exact ⟨_, List.mem_cons_of_mem _ (List.mem_cons_of_mem _ (List.mem_cons_of_mem _ (List.mem_cons_of_mem _ (List.mem_cons_self)))), band_mem k 3 (k0_off9 k) (off9_eq k) (k0_off9_inb i k h1) q e t3 he⟩
  by_cases t2 : q.val / 128 = 2
  · exact ⟨_, List.mem_cons_of_mem _ (List.mem_cons_of_mem _ (List.mem_cons_of_mem _ (List.mem_cons_of_mem _ (List.mem_cons_of_mem _ (List.mem_cons_self))))), band_mem k 2 (k0_off7 k) (off7_eq k) (k0_off7_inb i k h1) q e t2 he⟩
  by_cases t1 : q.val / 128 = 1
  · exact ⟨_, List.mem_cons_of_mem _ (List.mem_cons_of_mem _ (List.mem_cons_of_mem _ (List.mem_cons_of_mem _ (List.mem_cons_of_mem _ (List.mem_cons_of_mem _ (List.mem_cons_self)))))), band_mem k 1 (k0_off5 k) (off5_eq k) (k0_off5_inb i k h1) q e t1 he⟩
  by_cases t0 : q.val / 128 = 0
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), band_mem k 0 (k0_off3 k) (off3_eq k) (k0_off3_inb i k h1) q e t0 he⟩
  exact absurd q.isLt (by omega)

/-- Every store of the trips before `n` is the weights' change at its place, and they hold every place of their columns. -/
theorem trips1_agree (n : ℕ) (hn : n ≤ k0_t1_loop.trips) :
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 n), ∀ x : p.1.shape.Idx, p.2 x = (change (arg4.view.read (Elt Ideal) X4) (arg18.view.read (Elt Ideal) X18) (arg19.view.read (Elt Ideal) X19) f (i 1)) (p.1.emb x))
    ∧ ∀ q e : Fin 1024, e.val / 128 < n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 n), (ix3 0 q e : S1x1024x1024.Idx) ∈ p.1.set := by
  induction n with
  | zero => exact ⟨fun p hp => absurd hp List.not_mem_nil, fun q e h => absurd h (Nat.not_lt_zero _)⟩
  | succ n ih =>
    have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 ⟨n, hn⟩
    obtain ⟨ih1, ih2⟩ := ih (Nat.le_of_succ_le hn)
    refine ⟨fun p hp => ?_, fun q e h => ?_⟩
    · rcases List.mem_append.mp (hs ▸ hp) with hp | hp
      · exact trip1_agree c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 f v0 X4 X18 X19 ⟨n, hn⟩ p hp
      · exact ih1 p hp
    · by_cases he : e.val / 128 = n
      · obtain ⟨p, hp, hm⟩ := trip1_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 f v0 X4 X18 X19 ⟨n, hn⟩ q e he
        exact ⟨p, hs ▸ List.mem_append_left _ hp, hm⟩
      · obtain ⟨p, hp, hm⟩ := ih2 q e (by omega)
        exact ⟨p, hs ▸ List.mem_append_right _ hp, hm⟩

/-- After the trips the block reads the weights' change. -/
theorem change_read (Y11 : BufTy.Contents (Elt Ideal) arg11.view.ty) (q e : Fin 1024) :
    arg11.view.read (Elt Ideal) (arg11.view.writes (Elt Ideal) Y11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (BitVec.ofNat 32 (i 1).val) v0 h1 f X4 X18 X19 k0_t1_loop.trips)) (ix3 0 q e) = (change (arg4.view.read (Elt Ideal) X4) (arg18.view.read (Elt Ideal) X18) (arg19.view.read (Elt Ideal) X19) f (i 1)) (ix3 0 q e) := by
  obtain ⟨ha, hc⟩ := trips1_agree c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 f v0 X4 X18 X19 k0_t1_loop.trips le_rfl
  have h8 : (8 : ℕ) ≤ k0_t1_loop.trips := by decide +kernel
  exact View.read_writes_apply_of_pieces (v := arg11.view) (f := Y11) (change (arg4.view.read (Elt Ideal) X4) (arg18.view.read (Elt Ideal) X18) (arg19.view.read (Elt Ideal) X19) f (i 1)) _ ha _ (hc q e (by omega))
end

end Cert.KernelIdeal.Track
-- ==== Proof.KernelIdealStep.lean ====
module

public import proofs.«01_k».proof.Proof.KernelIdealReads
public import proofs.«01_k».proof.Proof.KernelIdealDelta

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic

/-- What the kernel reads: each input's block at the points of the grid, these counted `n = 6 b + j`. -/
structure Ins where
  st : ℕ → S24.Idx → BitVec 32
  pv : ℕ → S24.Idx → EReal
  w : ℕ → S1x1024x1024.Idx → EReal
  g : ℕ → S1x1024x1024.Idx → EReal
  p : ℕ → S1x320x1024.Idx → EReal
  mc : ℕ → S1x320x1024.Idx → EReal
  ms : ℕ → S1x320x48.Idx → EReal
  vc : ℕ → S1x320x1024.Idx → EReal
  vs : ℕ → S1x320x48.Idx → EReal

/-- A matrix's number, as an index. -/
def at24 (b : ℕ) : Fin 24 := ⟨b % 24, Nat.mod_lt _ (by norm_num)⟩

namespace Ins
variable (I : Ins)

/-- The scale of column `e` of the chunk at point `n`. -/
def S (n e : ℕ) : EReal :=
  scol (I.g n) (I.p n) (I.mc n) (I.vc n) (msx (I.ms (6 * (n / 6)))) (vsx (I.vs (6 * (n / 6)))) (I.st n (ix1 (at24 (n / 6)))) (n % 6) e

/-- What column `e` of the chunk at point `n` adds to the norm, before it is squared. -/
def SG (n e : ℕ) : EReal := I.S n e * Ideal.sqrt (gcol (I.g n) e)

/-- Lane `l` of the norm of matrix `b` after `k` chunks. -/
def N (b k l : ℕ) : EReal := ∑ x ∈ Finset.range k, ∑ y ∈ Finset.range 8, I.SG (6 * b + x) (128 * y + l) * I.SG (6 * b + x) (128 * y + l)

/-- The factor of matrix `b`. -/
def F (b : ℕ) : EReal := factorS (fun l => I.N b 6 l.val) (I.pv (6 * b + 5) (ix1 (at24 b)))

/-- The norm of matrix `b`, limited. -/
def NV (b : ℕ) : EReal := I.F b * normS fun l => I.N b 6 l.val

/-- The greatest absolute value of the new first moments in row `q` of block `d` of the chunk at point `n`. -/
def T (n d : ℕ) (q : Fin 320) : EReal := mtop (I.g n) (I.p n) (I.mc n) (msx (I.ms (6 * (n / 6)))) (n % 6) d q

/-- What the scratch buffers hold before point `n`. -/
structure Inv (n : ℕ) (x18 : S6x1024x1024.Idx → EReal) (x19 : S48x128.Idx → EReal) (x23 x24 : S320x128.Idx → EReal) (x27 : S1x128.Idx → EReal) (x28 : S1.Idx → EReal) (x25 : S320x128.Idx → EReal) : Prop where
  grads : ∀ (p : Fin 6) (q e : Fin 1024) (b : ℕ), b < 24 → 6 * b + p.val < n → n ≤ 6 * b + p.val + 6 → x18 (ix3 p q e) = I.g (6 * b + p.val) (ix3 0 q e)
  scales : ∀ (r : Fin 48) (l : Fin 128) (b : ℕ), b < 24 → 6 * b + r.val / 8 < n → n ≤ 6 * b + r.val / 8 + 6 → x19 (ix2 r l) = I.S (6 * b + r.val / 8) (128 * (r.val % 8) + l.val)
  first : ∀ b : ℕ, b < 24 → 6 * b < n → n ≤ 6 * b + 6 → x23 = msx (I.ms (6 * b))
  second : ∀ b : ℕ, b < 24 → 6 * b < n → n ≤ 6 * b + 6 → x24 = vsx (I.vs (6 * b))
  lanes : ∀ (l : Fin 128) (b : ℕ), b < 24 → 6 * b < n → n ≤ 6 * b + 6 → x27 (ix2 0 l) = I.N b (n - 6 * b) l.val
  factor : ∀ b : ℕ, b < 24 → 6 * b + 5 < n → n ≤ 6 * b + 11 → x28 (ix1 0) = I.F b
  tops : ∀ (q : Fin 320) (a : Fin 128) (b : ℕ), b < 24 → a.val < 48 → 6 * b + a.val / 8 < n → n ≤ 6 * b + 6 → x25 (ix2 q a) = I.T (6 * b + a.val / 8) (a.val % 8) q

/-- The rows of the block of scales that are complete before point `n`, the block being the one at point `k`. -/
def Cols (k n : ℕ) (x12 : S8x6144.Idx → EReal) : Prop :=
  ∀ (a : Fin 8) (d : Fin 6144) (b : ℕ), b < 24 → b / 8 = min (k / 6) 23 / 8 → b % 8 = a.val → 6 * b + d.val / 1024 < n → x12 (ix2 a d) = I.S (6 * b + d.val / 1024) (d.val % 1024)

/-- The norms that are complete before point `n`. -/
def Norms (n : ℕ) (x13 : S24.Idx → EReal) : Prop :=
  ∀ b : Fin 24, 6 * b.val + 5 < n → x13 (ix1 b) = I.NV b.val

/-- The scales of the new first moments, in the block as it stands when matrix `b`'s last point is done. -/
def Outs (n : ℕ) (x15 : S1x320x48.Idx → EReal) : Prop :=
  ∀ (q : Fin 320) (l : Fin 48) (b : ℕ), b < 24 → (n = 6 * b + 6 ∨ b = 23 ∧ 144 ≤ n) → x15 (ix3 0 q l) = scaleS (I.T (6 * b + l.val / 8) (l.val % 8) q)

/-- The block of the weights' change at point `n`, from the second matrix's points on: the change of the matrix before. -/
def Delta (n : ℕ) (x11 : S1x1024x1024.Idx → EReal) : Prop :=
  6 ≤ n → ∀ q e : Fin 1024, x11 (ix3 0 q e) = I.g (n - 6) (ix3 0 q e) * (I.S (n - 6) e.val * -(((1 / 1000 : ℝ) : EReal) * I.F (n / 6 - 1))) + I.w n (ix3 0 q e) * ((-1 / 10000 : ℝ) : EReal)

end Ins

section
variable (c : Dev nD) (i : grid0.Coords)
variable (arg2 : Memref sig .tc .smem S24 .i32) (harg2 : arg2.IsWhole)
  (arg3 : Memref sig .tc .smem S24 .f32) (harg3 : arg3.IsWhole)
  (arg4 : Memref sig .tc .vmem S1x1024x1024 .f32) (harg4 : arg4.IsWhole)
  (arg5 : Memref sig .tc .vmem S1x1024x1024 .bf16) (harg5 : arg5.IsWhole)
  (arg6 : Memref sig .tc .vmem S1x320x1024 .bf16) (harg6 : arg6.IsWhole)
  (arg7 : Memref sig .tc .vmem S1x320x1024 .fp8e4m3) (harg7 : arg7.IsWhole)
  (arg8 : Memref sig .tc .vmem S1x320x48 .f32) (harg8 : arg8.IsWhole)
  (arg9 : Memref sig .tc .vmem S1x320x1024 .fp8e4m3) (harg9 : arg9.IsWhole)
  (arg10 : Memref sig .tc .vmem S1x320x48 .f32) (harg10 : arg10.IsWhole)
  (arg11 : Memref sig .tc .vmem S1x1024x1024 .f32) (harg11 : arg11.IsWhole)
  (arg12 : Memref sig .tc .vmem S8x6144 .f32) (harg12 : arg12.IsWhole)
  (arg13 : Memref sig .tc .smem S24 .f32) (harg13 : arg13.IsWhole)
  (arg14 : Memref sig .tc .vmem S1x320x1024 .fp8e4m3) (harg14 : arg14.IsWhole)
  (arg15 : Memref sig .tc .vmem S1x320x48 .f32) (harg15 : arg15.IsWhole)
  (arg16 : Memref sig .tc .vmem S1x320x1024 .fp8e4m3) (harg16 : arg16.IsWhole)
  (arg17 : Memref sig .tc .vmem S1x320x48 .f32) (harg17 : arg17.IsWhole)
  (arg18 : Memref sig .tc .vmem S6x1024x1024 .bf16) (harg18 : arg18.IsWhole)
  (arg19 : Memref sig .tc .vmem S48x128 .f32) (harg19 : arg19.IsWhole)
  (arg20 : Memref sig .tc .vmem S320x256 .f32) (harg20 : arg20.IsWhole)
  (arg21 : Memref sig .tc .vmem S320x1024 .f32) (harg21 : arg21.IsWhole)
  (arg22 : Memref sig .tc .vmem S320x1024 .f32) (harg22 : arg22.IsWhole)
  (arg23 : Memref sig .tc .vmem S320x128 .f32) (harg23 : arg23.IsWhole)
  (arg24 : Memref sig .tc .vmem S320x128 .f32) (harg24 : arg24.IsWhole)
  (arg25 : Memref sig .tc .vmem S320x128 .f32) (harg25 : arg25.IsWhole)
  (arg26 : Memref sig .tc .vmem S320x128 .f32) (harg26 : arg26.IsWhole)
  (arg27 : Memref sig .tc .vmem S1x128 .f32) (harg27 : arg27.IsWhole)
  (arg28 : Memref sig .tc .smem S1 .f32) (harg28 : arg28.IsWhole)

variable (I : Ins)
variable (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)
variable (Y11 : BufTy.Contents (Elt Ideal) arg11.view.ty) (Y12 : BufTy.Contents (Elt Ideal) arg12.view.ty) (Y13 : BufTy.Contents (Elt Ideal) arg13.view.ty) (Y18 : BufTy.Contents (Elt Ideal) arg18.view.ty) (Y19 : BufTy.Contents (Elt Ideal) arg19.view.ty) (Y23 : BufTy.Contents (Elt Ideal) arg23.view.ty) (Y24 : BufTy.Contents (Elt Ideal) arg24.view.ty) (Y27 : BufTy.Contents (Elt Ideal) arg27.view.ty) (Y28 : BufTy.Contents (Elt Ideal) arg28.view.ty) (Y15 : BufTy.Contents (Elt Ideal) arg15.view.ty) (Y25 : BufTy.Contents (Elt Ideal) arg25.view.ty) (Z11 : BufTy.Contents (Elt Ideal) arg11.view.ty) (Z12 : BufTy.Contents (Elt Ideal) arg12.view.ty) (Z13 : BufTy.Contents (Elt Ideal) arg13.view.ty) (Z18 : BufTy.Contents (Elt Ideal) arg18.view.ty) (Z19 : BufTy.Contents (Elt Ideal) arg19.view.ty) (Z23 : BufTy.Contents (Elt Ideal) arg23.view.ty) (Z24 : BufTy.Contents (Elt Ideal) arg24.view.ty) (Z27 : BufTy.Contents (Elt Ideal) arg27.view.ty) (Z28 : BufTy.Contents (Elt Ideal) arg28.view.ty) (Z15 : BufTy.Contents (Elt Ideal) arg15.view.ty) (Z25 : BufTy.Contents (Elt Ideal) arg25.view.ty)

/-- A point of the grid keeps what the scratch buffers hold, and completes a part of the block of scales and of the norms. -/
theorem point_step (n : ℕ) (hn : n < 150) (hi0 : (i 0).val = n / 6) (hi1 : (i 1).val = n % 6)
    (h2 : n < 144 → (arg2.view.read (Elt Ideal) X2) = I.st n) (h3 : (arg3.view.read (Elt Ideal) X3) = I.pv n) (h4 : (arg4.view.read (Elt Ideal) X4) = I.w n) (h5 : n < 144 → (arg5.view.read (Elt Ideal) X5) = I.g n) (h6 : n < 144 → (arg6.view.read (Elt Ideal) X6) = I.p n)
    (h7 : n < 144 → (arg7.view.read (Elt Ideal) X7) = I.mc n) (h8 : n < 144 → (arg8.view.read (Elt Ideal) X8) = I.ms n) (h9 : n < 144 → (arg9.view.read (Elt Ideal) X9) = I.vc n) (h10 : n < 144 → (arg10.view.read (Elt Ideal) X10) = I.vs n)
    (hI : I.Inv n (arg18.view.read (Elt Ideal) Y18) (arg19.view.read (Elt Ideal) Y19) (arg23.view.read (Elt Ideal) Y23) (arg24.view.read (Elt Ideal) Y24) (arg27.view.read (Elt Ideal) Y27) (arg28.view.read (Elt Ideal) Y28) (arg25.view.read (Elt Ideal) Y25))
    (hC : I.Cols n n (arg12.view.read (Elt Ideal) Y12)) (hN : I.Norms n (arg13.view.read (Elt Ideal) Y13)) (hO : 144 ≤ n → I.Outs n (arg15.view.read (Elt Ideal) Y15))
    (hP : Point c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X2 X3 X4 X5 X6 X7 X8 X9 X10 Y11 Y12 Y13 Y18 Y19 Y23 Y24 Y27 Y28 Y15 Y25 Z11 Z12 Z13 Z18 Z19 Z23 Z24 Z27 Z28 Z15 Z25) :
    I.Inv (n + 1) (arg18.view.read (Elt Ideal) Z18) (arg19.view.read (Elt Ideal) Z19) (arg23.view.read (Elt Ideal) Z23) (arg24.view.read (Elt Ideal) Z24) (arg27.view.read (Elt Ideal) Z27) (arg28.view.read (Elt Ideal) Z28) (arg25.view.read (Elt Ideal) Z25)
    ∧ I.Cols n (n + 1) (arg12.view.read (Elt Ideal) Z12) ∧ I.Norms (n + 1) (arg13.view.read (Elt Ideal) Z13) ∧ I.Delta n (arg11.view.read (Elt Ideal) Z11) ∧ I.Outs (n + 1) (arg15.view.read (Elt Ideal) Z15) := by
  obtain ⟨B27, B25, hA1, hA0, hA2⟩ := hP
  have hD : I.Delta n (arg11.view.read (Elt Ideal) Z11) := by
    intro hn6 q e
    have c1 : k0_cond1 i = 1#1 := (cond1_iff i).mpr (by omega)
    unfold After1 at hA1
    rw [dif_pos c1] at hA1
    rw [hA1]
    refine (change_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 c1 _ (base i) X4 Y18 Y19 Y11 q e).trans ?_
    have en : 6 * (n / 6 - 1) + n % 6 = n - 6 := by omega
    have eg : arg18.view.read (Elt Ideal) Y18 (ix3 (i 1 : Fin 6) q e) = I.g (n - 6) (ix3 0 q e) := by
      have h := hI.grads (i 1) q e (n / 6 - 1) (by omega) (by rw [hi1]; omega) (by rw [hi1]; omega)
      rwa [hi1, en] at h
    have es : arg19.view.read (Elt Ideal) Y19 (ix2 ⟨8 * (i 1).val + e.val / 128, by have := chunk_lt i; omega⟩ ⟨e.val % 128, Nat.mod_lt _ (by norm_num)⟩) = I.S (n - 6) e.val := by
      have e8 : (8 * (i 1).val + e.val / 128) / 8 = n % 6 := by omega
      have h := hI.scales ⟨8 * (i 1).val + e.val / 128, by have := chunk_lt i; omega⟩ ⟨e.val % 128, Nat.mod_lt _ (by norm_num)⟩ (n / 6 - 1) (by omega)
        (by show 6 * (n / 6 - 1) + (8 * (i 1).val + e.val / 128) / 8 < n; omega) (by show n ≤ 6 * (n / 6 - 1) + (8 * (i 1).val + e.val / 128) / 8 + 6; omega)
      refine h.trans ?_
      show I.S (6 * (n / 6 - 1) + (8 * (i 1).val + e.val / 128) / 8) (128 * ((8 * (i 1).val + e.val / 128) % 8) + e.val % 128) = _
      rw [e8, en]
      exact congrArg _ (by omega)
    have ef : View.readAt (Elt Ideal) arg28.view (Rect.unit (s := S1) ![0] S1.size inb_S1_S1_0).toLoadRect Y28 (Shape.Idx.first (s := S1) (by decide)) = I.F (n / 6 - 1) := by
      refine Eq.trans ?_ (hI.factor (n / 6 - 1) (by omega) (by omega) (by omega))
      rw [View.readAt_eq_ld]
      refine View.ld_unit_apply_of _ _ _ _ _ _ fun a => ?_
      fin_cases a
      rfl
    show changeAt _ _ _ _ _ _ _ = _
    unfold changeAt
    exact congrArg₂ (· + ·) (congrArg₂ (· * ·) eg (congrArg₂ (· * ·) es (congrArg (fun x => -(_ * x)) ef))) (congrArg (· * _) (congrFun h4 _))
  by_cases hb : n / 6 < 24
  · have c3 : k0_cond3 i = 1#1 := (cond3_iff i).mpr (by omega)
    have hn' : n < 144 := by omega
    specialize h2 hn'
    specialize h5 hn'
    specialize h6 hn'
    specialize h7 hn'
    specialize h8 hn'
    specialize h9 hn'
    specialize h10 hn'
    rw [dif_pos c3] at hA2
    obtain ⟨hA2, hA4, hA3, h15⟩ := hA2
    have start : (arg23.view.read (Elt Ideal) Z23) = msx (I.ms (6 * (n / 6))) ∧ (arg24.view.read (Elt Ideal) Z24) = vsx (I.vs (6 * (n / 6))) ∧ (∀ l : Fin 128, (arg27.view.read (Elt Ideal) B27) (ix2 0 l) = I.N (n / 6) (n % 6) l.val) ∧ (n % 6 ≠ 0 → B25 = Y25) := by
      unfold After0 at hA0
      by_cases hj : n % 6 = 0
      · rw [if_pos ((cond2_iff i).mpr ⟨by omega, by omega⟩)] at hA0
        obtain ⟨e23, e24, e27, -⟩ := hA0
        have en : 6 * (n / 6) = n := by omega
        refine ⟨?_, ?_, fun l => ?_, fun h => absurd hj h⟩
        · rw [scales23_read arg8 arg23 X8 Y23 Z23 e23, h8, en]
        · rw [scales24_read arg10 arg24 X10 Y24 Z24 e24, h10, en]
        · rw [lanes_read arg27 Y27 B27 e27 l, hj]
          unfold Ins.N
          rw [Finset.range_zero, Finset.sum_empty]
      · rw [if_neg fun h => hj (by have := ((cond2_iff i).mp h).2; omega)] at hA0
        obtain ⟨rfl, rfl, rfl, rfl⟩ := hA0
        refine ⟨hI.first (n / 6) hb (by omega) (by omega), hI.second (n / 6) hb (by omega) (by omega), fun l => ?_, fun _ => rfl⟩
        rw [hI.lanes l (n / 6) hb (by omega) (by omega), show n - 6 * (n / 6) = n % 6 by omega]
    obtain ⟨e23, e24, e27, e25⟩ := start
    have est : stepAt i arg2 X2 c3 = I.st n (ix1 (at24 (n / 6))) := by
      rw [step_read i arg2 X2 c3 (at24 (n / 6)) (by show n / 6 % 24 = _; omega), h2]
    have ech : chunkOf i = n % 6 := hi1
    have esc : scOf i arg5 arg6 arg7 arg9 arg23 arg24 (stepAt i arg2 X2 c3) X5 X6 X7 X9 Z23 Z24 = I.S n := by
      funext e
      unfold scOf Ins.S
      rw [h5, h6, h7, h9, e23, e24, est, ech]
    have esg : sgOf i arg5 arg6 arg7 arg9 arg23 arg24 (stepAt i arg2 X2 c3) X5 X6 X7 X9 Z23 Z24 = I.SG n := by
      funext e
      unfold sgOf Ins.SG
      rw [esc, h5]
    unfold After2 at hA2
    rw [esc, esg, h5, ech, hi0] at hA2
    obtain ⟨u12, u18, u19, u27⟩ := hA2
    have lanes : ∀ l : Fin 128, (arg27.view.read (Elt Ideal) Z27) (ix2 0 l) = I.N (n / 6) (n % 6 + 1) l.val := by
      intro l
      rw [u27 l, e27 l]
      unfold Ins.N
      rw [Finset.sum_range_succ _ (n % 6), show 6 * (n / 6) + n % 6 = n by omega]
    have tops : ∀ (q : Fin 320) (a : Fin 128) (b : ℕ), b < 24 → a.val < 48 → 6 * b + a.val / 8 < n + 1 → n + 1 ≤ 6 * b + 6 → (arg25.view.read (Elt Ideal) Z25) (ix2 q a) = I.T (6 * b + a.val / 8) (a.val % 8) q := by
      intro q a b hb' ha l1 l2
      unfold After3 at hA3
      rw [h5, h6, h7, e23, ech] at hA3
      rw [hA3 q a]
      by_cases hd : 6 * b + a.val / 8 = n
      · rw [if_pos (by omega), hd, show a.val - 8 * (n % 6) = a.val % 8 by omega]
        rfl
      · rw [if_neg (by omega), e25 (by omega)]
        exact hI.tops q a b hb' ha (by omega) (by omega)
    have outs : I.Outs (n + 1) (arg15.view.read (Elt Ideal) Z15) := by
      intro q l b hb' hl
      rw [h15]
      refine (scalePieces_apply arg25 arg15 Z25 arg15.view.junk 10 le_rfl q l).trans ?_
      rw [if_pos q.isLt]
      exact congrArg scaleS (tops q ⟨l.val, by omega⟩ b hb' l.isLt (by show 6 * b + l.val / 8 < n + 1; omega) (by omega))
    have ends : (∀ b : ℕ, b < 24 → 6 * b + 5 < n + 1 → n + 1 ≤ 6 * b + 11 → (arg28.view.read (Elt Ideal) Z28) (ix1 0) = I.F b) ∧ I.Norms (n + 1) (arg13.view.read (Elt Ideal) Z13) := by
      by_cases hj : n % 6 = 5
      · have c4 : k0_cond4 i = 1#1 := (cond4_iff i).mpr (by omega)
        obtain ⟨e28, e13⟩ := after4_read i arg3 arg13 arg27 arg28 X3 Y13 Z13 Z27 Y28 Z28 c3 c4 (at24 (n / 6)) (by show n / 6 % 24 = _; omega) hA4
        have el : (fun l : Fin 128 => (arg27.view.read (Elt Ideal) Z27) (ix2 0 l)) = fun l => I.N (n / 6) 6 l.val := by
          funext l
          rw [lanes l, hj]
        have en : 6 * (n / 6) + 5 = n := by omega
        have eF : factorS (fun l : Fin 128 => (arg27.view.read (Elt Ideal) Z27) (ix2 0 l)) ((arg3.view.read (Elt Ideal) X3) (ix1 (at24 (n / 6)))) = I.F (n / 6) := by
          unfold Ins.F
          rw [el, h3, en]
        refine ⟨fun b hb' l1 l2 => ?_, fun b hb' => ?_⟩
        · rw [show b = n / 6 by omega, e28, eF]
        · rw [e13 b, eF, el]
          by_cases hab : b = at24 (n / 6)
          · rw [if_pos hab, hab]
            show _ = I.NV (n / 6 % 24)
            rw [Nat.mod_eq_of_lt hb]
            rfl
          · rw [if_neg hab]
            refine hN b ?_
            have : b.val ≠ n / 6 % 24 := fun e => hab (Fin.ext e)
            omega
      · have c4 : ¬k0_cond4 i = 1#1 := fun h => hj (by have := (cond4_iff i).mp h; omega)
        unfold After4 at hA4
        rw [dif_neg c4] at hA4
        obtain ⟨rfl, rfl⟩ := hA4
        exact ⟨fun b hb' l1 l2 => hI.factor b hb' (by omega) (by omega), fun b hb' => hN b (by omega)⟩
    refine ⟨⟨fun p q e b hb' l1 l2 => ?_, fun r l b hb' l1 l2 => ?_, fun b hb' l1 l2 => ?_, fun b hb' l1 l2 => ?_, fun l b hb' l1 l2 => ?_, ends.1, tops⟩, fun a d b hb' k1 k2 l1 => ?_, ends.2, hD, outs⟩
    · rw [u18 p q e]
      by_cases hp : p.val = n % 6
      · rw [if_pos ⟨hp, by omega⟩, show 6 * b + p.val = n by omega]
      · rw [if_neg fun h => hp h.1]
        exact hI.grads p q e b hb' (by omega) (by omega)
    · rw [u19 r l]
      by_cases hr : r.val / 8 = n % 6
      · rw [if_pos ⟨by omega, by omega⟩, show 6 * b + r.val / 8 = n by omega, show r.val - 8 * (n % 6) = r.val % 8 by omega]
      · rw [if_neg fun h => hr (by omega)]
        exact hI.scales r l b hb' (by omega) (by omega)
    · rw [e23, show n / 6 = b by omega]
    · rw [e24, show n / 6 = b by omega]
    · rw [lanes l, show n / 6 = b by omega, show n + 1 - 6 * b = n % 6 + 1 by omega]
    · rw [u12 a d]
      by_cases hd : 6 * b + d.val / 1024 = n
      · rw [if_pos ⟨by omega, by omega, by omega⟩, hd, show d.val - 1024 * (n % 6) = d.val % 1024 by omega]
      · rw [if_neg (by omega)]
        exact hC a d b hb' k1 k2 (by omega)
  · have c3 : ¬k0_cond3 i = 1#1 := fun h => hb (by have := (cond3_iff i).mp h; omega)
    rw [dif_neg c3] at hA2
    unfold After0 at hA0
    rw [if_neg fun h => hb (by have := ((cond2_iff i).mp h).1; omega)] at hA0
    obtain ⟨rfl, rfl, rfl, rfl⟩ := hA0
    obtain ⟨rfl, rfl, rfl, rfl, rfl, rfl, rfl, rfl⟩ := hA2
    refine ⟨⟨fun p q e b hb' l1 l2 => hI.grads p q e b hb' (by omega) (by omega), fun r l b hb' l1 l2 => hI.scales r l b hb' (by omega) (by omega), fun b hb' l1 l2 => ?_, fun b hb' l1 l2 => ?_, fun l b hb' l1 l2 => ?_, fun b hb' l1 l2 => hI.factor b hb' (by omega) (by omega), fun q a b hb' ha l1 l2 => ?_⟩, fun a d b hb' k1 k2 l1 => hC a d b hb' k1 k2 (by omega), fun b hb' => hN b (by omega), hD, fun q l b hb' hl => hO (by omega) q l b hb' (by omega)⟩ <;> omega

end

end Cert.KernelIdeal.Track
-- ==== Proof.KernelIdealRun.lean ====
module

public import proofs.«01_k».proof.Proof.KernelIdealStep
public import proofs.«01_k».proof.Proof.KernelIdealFrame
public import Idealize.ShloMosaic.Lib.Pipeline.DatRel
public import Idealize.ShloMosaic.Lib.Pipeline.ArrRel

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ) (ρ : Dev nD → PrngReg)

/-- A point of the grid from its number. -/
def pt (n : ℕ) : Fin cfg0.N := ⟨n % 150, Nat.mod_lt _ (by decide)⟩

/-- A point is the one its number names. -/
theorem pt_val (t : Fin cfg0.N) : pt t.val = t := Fin.ext (Nat.mod_eq_of_lt (show t.val < 150 from t.isLt))

/-- What the kernel reads of the arrays it is launched on. -/
def insOf (c : Dev nD) : Ins where
  st n := iblk m c 0 (pt n)
  pv n := iblk m c 1 (pt n)
  w n := iblk m c 2 (pt n)
  g n := iblk m c 3 (pt n)
  p n := iblk m c 4 (pt n)
  mc n := iblk m c 5 (pt n)
  ms n := iblk m c 6 (pt n)
  vc n := iblk m c 7 (pt n)
  vs n := iblk m c 8 (pt n)

/-- What the kernel reads at a point, by the point's number. -/
theorem ins_st_eq (c : Dev nD) (t : Fin cfg0.N) : (insOf m c).st t.val = iblk m c 0 t := by
  have h : ∀ s t : Fin cfg0.N, s = t → (iblk m c 0 s : S24.Idx → BitVec 32) = iblk m c 0 t := by rintro s _ rfl; rfl
  exact h _ _ (pt_val t)

/-- What the kernel reads at a point, by the point's number. -/
theorem ins_pv_eq (c : Dev nD) (t : Fin cfg0.N) : (insOf m c).pv t.val = iblk m c 1 t := by
  have h : ∀ s t : Fin cfg0.N, s = t → (iblk m c 1 s : S24.Idx → EReal) = iblk m c 1 t := by rintro s _ rfl; rfl
  exact h _ _ (pt_val t)

/-- What the kernel reads at a point, by the point's number. -/
theorem ins_w_eq (c : Dev nD) (t : Fin cfg0.N) : (insOf m c).w t.val = iblk m c 2 t := by
  have h : ∀ s t : Fin cfg0.N, s = t → (iblk m c 2 s : S1x1024x1024.Idx → EReal) = iblk m c 2 t := by rintro s _ rfl; rfl
  exact h _ _ (pt_val t)

/-- What the kernel reads at a point, by the point's number. -/
theorem ins_g_eq (c : Dev nD) (t : Fin cfg0.N) : (insOf m c).g t.val = iblk m c 3 t := by
  have h : ∀ s t : Fin cfg0.N, s = t → (iblk m c 3 s : S1x1024x1024.Idx → EReal) = iblk m c 3 t := by rintro s _ rfl; rfl
  exact h _ _ (pt_val t)

/-- What the kernel reads at a point, by the point's number. -/
theorem ins_p_eq (c : Dev nD) (t : Fin cfg0.N) : (insOf m c).p t.val = iblk m c 4 t := by
  have h : ∀ s t : Fin cfg0.N, s = t → (iblk m c 4 s : S1x320x1024.Idx → EReal) = iblk m c 4 t := by rintro s _ rfl; rfl
  exact h _ _ (pt_val t)

/-- What the kernel reads at a point, by the point's number. -/
theorem ins_mc_eq (c : Dev nD) (t : Fin cfg0.N) : (insOf m c).mc t.val = iblk m c 5 t := by
  have h : ∀ s t : Fin cfg0.N, s = t → (iblk m c 5 s : S1x320x1024.Idx → EReal) = iblk m c 5 t := by rintro s _ rfl; rfl
  exact h _ _ (pt_val t)

/-- What the kernel reads at a point, by the point's number. -/
theorem ins_ms_eq (c : Dev nD) (t : Fin cfg0.N) : (insOf m c).ms t.val = iblk m c 6 t := by
  have h : ∀ s t : Fin cfg0.N, s = t → (iblk m c 6 s : S1x320x48.Idx → EReal) = iblk m c 6 t := by rintro s _ rfl; rfl
  exact h _ _ (pt_val t)

/-- What the kernel reads at a point, by the point's number. -/
theorem ins_vc_eq (c : Dev nD) (t : Fin cfg0.N) : (insOf m c).vc t.val = iblk m c 7 t := by
  have h : ∀ s t : Fin cfg0.N, s = t → (iblk m c 7 s : S1x320x1024.Idx → EReal) = iblk m c 7 t := by rintro s _ rfl; rfl
  exact h _ _ (pt_val t)

/-- What the kernel reads at a point, by the point's number. -/
theorem ins_vs_eq (c : Dev nD) (t : Fin cfg0.N) : (insOf m c).vs t.val = iblk m c 8 t := by
  have h : ∀ s t : Fin cfg0.N, s = t → (iblk m c 8 s : S1x320x48.Idx → EReal) = iblk m c 8 t := by rintro s _ rfl; rfl
  exact h _ _ (pt_val t)

/-- The invariant: the scratch buffers hold what `Ins.Inv` says. -/
def Φt (c : Dev nD) (n : ℕ) : sProp 𝕄 :=
  iprop(∃ x0 x1 x5 x6 x9 x10 x7, ⌜(insOf m c).Inv n x0 x1 x5 x6 x9 x10 x7⌝ ∗ owns (c : Thread nD τ) (Memref.whole cc0_scratch0) fullShare x0 ∗ owns (c : Thread nD τ) (Memref.whole cc0_scratch1) fullShare x1 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare x5 ∗ owns (c : Thread nD τ) (Memref.whole cc0_scratch6) fullShare x6 ∗ owns (c : Thread nD τ) (Memref.whole cc0_scratch7) fullShare x7 ∗ (∃ d, owns (c : Thread nD τ) (Memref.whole cc0_scratch8) fullShare d) ∗ owns (c : Thread nD τ) (Memref.whole cc0_scratch9) fullShare x9 ∗ owns (c : Thread nD τ) (Memref.whole cc0_scratch10) fullShare x10 ∗ ∃ r, prngReg c r)

/-- The proof data: an input's buffer stays at its block, the scratch follows the invariant, nothing owed. -/
def dats (_ : Fin 1) (c : Dev nD) : Pipeline.Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.mpr (Nat.le_add_left 16 _))
  Φ t := Φt m c t.val
  q _ := fullShare
  owed _ := 0

/-- What a point leaves in an output's buffer. -/
def rel (c : Dev nD) (w : Fin cfg0.W) (t : Fin cfg0.N) (X : (cfg0.win w).block.Idx → Elt Ideal (cfg0.win w).elt) : Prop :=
  match w, X with
  | ⟨9, _⟩, X => (insOf m c).Delta t.val X
  | ⟨10, _⟩, X => (insOf m c).Cols t.val (t.val + 1) X
  | ⟨11, _⟩, X => (insOf m c).Norms (t.val + 1) X
  | ⟨13, _⟩, X => (insOf m c).Outs (t.val + 1) X
  | _, _ => True

/-- An array of the pipeline starts as the memory holds it. -/
theorem A_eq (c : Dev nD) (w : Fin cfg0.W) : (dats m 0 c).A w = V m c (Pipeline.arrRef spec0 w) := by dsimp only [dats]

/-- An input block is in its slot when a grid point starts. -/
theorem before0 (c : Dev nD) (t : Fin cfg0.N) (d) : (dats m 0 c).before 0 t d = iblk m c 0 t := before0_0_of m (dats m 0 c) (A_eq m c 0) (fun _ => rfl) t d
/-- An input block is in its slot when a grid point starts. -/
theorem before1 (c : Dev nD) (t : Fin cfg0.N) (d) : (dats m 0 c).before 1 t d = iblk m c 1 t := before0_1_of m (dats m 0 c) (A_eq m c 1) (fun _ => rfl) t d
/-- An input block is in its slot when a grid point starts. -/
theorem before2 (c : Dev nD) (t : Fin cfg0.N) (d) : (dats m 0 c).before 2 t d = iblk m c 2 t := before0_2_of m (dats m 0 c) (A_eq m c 2) (fun _ => rfl) t d
/-- An input block is in its slot when a grid point starts. -/
theorem before3 (c : Dev nD) (t : Fin cfg0.N) (d) : (dats m 0 c).before 3 t d = iblk m c 3 t := before0_3_of m (dats m 0 c) (A_eq m c 3) (fun _ => rfl) t d
/-- An input block is in its slot when a grid point starts. -/
theorem before4 (c : Dev nD) (t : Fin cfg0.N) (d) : (dats m 0 c).before 4 t d = iblk m c 4 t := before0_4_of m (dats m 0 c) (A_eq m c 4) (fun _ => rfl) t d
/-- An input block is in its slot when a grid point starts. -/
theorem before5 (c : Dev nD) (t : Fin cfg0.N) (d) : (dats m 0 c).before 5 t d = iblk m c 5 t := before0_5_of m (dats m 0 c) (A_eq m c 5) (fun _ => rfl) t d
/-- An input block is in its slot when a grid point starts. -/
theorem before6 (c : Dev nD) (t : Fin cfg0.N) (d) : (dats m 0 c).before 6 t d = iblk m c 6 t := before0_6_of m (dats m 0 c) (A_eq m c 6) (fun _ => rfl) t d
/-- An input block is in its slot when a grid point starts. -/
theorem before7 (c : Dev nD) (t : Fin cfg0.N) (d) : (dats m 0 c).before 7 t d = iblk m c 7 t := before0_7_of m (dats m 0 c) (A_eq m c 7) (fun _ => rfl) t d
/-- An input block is in its slot when a grid point starts. -/
theorem before8 (c : Dev nD) (t : Fin cfg0.N) (d) : (dats m 0 c).before 8 t d = iblk m c 8 t := before0_8_of m (dats m 0 c) (A_eq m c 8) (fun _ => rfl) t d

/-- The block of scales is written back after every eighth matrix. -/
theorem flush10 (t : Fin cfg0.N) (h : (cfg0.win 10).flush t = true) : ((t.val + 1) % 48 = 0 ∧ t.val + 1 < 144) ∨ t.val = 149 := by
  have : ∀ t : Fin cfg0.N, (cfg0.win 10).flush t = true → ((t.val + 1) % 48 = 0 ∧ t.val + 1 < 144) ∨ t.val = 149 := by decide +kernel
  exact this t h

/-- What a point finds in the block of scales. -/
theorem finds10 (c : Dev nD) (t : Fin cfg0.N) (Y) (h : ((dats m 0 c).toRRel Step.outs0 (rel m c)).Finds 10 t Y) : (insOf m c).Cols t.val t.val Y := by
  by_cases h0 : t.val = 0
  · intro a d b hb k1 k2 l1
    omega
  · rcases (RDat.finds_of_pos _ rfl h0 Y).mp h with hf | hl
    · intro a d b hb k1 k2 l1
      have := flush10 _ hf
      have ht : t.val < 150 := t.isLt
      simp only at this
      omega
    · have hl' : (insOf m c).Cols (t.val - 1) (t.val - 1 + 1) Y := (dats m 0 c).toRRel_leaves rfl hl
      intro a d b hb k1 k2 l1
      exact hl' a d b hb (by omega) k2 (by omega)

/-- What a point finds of the norms. -/
theorem finds11 (c : Dev nD) (t : Fin cfg0.N) (Y) (h : ((dats m 0 c).toRRel Step.outs0 (rel m c)).Finds 11 t Y) : (insOf m c).Norms t.val Y := by
  by_cases h0 : t.val = 0
  · intro b hb
    omega
  · have ht : t.val < 150 := t.isLt
    rcases (RDat.finds_of_pos _ rfl h0 Y).mp h with hf | hl
    · have := (flush0_11 _).mp hf
      simp only at this
      omega
    · have hl' : (insOf m c).Norms (t.val - 1 + 1) Y := (dats m 0 c).toRRel_leaves rfl hl
      rw [Nat.sub_add_cancel (by omega)] at hl'
      exact hl'

/-- The block of the first moments' scales is written back after every matrix but the last, and at the end. -/
theorem flush13 (t : Fin cfg0.N) (h : (cfg0.win 13).flush t = true) : t.val % 6 = 5 ∧ (t.val < 138 ∨ t.val = 149) := by
  have : ∀ t : Fin cfg0.N, (cfg0.win 13).flush t = true → t.val % 6 = 5 ∧ (t.val < 138 ∨ t.val = 149) := by decide +kernel
  exact this t h

/-- What the last points find in the block of the first moments' scales. -/
theorem finds13 (c : Dev nD) (t : Fin cfg0.N) (h144 : 144 ≤ t.val) (Y) (h : ((dats m 0 c).toRRel Step.outs0 (rel m c)).Finds 13 t Y) : (insOf m c).Outs t.val Y := by
  have ht : t.val < 150 := t.isLt
  rcases (RDat.finds_of_pos _ rfl (by omega : t.val ≠ 0) Y).mp h with hf | hl
  · have := flush13 _ hf
    simp only at this
    omega
  · have hl' : (insOf m c).Outs (t.val - 1 + 1) Y := (dats m 0 c).toRRel_leaves rfl hl
    rw [Nat.sub_add_cancel (by omega)] at hl'
    exact hl'

/-- The row of a point. -/
theorem coord0 (t : Fin cfg0.N) : (cfg0.grid.coords t 0).val = t.val / 6 := by
  have : ∀ t : Fin cfg0.N, (cfg0.grid.coords t 0).val = t.val / 6 := by decide +kernel
  exact this t

/-- The chunk of a point. -/
theorem coord1 (t : Fin cfg0.N) : (cfg0.grid.coords t 1).val = t.val % 6 := by
  have : ∀ t : Fin cfg0.N, (cfg0.grid.coords t 1).val = t.val % 6 := by decide +kernel
  exact this t

set_option maxHeartbeats 2000000 in
/-- The body at a point: what it is handed and what it returns. -/
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ Y, ⌜((dats m 0 c).toRRel Step.outs0 (rel m c)).Finds 9 t Y⌝ ∗ owns (c : Thread nD τ) (win0_9.stage (cfg0.slots t 9)) fullShare Y) ∗ (∃ Y, ⌜((dats m 0 c).toRRel Step.outs0 (rel m c)).Finds 10 t Y⌝ ∗ owns (c : Thread nD τ) (win0_10.stage (cfg0.slots t 10)) fullShare Y) ∗ (∃ Y, ⌜((dats m 0 c).toRRel Step.outs0 (rel m c)).Finds 11 t Y⌝ ∗ owns (c : Thread nD τ) (win0_11.stage (cfg0.slots t 11)) fullShare Y) ∗ (∃ Y, ⌜((dats m 0 c).toRRel Step.outs0 (rel m c)).Finds 12 t Y⌝ ∗ owns (c : Thread nD τ) (win0_12.stage (cfg0.slots t 12)) fullShare Y) ∗ (∃ Y, ⌜((dats m 0 c).toRRel Step.outs0 (rel m c)).Finds 13 t Y⌝ ∗ owns (c : Thread nD τ) (win0_13.stage (cfg0.slots t 13)) fullShare Y) ∗ (∃ Y, ⌜((dats m 0 c).toRRel Step.outs0 (rel m c)).Finds 14 t Y⌝ ∗ owns (c : Thread nD τ) (win0_14.stage (cfg0.slots t 14)) fullShare Y) ∗ (∃ Y, ⌜((dats m 0 c).toRRel Step.outs0 (rel m c)).Finds 15 t Y⌝ ∗ owns (c : Thread nD τ) (win0_15.stage (cfg0.slots t 15)) fullShare Y))
    ⊢ wp frame (wpE (defs₀ (F := Ideal)) Variants.none c none) Set.univ (bodyAt0 t)
      (fun _ => iprop((dats m 0 c).Φ t.succ ∗ (dats m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ X, ⌜rel m c 9 t X⌝ ∗ owns (c : Thread nD τ) (win0_9.stage (cfg0.slots t 9)) fullShare X) ∗ (∃ X, ⌜rel m c 10 t X⌝ ∗ owns (c : Thread nD τ) (win0_10.stage (cfg0.slots t 10)) fullShare X) ∗ (∃ X, ⌜rel m c 11 t X⌝ ∗ owns (c : Thread nD τ) (win0_11.stage (cfg0.slots t 11)) fullShare X) ∗ (∃ X, ⌜rel m c 12 t X⌝ ∗ owns (c : Thread nD τ) (win0_12.stage (cfg0.slots t 12)) fullShare X) ∗ (∃ X, ⌜rel m c 13 t X⌝ ∗ owns (c : Thread nD τ) (win0_13.stage (cfg0.slots t 13)) fullShare X) ∗ (∃ X, ⌜rel m c 14 t X⌝ ∗ owns (c : Thread nD τ) (win0_14.stage (cfg0.slots t 14)) fullShare X) ∗ (∃ X, ⌜rel m c 15 t X⌝ ∗ owns (c : Thread nD τ) (win0_15.stage (cfg0.slots t 15)) fullShare X))) := by
  unfold bodyAt0
  rw [show (dats m 0 c).Φ t.succ = Φt m c (t.val + 1) from rfl,
    show (dats m 0 c).owesAt () t.succ = (dats m 0 c).owesAt () t.castSucc from rfl,
    show (dats m 0 c).Φ t.castSucc = Φt m c t.val from rfl]
  simp only [before0, before1, before2, before3, before4, before5, before6, before7, before8]
  unfold Φt owns
  iintro ⟨⟨%x0, %x1, %x5, %x6, %x9, %x10, %x25, %hI, ⟨%f18, %e18, S0⟩, ⟨%f19, %e19, S1⟩, ⟨%x20, %f20, %e20, S2⟩, ⟨%x21, %f21, %e21, S3⟩, ⟨%x22, %f22, %e22, S4⟩, ⟨%f23, %e23, S5⟩, ⟨%f24, %e24, S6⟩, ⟨%f25, %e25, S7⟩, ⟨%x26, %f26, %e26, S8⟩, ⟨%f27, %e27, S9⟩, ⟨%f28, %e28, S10⟩, Hg⟩, HO, ⟨%d0, %f2, %e2, W0⟩, ⟨%d1, %f3, %e3, W1⟩, ⟨%d2, %f4, %e4, W2⟩, ⟨%d3, %f5, %e5, W3⟩, ⟨%d4, %f6, %e6, W4⟩, ⟨%d5, %f7, %e7, W5⟩, ⟨%d6, %f8, %e8, W6⟩, ⟨%d7, %f9, %e9, W7⟩, ⟨%d8, %f10, %e10, W8⟩, ⟨%y9, %hy9, %f11, %e11, W9⟩, ⟨%y10, %hy10, %f12, %e12, W10⟩, ⟨%y11, %hy11, %f13, %e13, W11⟩, ⟨%y12, %hy12, %f14, %e14, W12⟩, ⟨%y13, %hy13, %f15, %e15, W13⟩, ⟨%y14, %hy14, %f16, %e16, W14⟩, ⟨%y15, %hy15, %f17, %e17, W15⟩⟩
  have hC := finds10 m c t _ hy10
  have hN := finds11 m c t _ hy11
  have hO := fun h => finds13 m c t h _ hy13
  iapply (wp_wand_r Idealize.ShloMosaic.frame (wpE (defs₀ (F := Ideal)) Variants.none (c : Thread nD τ) none) Set.univ)
  isplitl [S0 S1 S2 S3 S4 S5 S6 S7 S8 S9 S10 W0 W1 W2 W3 W4 W5 W6 W7 W8 W9 W10 W11 W12 W13 W14 W15]
  · iapply (body_run c (cfg0.grid.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (win0_10.stage (cfg0.slots t 10)) _ (win0_11.stage (cfg0.slots t 11)) _ (win0_12.stage (cfg0.slots t 12)) _ (win0_13.stage (cfg0.slots t 13)) _ (win0_14.stage (cfg0.slots t 14)) _ (win0_15.stage (cfg0.slots t 15)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _ (Memref.whole cc0_scratch7) _ (Memref.whole cc0_scratch8) _ (Memref.whole cc0_scratch9) _ (Memref.whole cc0_scratch10) _ f2 f3 f4 f5 f6 f7 f8 f9 f10
      (fun Y11 Y12 Y13 Y18 Y19 Y23 Y24 Y27 Y28 Y15 Y25 => Y11 = f11 ∧ Y12 = f12 ∧ Y13 = f13 ∧ Y18 = f18 ∧ Y19 = f19 ∧ Y23 = f23 ∧ Y24 = f24 ∧ Y27 = f27 ∧ Y28 = f28 ∧ Y15 = f15 ∧ Y25 = f25)
      (fun Z11 Z12 Z13 Z18 Z19 Z23 Z24 Z27 Z28 Z15 Z25 => (insOf m c).Inv (t.val + 1) (((Memref.whole cc0_scratch0)).view.read (Elt Ideal) Z18) (((Memref.whole cc0_scratch1)).view.read (Elt Ideal) Z19) (((Memref.whole cc0_scratch5)).view.read (Elt Ideal) Z23) (((Memref.whole cc0_scratch6)).view.read (Elt Ideal) Z24) (((Memref.whole cc0_scratch9)).view.read (Elt Ideal) Z27) (((Memref.whole cc0_scratch10)).view.read (Elt Ideal) Z28) (((Memref.whole cc0_scratch7)).view.read (Elt Ideal) Z25) ∧ (insOf m c).Cols t.val (t.val + 1) (((win0_10.stage (cfg0.slots t 10))).view.read (Elt Ideal) Z12) ∧ (insOf m c).Norms (t.val + 1) (((win0_11.stage (cfg0.slots t 11))).view.read (Elt Ideal) Z13) ∧ (insOf m c).Delta t.val (((win0_9.stage (cfg0.slots t 9))).view.read (Elt Ideal) Z11) ∧ (insOf m c).Outs (t.val + 1) (((win0_13.stage (cfg0.slots t 13))).view.read (Elt Ideal) Z15))
      ?hPQ)
    case hPQ =>
      rintro Y11 Y12 Y13 Y18 Y19 Y23 Y24 Y27 Y28 Y15 Y25 ⟨rfl, rfl, rfl, rfl, rfl, rfl, rfl, rfl, rfl, rfl, rfl⟩ Z11 Z12 Z13 Z18 Z19 Z23 Z24 Z27 Z28 Z15 Z25 hP
      refine point_step c (cfg0.grid.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (win0_6.stage (cfg0.slots t 6)) _ (win0_7.stage (cfg0.slots t 7)) _ (win0_8.stage (cfg0.slots t 8)) _ (win0_9.stage (cfg0.slots t 9)) _ (win0_10.stage (cfg0.slots t 10)) _ (win0_11.stage (cfg0.slots t 11)) _ (win0_12.stage (cfg0.slots t 12)) _ (win0_13.stage (cfg0.slots t 13)) _ (win0_14.stage (cfg0.slots t 14)) _ (win0_15.stage (cfg0.slots t 15)) _ (Memref.whole cc0_scratch0) _ (Memref.whole cc0_scratch1) _ (Memref.whole cc0_scratch2) _ (Memref.whole cc0_scratch3) _ (Memref.whole cc0_scratch4) _ (Memref.whole cc0_scratch5) _ (Memref.whole cc0_scratch6) _ (Memref.whole cc0_scratch7) _ (Memref.whole cc0_scratch8) _ (Memref.whole cc0_scratch9) _ (Memref.whole cc0_scratch10) _ (insOf m c) f2 f3 f4 f5 f6 f7 f8 f9 f10 Y11 Y12 Y13 Y18 Y19 Y23 Y24 Y27 Y28 Y15 Y25 Z11 Z12 Z13 Z18 Z19 Z23 Z24 Z27 Z28 Z15 Z25 t.val t.isLt (coord0 t) (coord1 t)
        (fun _ => e2.trans (ins_st_eq m c t).symm) (e3.trans (ins_pv_eq m c t).symm) (e4.trans (ins_w_eq m c t).symm) (fun _ => e5.trans (ins_g_eq m c t).symm) (fun _ => e6.trans (ins_p_eq m c t).symm) (fun _ => e7.trans (ins_mc_eq m c t).symm) (fun _ => e8.trans (ins_ms_eq m c t).symm) (fun _ => e9.trans (ins_vc_eq m c t).symm) (fun _ => e10.trans (ins_vs_eq m c t).symm)
        ?_ ?_ ?_ ?_ hP
      · rw [e18, e19, e23, e24, e27, e28, e25]; exact hI
      · rw [e12]; exact hC
      · rw [e13]; exact hN
      · rw [e15]; exact hO
    unfold HeldP
    iexists f11; iexists f12; iexists f13; iexists f18; iexists f19; iexists f23; iexists f24; iexists f27; iexists f28; iexists f15; iexists f25; iexists f14; iexists f16; iexists f17; iexists f20; iexists f21; iexists f22; iexists f26
    isplitr
    · ipureintro; exact ⟨rfl, rfl, rfl, rfl, rfl, rfl, rfl, rfl, rfl, rfl, rfl⟩
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  unfold HeldP
  iintro %_ ⟨%g11, %g12, %g13, %g18, %g19, %g23, %g24, %g27, %g28, %g15, %g25, %g14, %g16, %g17, %g20, %g21, %g22, %g26, %hQ, W0, W1, W2, W3, W4, W5, W6, W7, W8, W9, W10, W11, W12, W13, W14, W15, S0, S1, S2, S3, S4, S5, S6, S7, S8, S9, S10⟩
  obtain ⟨hI', hC', hN', hD', hO'⟩ := hQ
  isplitl [S0 S1 S2 S3 S4 S5 S6 S7 S8 S9 S10 Hg]
  · iexists _; iexists _; iexists _; iexists _; iexists _; iexists _; iexists _
    isplitr
    · ipureintro; exact hI'
    isplitl [S0]
    · iexists _; isplitr; swap; · iexact S0
      ipureintro; rfl
    isplitl [S1]
    · iexists _; isplitr; swap; · iexact S1
      ipureintro; rfl
    isplitl [S2]
    · iexists _; iexists _; isplitr; swap; · iexact S2
      ipureintro; rfl
    isplitl [S3]
    · iexists _; iexists _; isplitr; swap; · iexact S3
      ipureintro; rfl
    isplitl [S4]
    · iexists _; iexists _; isplitr; swap; · iexact S4
      ipureintro; rfl
    isplitl [S5]
    · iexists _; isplitr; swap; · iexact S5
      ipureintro; rfl
    isplitl [S6]
    · iexists _; isplitr; swap; · iexact S6
      ipureintro; rfl
    isplitl [S7]
    · iexists _; isplitr; swap; · iexact S7
      ipureintro; rfl
    isplitl [S8]
    · iexists _; iexists _; isplitr; swap; · iexact S8
      ipureintro; rfl
    isplitl [S9]
    · iexists _; isplitr; swap; · iexact S9
      ipureintro; rfl
    isplitl [S10]
    · iexists _; isplitr; swap; · iexact S10
      ipureintro; rfl
    iexact Hg
  isplitl [HO]; · iexact HO
  isplitl [W0]
  · iexists f2; isplitr; · ipureintro; exact e2
    iexact W0
  isplitl [W1]
  · iexists f3; isplitr; · ipureintro; exact e3
    iexact W1
  isplitl [W2]
  · iexists f4; isplitr; · ipureintro; exact e4
    iexact W2
  isplitl [W3]
  · iexists f5; isplitr; · ipureintro; exact e5
    iexact W3
  isplitl [W4]
  · iexists f6; isplitr; · ipureintro; exact e6
    iexact W4
  isplitl [W5]
  · iexists f7; isplitr; · ipureintro; exact e7
    iexact W5
  isplitl [W6]
  · iexists f8; isplitr; · ipureintro; exact e8
    iexact W6
  isplitl [W7]
  · iexists f9; isplitr; · ipureintro; exact e9
    iexact W7
  isplitl [W8]
  · iexists f10; isplitr; · ipureintro; exact e10
    iexact W8
  isplitl [W9]
  · iexists ((win0_9.stage (cfg0.slots t 9))).view.read (Elt Ideal) g11; isplitr; · ipureintro; exact hD'
    iexists _; isplitr; swap; · iexact W9
    ipureintro; rfl
  isplitl [W10]
  · iexists ((win0_10.stage (cfg0.slots t 10))).view.read (Elt Ideal) g12; isplitr; · ipureintro; exact hC'
    iexists _; isplitr; swap; · iexact W10
    ipureintro; rfl
  isplitl [W11]
  · iexists ((win0_11.stage (cfg0.slots t 11))).view.read (Elt Ideal) g13; isplitr; · ipureintro; exact hN'
    iexists _; isplitr; swap; · iexact W11
    ipureintro; rfl
  isplitl [W12]
  · iexists ((win0_12.stage (cfg0.slots t 12))).view.read (Elt Ideal) g14; isplitr; · ipureintro; exact trivial
    iexists _; isplitr; swap; · iexact W12
    ipureintro; rfl
  isplitl [W13]
  · iexists ((win0_13.stage (cfg0.slots t 13))).view.read (Elt Ideal) g15; isplitr; · ipureintro; exact hO'
    iexists _; isplitr; swap; · iexact W13
    ipureintro; rfl
  isplitl [W14]
  · iexists ((win0_14.stage (cfg0.slots t 14))).view.read (Elt Ideal) g16; isplitr; · ipureintro; exact trivial
    iexists _; isplitr; swap; · iexact W14
    ipureintro; rfl
  · iexists ((win0_15.stage (cfg0.slots t 15))).view.read (Elt Ideal) g17; isplitr; · ipureintro; exact trivial
    iexists _; isplitr; swap; · iexact W15
    ipureintro; rfl

/-- The body obligation, the outputs held to `rel`. -/
theorem body_obligation (c : Dev nD) :
    Pipeline.BodyObligationRel (dats m 0 c) (defs₀ (F := Ideal)) Variants.none () Set.univ Step.outs0 (rel m c) := fun t => by
  rw [bigSep_W0, bigSep_W0, Step.body_row]
  exact triple_restated (sound_body m c t) rfl .rfl fun _ => .rfl

/-- The invariant holds before the first point. -/
theorem start (c : Dev nD) : Pipeline.ΦA spec0 c ⊢ (dats m 0 c).Φ 0 := by
  rw [Step.Phi_eq, show (dats m 0 c).Φ 0 = Φt m c 0 from rfl]
  unfold Φt
  iintro ⟨⟨⟨%x0, S0⟩, ⟨%x1, S1⟩, S2, S3, S4, ⟨%x5, S5⟩, ⟨%x6, S6⟩, ⟨%x7, S7⟩, S8, ⟨%x9, S9⟩, ⟨%x10, S10⟩⟩, Hg⟩
  iexists x0; iexists x1; iexists x5; iexists x6; iexists x9; iexists x10; iexists x7
  isplitr
  · ipureintro
    constructor <;> intros <;> omega
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexact Hg

/-- After the last point the scratch is given back. -/
theorem finish (c : Dev nD) : (dats m 0 c).Φ (Fin.last cfg0.N) ⊢ Pipeline.ΦA spec0 c := by
  rw [Step.Phi_eq, show (dats m 0 c).Φ (Fin.last cfg0.N) = Φt m c (Fin.last cfg0.N).val from rfl]
  unfold Φt
  iintro ⟨%x0, %x1, %x5, %x6, %x9, %x10, %x7, -, S0, S1, S2, S3, S4, S5, S6, S7, S8, S9, S10, Hg⟩
  isplitl [S0 S1 S2 S3 S4 S5 S6 S7 S8 S9 S10]
  · isplitl [S0]; · iexists _; iexact S0
    isplitl [S1]; · iexists _; iexact S1
    isplitl [S2]; · iexact S2
    isplitl [S3]; · iexact S3
    isplitl [S4]; · iexact S4
    isplitl [S5]; · iexists _; iexact S5
    isplitl [S6]; · iexists _; iexact S6
    isplitl [S7]; · iexists _; iexact S7
    isplitl [S8]; · iexact S8
    isplitl [S9]; · iexists _; iexact S9
    iexists _; iexact S10
  iexact Hg

set_option backward.isDefEq.respectTransparency.types false in
/-- Every run ends, the inputs as they were, each output array made of blocks that meet `rel`. -/
theorem run_main :
    θ_run defs (onTc (τ := τ) (main (F := Ideal))) (s₀ m ρ)
      (fun r => RDat.FramePost (cfgs 0) (fun c => (dats m 0 c).toRRel Step.outs0 (rel m c)) (V m) r ∧ r.2.sem = fun _ => 0) :=
  RDat.θ_run_frame_track (Q' := _) cfgs (0 : Fin 1) launch0 defs₀ Variants.none (fun c => (dats m 0 c).toRRel Step.outs0 (rel m c)) m ρ main
    (hbody := fun c => (body_obligation m c).toRRel) (hshare := fun c => (dats m 0 c).share_full fun _ => rfl)
    (howed := fun _ _ => rfl) (V := V m) (hmain := hmain m Variants.none) (hA := A_eq m) (hin := start m) (hout := finish m)

end Cert.KernelIdeal.Track
-- ==== Proof.KernelIdealFinal.lean ====
module

public import proofs.«01_k».proof.Proof.KernelIdealRun
public import Idealize.ShloMosaic.Lib.Pipeline.ValueKit

@[expose] public section
set_option maxRecDepth 16384
set_option pp.maxSteps 600
noncomputable section

namespace Cert.KernelIdeal.Track
open Cert.KernelIdeal Cert.KernelIdeal.Gen
open Idealize.ShloMosaic Idealize.ShloMosaic.TcCoe Idealize.ShloMosaic.Tactic
open Idealize.SL.Sem
open Idealize.ShloMosaic.Pipeline (Dat RDat)

variable (m : (ℓ : Loc nD τ sig) → Buf (Elt Ideal) ℓ) (ρ : Dev nD → PrngReg)

/-- Where the blocks of the windows lie. -/
theorem idx0 : ∀ t : Fin cfg0.N, win0_0.index t = ![0] := by decide +kernel
/-- Which block a window is at, point by point. -/
theorem idx1 : ∀ t : Fin cfg0.N, win0_1.index t = ![0] := by decide +kernel
/-- Which block a window is at, point by point. -/
theorem idx2 : ∀ t : Fin cfg0.N, 6 ≤ t.val → win0_2.index t = ![t.val / 6 - 1, 0, t.val % 6] := by decide +kernel
/-- Which block a window is at, point by point. -/
theorem idx3 : ∀ t : Fin cfg0.N, t.val < 144 → win0_3.index t = ![t.val / 6, 0, t.val % 6] := by decide +kernel
/-- Which block a window is at, point by point. -/
theorem idx4 : ∀ t : Fin cfg0.N, t.val < 144 → win0_4.index t = ![t.val / 6, 0, 0] := by decide +kernel
/-- Which block a window is at, point by point. -/
theorem idx5 : ∀ t : Fin cfg0.N, t.val < 144 → win0_5.index t = ![t.val / 6, 0, t.val % 6] := by decide +kernel
/-- Which block a window is at, point by point. -/
theorem idx6 : ∀ t : Fin cfg0.N, t.val < 144 → win0_6.index t = ![t.val / 6, 0, 0] := by decide +kernel
/-- Which block a window is at, point by point. -/
theorem idx7 : ∀ t : Fin cfg0.N, t.val < 144 → win0_7.index t = ![t.val / 6, 0, t.val % 6] := by decide +kernel
/-- Which block a window is at, point by point. -/
theorem idx8 : ∀ t : Fin cfg0.N, t.val < 144 → win0_8.index t = ![t.val / 6, 0, 0] := by decide +kernel
/-- Which block a window is at, point by point. -/
theorem idx9 : ∀ t : Fin cfg0.N, 6 ≤ t.val → win0_9.index t = ![t.val / 6 - 1, 0, t.val % 6] := by decide +kernel
/-- Which block a window is at, point by point. -/
theorem idx10 : ∀ t : Fin cfg0.N, win0_10.index t = ![min (t.val / 6) 23 / 8, 0] := by decide +kernel
/-- Which block a window is at, point by point. -/
theorem idx11 : ∀ t : Fin cfg0.N, win0_11.index t = ![0] := by decide +kernel

/-- Which block a window is at, point by point. -/
theorem idx13 : ∀ t : Fin cfg0.N, win0_13.index t = ![min (t.val / 6) 23, 0, 0] := by decide +kernel

/-- The block of scales is written back when its last row is complete. -/
theorem flush10_last (t : Fin cfg0.N) (h : (cfg0.win 10).flush t = true) : 48 * (min (t.val / 6) 23 / 8) + 47 ≤ t.val := by
  have : ∀ t : Fin cfg0.N, (cfg0.win 10).flush t = true → 48 * (min (t.val / 6) 23 / 8) + 47 ≤ t.val := by decide +kernel
  exact this t h

/-- A column of the whole array from its chunk and its place there. -/
abbrev colOf (j : Fin 6) (e : Fin 1024) : Fin 6144 := ⟨1024 * j.val + e.val, by omega⟩

/-- What the kernel reads, by its place in the whole array. -/
theorem st_at (c : Dev nD) (n : ℕ) (b : Fin 24) : (insOf m c).st n (ix1 b) = m ((c : Thread nD τ).loc main_arg7) (ix1 b) := by
  have ptv : (pt n).val = n % 150 := rfl
  have hi := idx0 (pt n)
  show iblk m c 0 (pt n) (ix1 b) = _
  blk_ext [iblk, V, hi, ptv]

/-- What the kernel reads, by its place in the whole array. -/
theorem pv_at (c : Dev nD) (n : ℕ) (b : Fin 24) : (insOf m c).pv n (ix1 b) = m ((c : Thread nD τ).loc main_arg8) (ix1 b) := by
  have ptv : (pt n).val = n % 150 := rfl
  have hi := idx1 (pt n)
  show iblk m c 1 (pt n) (ix1 b) = _
  blk_ext [iblk, V, hi, ptv]

/-- What the kernel reads, by its place in the whole array. -/
theorem w_at (c : Dev nD) (b : Fin 24) (j : Fin 6) (q e : Fin 1024) : (insOf m c).w (6 * b.val + j.val + 6) (ix3 0 q e) = m ((c : Thread nD τ).loc main_arg0) (ix3 b q (colOf j e)) := by
  have ptv : (pt (6 * b.val + j.val + 6)).val = (6 * b.val + j.val + 6) % 150 := rfl
  have hi := idx2 (pt (6 * b.val + j.val + 6)) (show 6 ≤ (pt (6 * b.val + j.val + 6)).val by rw [ptv]; omega)
  show iblk m c 2 (pt (6 * b.val + j.val + 6)) (ix3 0 q e) = _
  blk_ext [iblk, V, hi, ptv]

/-- What the kernel reads, by its place in the whole array. -/
theorem g_at (c : Dev nD) (b : Fin 24) (j : Fin 6) (q e : Fin 1024) : (insOf m c).g (6 * b.val + j.val) (ix3 0 q e) = m ((c : Thread nD τ).loc main_arg1) (ix3 b q (colOf j e)) := by
  have ptv : (pt (6 * b.val + j.val)).val = (6 * b.val + j.val) % 150 := rfl
  have hi := idx3 (pt (6 * b.val + j.val)) (show (pt (6 * b.val + j.val)).val < 144 by rw [ptv]; omega)
  show iblk m c 3 (pt (6 * b.val + j.val)) (ix3 0 q e) = _
  blk_ext [iblk, V, hi, ptv]

/-- What the kernel reads, by its place in the whole array. -/
theorem p_at (c : Dev nD) (b : Fin 24) (j : Fin 6) (q : Fin 320) (e : Fin 1024) : (insOf m c).p (6 * b.val + j.val) (ix3 0 q e) = m ((c : Thread nD τ).loc main_arg2) (ix3 b q e) := by
  have ptv : (pt (6 * b.val + j.val)).val = (6 * b.val + j.val) % 150 := rfl
  have hi := idx4 (pt (6 * b.val + j.val)) (show (pt (6 * b.val + j.val)).val < 144 by rw [ptv]; omega)
  show iblk m c 4 (pt (6 * b.val + j.val)) (ix3 0 q e) = _
  blk_ext [iblk, V, hi, ptv]

/-- What the kernel reads, by its place in the whole array. -/
theorem mc_at (c : Dev nD) (b : Fin 24) (j : Fin 6) (q : Fin 320) (e : Fin 1024) : (insOf m c).mc (6 * b.val + j.val) (ix3 0 q e) = m ((c : Thread nD τ).loc main_arg3) (ix3 b q (colOf j e)) := by
  have ptv : (pt (6 * b.val + j.val)).val = (6 * b.val + j.val) % 150 := rfl
  have hi := idx5 (pt (6 * b.val + j.val)) (show (pt (6 * b.val + j.val)).val < 144 by rw [ptv]; omega)
  show iblk m c 5 (pt (6 * b.val + j.val)) (ix3 0 q e) = _
  blk_ext [iblk, V, hi, ptv]

/-- What the kernel reads, by its place in the whole array. -/
theorem ms_at (c : Dev nD) (b : Fin 24) (q : Fin 320) (l : Fin 48) : (insOf m c).ms (6 * b.val) (ix3 0 q l) = m ((c : Thread nD τ).loc main_arg4) (ix3 b q l) := by
  have ptv : (pt (6 * b.val)).val = (6 * b.val) % 150 := rfl
  have hi := idx6 (pt (6 * b.val)) (show (pt (6 * b.val)).val < 144 by rw [ptv]; omega)
  show iblk m c 6 (pt (6 * b.val)) (ix3 0 q l) = _
  blk_ext [iblk, V, hi, ptv]

/-- What the kernel reads, by its place in the whole array. -/
theorem vc_at (c : Dev nD) (b : Fin 24) (j : Fin 6) (q : Fin 320) (e : Fin 1024) : (insOf m c).vc (6 * b.val + j.val) (ix3 0 q e) = m ((c : Thread nD τ).loc main_arg5) (ix3 b q (colOf j e)) := by
  have ptv : (pt (6 * b.val + j.val)).val = (6 * b.val + j.val) % 150 := rfl
  have hi := idx7 (pt (6 * b.val + j.val)) (show (pt (6 * b.val + j.val)).val < 144 by rw [ptv]; omega)
  show iblk m c 7 (pt (6 * b.val + j.val)) (ix3 0 q e) = _
  blk_ext [iblk, V, hi, ptv]

/-- What the kernel reads, by its place in the whole array. -/
theorem vs_at (c : Dev nD) (b : Fin 24) (q : Fin 320) (l : Fin 48) : (insOf m c).vs (6 * b.val) (ix3 0 q l) = m ((c : Thread nD τ).loc main_arg6) (ix3 b q l) := by
  have ptv : (pt (6 * b.val)).val = (6 * b.val) % 150 := rfl
  have hi := idx8 (pt (6 * b.val)) (show (pt (6 * b.val)).val < 144 by rw [ptv]; omega)
  show iblk m c 8 (pt (6 * b.val)) (ix3 0 q l) = _
  blk_ext [iblk, V, hi, ptv]

/-- After the run the scales are those of the points. -/
theorem scales_final (c : Dev nD) (r : PUnit × MemSt nD τ sig (Elt Ideal)) (h : RDat.FramePost (cfgs 0) (fun c => (dats m 0 c).toRRel Step.outs0 (rel m c)) (V m) r) (b : Fin 24) (d : Fin 6144) :
    r.2.mem ((c : Thread nD τ).loc main_v0_1) (ix2 b d) = (insOf m c).S (6 * b.val + d.val / 1024) (d.val % 1024) := by
  obtain ⟨after, hL, hA⟩ := h.exists_exact c
  have e : r.2.mem ((c : Thread nD τ).loc main_v0_1) = fun y : S24x6144.Idx => (insOf m c).S (6 * (y 0).val + (y 1).val / 1024) ((y 1).val % 1024) := by
    refine (hA 10).trans ?_
    refine Dat.arrAt_eq_of_covers _ 10 _ (by decide +kernel) fun t hf y => ?_
    have hc : (insOf m c).Cols t.val (t.val + 1) (after 10 t) := (dats m 0 c).toRRel_leaves rfl (hL 10 t hf)
    have hl := flush10_last t hf
    blk_simp [idx10 t]
    have ht : t.val < 150 := t.isLt
    have h0 : (y 0).val < 8 := (y 0).isLt
    have h1 : (y 1).val < 6144 := (y 1).isLt
    have key := hc ⟨(y 0).val, h0⟩ ⟨(y 1).val, h1⟩ (min (t.val / 6) 23 / 8 * 8 + (y 0).val) (by omega) (by omega) (by show _ = (y 0).val; omega) (by show _ + (y 1).val / 1024 < _; omega)
    refine Eq.trans ?_ key
    refine congrArg (after 10 t) (funext fun a => ?_)
    fin_cases a <;> rfl
  rw [e]
  rfl

/-- The block of the weights' change is written back only once it has been written. -/
theorem flush9_late (t : Fin cfg0.N) (h : (cfg0.win 9).flush t = true) : 6 ≤ t.val := by
  have : ∀ t : Fin cfg0.N, (cfg0.win 9).flush t = true → 6 ≤ t.val := by decide +kernel
  exact this t h

/-- After the run the weights' change is every entry's. -/
theorem delta_final (c : Dev nD) (r : PUnit × MemSt nD τ sig (Elt Ideal)) (h : RDat.FramePost (cfgs 0) (fun c => (dats m 0 c).toRRel Step.outs0 (rel m c)) (V m) r) (b : Fin 24) (j : Fin 6) (q e : Fin 1024) :
    r.2.mem ((c : Thread nD τ).loc main_v0_0) (ix3 b q (colOf j e))
      = (insOf m c).g (6 * b.val + j.val) (ix3 0 q e) * ((insOf m c).S (6 * b.val + j.val) e.val * -(((1 / 1000 : ℝ) : EReal) * (insOf m c).F b.val))
        + (insOf m c).w (6 * b.val + j.val + 6) (ix3 0 q e) * ((-1 / 10000 : ℝ) : EReal) := by
  obtain ⟨after, hL, hA⟩ := h.exists_exact c
  have e9 : r.2.mem ((c : Thread nD τ).loc main_v0_0) = fun y : S24x1024x6144.Idx =>
      (insOf m c).g (6 * (y 0).val + (y 2).val / 1024) (ix3 0 ⟨(y 1).val % 1024, Nat.mod_lt _ (by norm_num)⟩ ⟨(y 2).val % 1024, Nat.mod_lt _ (by norm_num)⟩) * ((insOf m c).S (6 * (y 0).val + (y 2).val / 1024) ((y 2).val % 1024) * -(((1 / 1000 : ℝ) : EReal) * (insOf m c).F (y 0).val))
        + (insOf m c).w (6 * (y 0).val + (y 2).val / 1024 + 6) (ix3 0 ⟨(y 1).val % 1024, Nat.mod_lt _ (by norm_num)⟩ ⟨(y 2).val % 1024, Nat.mod_lt _ (by norm_num)⟩) * ((-1 / 10000 : ℝ) : EReal) := by
    refine (hA 9).trans ?_
    refine Dat.arrAt_eq_of_covers _ 9 _ (by decide +kernel) fun t hf y => ?_
    have hc : (insOf m c).Delta t.val (after 9 t) := (dats m 0 c).toRRel_leaves rfl (hL 9 t hf)
    have hl := flush9_late t hf
    blk_simp [idx9 t hl]
    have ht : t.val < 150 := t.isLt
    have h1 : (y 1).val < 1024 := (y 1).isLt
    have h2 : (y 2).val < 1024 := (y 2).isLt
    have key := hc hl ⟨(y 1).val, h1⟩ ⟨(y 2).val, h2⟩
    have en : 6 * (t.val / 6 - 1) + (t.val % 6 * 1024 + (y 2).val) / 1024 = t.val - 6 := by omega
    have ew : t.val - 6 + 6 = t.val := by omega
    have ee : (t.val % 6 * 1024 + (y 2).val) % 1024 = (y 2).val := by omega
    have eq : (y 1).val % 1024 = (y 1).val := by omega
    simp only [en, ew, ee, eq]
    refine Eq.trans ?_ key
    refine congrArg (after 9 t) (funext fun a => ?_)
    fin_cases a
    · exact Subsingleton.elim (α := Fin 1) _ _
    · rfl
    · rfl
  rw [e9]
  have e1 : (1024 * j.val + e.val) / 1024 = j.val := by omega
  have e2 : (1024 * j.val + e.val) % 1024 = e.val := by omega
  have e3 : q.val % 1024 = q.val := by omega
  show (insOf m c).g (6 * b.val + (1024 * j.val + e.val) / 1024) (ix3 0 ⟨q.val % 1024, _⟩ ⟨(1024 * j.val + e.val) % 1024, _⟩) * ((insOf m c).S (6 * b.val + (1024 * j.val + e.val) / 1024) ((1024 * j.val + e.val) % 1024) * _)
    + (insOf m c).w (6 * b.val + (1024 * j.val + e.val) / 1024 + 6) (ix3 0 ⟨q.val % 1024, _⟩ ⟨(1024 * j.val + e.val) % 1024, _⟩) * _ = _
  simp only [e1, e2, e3]
  rfl

/-- After the run the norms are those of the matrices. -/
theorem norms_final (c : Dev nD) (r : PUnit × MemSt nD τ sig (Elt Ideal)) (h : RDat.FramePost (cfgs 0) (fun c => (dats m 0 c).toRRel Step.outs0 (rel m c)) (V m) r) (b : Fin 24) :
    r.2.mem ((c : Thread nD τ).loc main_v0_2) (ix1 b) = (insOf m c).NV b.val := by
  obtain ⟨after, hL, hA⟩ := h.exists_exact c
  have e : r.2.mem ((c : Thread nD τ).loc main_v0_2) = fun y : S24.Idx => (insOf m c).NV (y 0).val := by
    refine (hA 11).trans ?_
    refine Dat.arrAt_eq_of_covers _ 11 _ (by decide +kernel) fun t hf y => ?_
    have hc : (insOf m c).Norms (t.val + 1) (after 11 t) := (dats m 0 c).toRRel_leaves rfl (hL 11 t hf)
    have hl := (flush0_11 t).mp hf
    blk_simp [idx11 t]
    have ht : t.val < 150 := t.isLt
    have h0 : (y 0).val < 24 := (y 0).isLt
    have key := hc ⟨(y 0).val, h0⟩ (by show 6 * (y 0).val + 5 < _; omega)
    refine Eq.trans ?_ key
    refine congrArg (after 11 t) (funext fun a => ?_)
    fin_cases a
    rfl
  rw [e]
  rfl

/-- After the run the scales of the first moments are those of the points' maxima. -/
theorem outs_final (c : Dev nD) (r : PUnit × MemSt nD τ sig (Elt Ideal)) (h : RDat.FramePost (cfgs 0) (fun c => (dats m 0 c).toRRel Step.outs0 (rel m c)) (V m) r) (b : Fin 24) (q : Fin 320) (l : Fin 48) :
    r.2.mem ((c : Thread nD τ).loc main_v0_4) (ix3 b q l) = scaleS ((insOf m c).T (6 * b.val + l.val / 8) (l.val % 8) q) := by
  obtain ⟨after, hL, hA⟩ := h.exists_exact c
  have e : r.2.mem ((c : Thread nD τ).loc main_v0_4) = fun y : S24x320x48.Idx => scaleS ((insOf m c).T (6 * (y 0).val + (y 2).val / 8) ((y 2).val % 8) ⟨(y 1).val % 320, Nat.mod_lt _ (by norm_num)⟩) := by
    refine (hA 13).trans ?_
    refine Dat.arrAt_eq_of_covers _ 13 _ (by decide +kernel) fun t hf y => ?_
    have hc : (insOf m c).Outs (t.val + 1) (after 13 t) := (dats m 0 c).toRRel_leaves rfl (hL 13 t hf)
    have hl := flush13 t hf
    blk_simp [idx13 t]
    have ht : t.val < 150 := t.isLt
    have h1 : (y 1).val < 320 := (y 1).isLt
    have h2 : (y 2).val < 48 := (y 2).isLt
    have key := hc ⟨(y 1).val, h1⟩ ⟨(y 2).val, h2⟩ (min (t.val / 6) 23) (by omega) (by omega)
    have eq : (y 1).val % 320 = (y 1).val := by omega
    simp only [eq]
    refine Eq.trans ?_ key
    refine congrArg (after 13 t) (funext fun a => ?_)
    fin_cases a
    · exact Subsingleton.elim (α := Fin 1) _ _
    · rfl
    · rfl
  rw [e]
  have e3 : q.val % 320 = q.val := by omega
  show scaleS ((insOf m c).T (6 * b.val + l.val / 8) (l.val % 8) ⟨q.val % 320, _⟩) = _
  simp only [e3]

end Cert.KernelIdeal.Track
-- ==== Proof.ReferenceIdealValue.lean ====
module

public import proofs.«01_k».proof.Proof.Gen.ReferenceIdeal.Frame
public import Idealize.ShloMosaic.Lib.Pointwise
public import Idealize.ShloMosaic.Lib.Pipeline.ValueKit

@[expose] public section
set_option maxRecDepth 16384
set_option pp.maxSteps 600
noncomputable section

namespace Cert.ReferenceIdeal.Value
open Cert.ReferenceIdeal Cert.ReferenceIdeal.Gen
open Idealize.ShloMosaic Idealize.ShloMosaic.TcCoe Idealize.ShloMosaic.Tactic
open Idealize.SL.Sem

/-- The new first moment. -/
def mR (mc ms r : EReal) : EReal := ((9 / 10 : ℝ) : EReal) * (mc * ms) + ((1 / 10 : ℝ) : EReal) * r

/-- The second decay rate, as the reference writes it. -/
def b2R : EReal := 1 - ((1 / 1000 : ℝ) : EReal)

/-- The new second moment before the guard. -/
def v0R (vc vs r : EReal) : EReal := b2R * ((vc * vs) * (vc * vs)) + ((1 / 1000 : ℝ) : EReal) * (r * r)

/-- The new second moment. -/
def vR (vc vs r : EReal) : EReal := if v0R vc vs r < ⊤ then v0R vc vs r else 0

/-- The bias corrections. -/
def bc1R (t : BitVec 32) : EReal := 1 - Ideal.pow ((9 / 10 : ℝ) : EReal) ((t.toInt : ℝ) : EReal)
/-- The correction of the second moments. -/
def bc2R (t : BitVec 32) : EReal := 1 - Ideal.pow b2R ((t.toInt : ℝ) : EReal)

/-- The scaled gradient. -/
def rtR (t : BitVec 32) (m v : EReal) : EReal :=
  Ideal.div (Ideal.div m (bc1R t)) (Ideal.sqrt (Ideal.div v (bc2R t)) + ((1 / 100000000 : ℝ) : EReal))

/-- The scale of a column. -/
def sR (t : BitVec 32) (r m v : Fin 320 → EReal) : EReal :=
  Ideal.div (Ideal.sqrt (∑ q, rtR t (m q) (v q) * rtR t (m q) (v q))) (Ideal.sqrt (∑ q, r q * r q) + ((1 / 100000000 : ℝ) : EReal))

/-- The first moments, by place. -/
theorem pay4_apply (v0 : Vec Ideal S24x320x48x128 .f32) (v2 : Vec Ideal S24x320x48x128 .fp8e4m3) (v5 : Vec Ideal S24x320x48 .f32) (b : Fin 24) (q : Fin 320) (j : Fin 48) (l : Fin 128) :
    k0_pay4 (F := Ideal) v0 v2 v5 (ix4 b q j l) = mR (v2 (ix4 b q j l)) (v5 (ix3 b q j)) (v0 (ix4 b q j l)) := by
  pointwise [k0_pay4, k0_pay3]
  rfl

/-- The second rate. -/
theorem pay5_apply (b : Fin 24) : k0_pay5 (F := Ideal) (ix1 b) = b2R := by
  pointwise [k0_pay5]
  rfl

/-- The second moments before the guard, by place. -/
theorem pay6_apply (v0 : Vec Ideal S24x320x48x128 .f32) (v2 : Vec Ideal S24x320x48x128 .fp8e4m3) (v5 : Vec Ideal S24x320x48 .f32) (b : Fin 24) (q : Fin 320) (j : Fin 48) (l : Fin 128) :
    k0_pay6 (F := Ideal) v0 v2 v5 (ix4 b q j l) = v0R (v2 (ix4 b q j l)) (v5 (ix3 b q j)) (v0 (ix4 b q j l)) := by
  pointwise [k0_pay6, k0_pay3, k0_pay5]
  rfl

/-- The second moments, by place. -/
theorem pay9_apply (v0 : Vec Ideal S24x320x48x128 .f32) (v2 : Vec Ideal S24x320x48x128 .fp8e4m3) (v5 : Vec Ideal S24x320x48 .f32) (b : Fin 24) (q : Fin 320) (j : Fin 48) (l : Fin 128) :
    k0_pay9 (F := Ideal) (k0_pay6 (F := Ideal) v0 v2 v5) (k0_pay7 (F := Ideal) v0 v2 v5) k0_pay8 (ix4 b q j l) = vR (v2 (ix4 b q j l)) (v5 (ix3 b q j)) (v0 (ix4 b q j l)) := by
  have h := pay6_apply v0 v2 v5 b q j l
  pointwise [k0_pay9, k0_pay7, k0_pay8]
  rw [h]
  rw [show Ideal.ofBits FTy.f32 2139095040#32 = ⊤ by simp [Ideal.ofBits, Ideal.ieee]]
  rfl

/-- The scales, by place. -/
theorem pay10_apply (v1 v21 : FVec Ideal S24x320x48x128 .f32) (v31 : FVec Ideal S24x320x48x128 .f32) (v33 : IVec S24x320x48x128 1) (v34 : FVec Ideal S24x320x48x128 .f32) (v36 : Vec Ideal S24 .i32) (b : Fin 24) (j : Fin 48) (l : Fin 128) :
    k0_pay10 (F := Ideal) v1 v21 k0_pay5 v31 v33 v34 v36 (ix3 b j l) = sR (v36 (ix1 b)) (fun q => v1 (ix4 b q j l)) (fun q => v21 (ix4 b q j l)) (fun q => k0_pay9 (F := Ideal) v31 v33 v34 (ix4 b q j l)) := by
  have hv := k0_pay9 (F := Ideal) v31 v33 v34
  pointwise [k0_pay10, k0_pay5]
  rfl

/-- The scaled gradient, by place. -/
theorem pay11_apply (v1 v21 : FVec Ideal S24x320x48x128 .f32) (v24 : FVec Ideal S24 .f32) (v31 : FVec Ideal S24x320x48x128 .f32) (v33 : IVec S24x320x48x128 1) (v34 : FVec Ideal S24x320x48x128 .f32) (v36 : Vec Ideal S24 .i32) (v65 : Vec Ideal S24x1024x48x128 .bf16) (b : Fin 24) (n : Fin 1024) (j : Fin 48) (l : Fin 128) :
    k0_pay11 (F := Ideal) v1 v21 v24 v31 v33 v34 v36 v65 (ix4 b n j l) = v65 (ix4 b n j l) * k0_pay10 (F := Ideal) v1 v21 v24 v31 v33 v34 v36 (ix3 b j l) := by
  generalize hs : k0_pay10 (F := Ideal) v1 v21 v24 v31 v33 v34 v36 = S
  unfold k0_pay11
  rw [hs]
  pointwise []

/-- The norm before the limit. -/
def nR (gt : S24x1024x48x128.Idx → EReal) (b : Fin 24) : EReal := Ideal.sqrt (∑ n : Fin 1024, ∑ j : Fin 48, ∑ l : Fin 128, gt (ix4 b n j l) * gt (ix4 b n j l))

/-- A sum over the three last coordinates. -/
theorem reduce_three (S : S24x1024x48x128.Idx → EReal) (b : Fin 24) :
    Ideal.reduceAdd reduces_S24x1024x48x128_S24 S (ix1 b) = ∑ n : Fin 1024, ∑ j : Fin 48, ∑ l : Fin 128, S (ix4 b n j l) := by
  refine (Finset.sum_filter_eq_sum_of_fiber _ (fun k : Fin 1024 × Fin 48 × Fin 128 => ix4 b k.1 k.2.1 k.2.2)
    (fun _ _ e => Prod.ext (congrFun e 1) (Prod.ext (congrFun e 2) (congrFun e 3))) (fun i => ?_) S).trans ?_
  · constructor
    · intro e
      refine ⟨(i 1, i 2, i 3), ?_⟩
      funext a
      apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext a
      apply Fin.ext
      match a with
      | ⟨0, _⟩ => rfl
  · simp only [Fintype.sum_prod_type]

/-- The stored scale, entry by entry. -/
theorem pay12_apply (v1 v21 : FVec Ideal S24x320x48x128 .f32) (v24 : FVec Ideal S24 .f32) (v31 : FVec Ideal S24x320x48x128 .f32) (v33 : IVec S24x320x48x128 1) (v34 : FVec Ideal S24x320x48x128 .f32) (v36 : Vec Ideal S24 .i32) (v65 : Vec Ideal S24x1024x48x128 .bf16) (b : Fin 24) :
    k0_pay12 (F := Ideal) v1 v21 v24 v31 v33 v34 v36 v65 (ix1 b) = nR (k0_pay11 (F := Ideal) v1 v21 v24 v31 v33 v34 v36 v65) b := by
  generalize hs : k0_pay11 (F := Ideal) v1 v21 v24 v31 v33 v34 v36 v65 = S
  unfold k0_pay12
  rw [hs]
  pointwise []
  rw [reduce_three]
  rfl

/-- The factor that limits the norm. -/
def fR (p n : EReal) : EReal := min 1 (Ideal.div (((101 / 100 : ℝ) : EReal) * p) n)

/-- The factor of a matrix. -/
theorem pay14_apply (v73 : FVec Ideal S24 .f32) (v74 : Vec Ideal S24 .f32) (b : Fin 24) : k0_pay14 (F := Ideal) v73 v74 k0_pay13 (ix1 b) = fR (v74 (ix1 b)) (v73 (ix1 b)) := by
  pointwise [k0_pay14, k0_pay13]
  rfl

/-- The limited norm that is stored. -/
theorem pay15_apply (v73 : FVec Ideal S24 .f32) (v74 : Vec Ideal S24 .f32) (b : Fin 24) : k0_pay15 (F := Ideal) v73 v74 k0_pay13 (ix1 b) = fR (v74 (ix1 b)) (v73 (ix1 b)) * v73 (ix1 b) := by
  pointwise [k0_pay15, k0_pay14, k0_pay13]
  rfl

/-- The weights' change. -/
def dR (f gt w : EReal) : EReal := 0 - ((1 / 1000 : ℝ) : EReal) * (f * gt + ((1 / 10 : ℝ) : EReal) * w)

/-- The stored update, entry by entry. -/
theorem pay16_apply (v70 : FVec Ideal S24x1024x48x128 .f32) (v73 : FVec Ideal S24 .f32) (v74 : Vec Ideal S24 .f32) (v85 : Vec Ideal S24x1024x48x128 .f32) (b : Fin 24) (n : Fin 1024) (j : Fin 48) (l : Fin 128) :
    k0_pay16 (F := Ideal) v70 v73 v74 k0_pay13 v85 (ix4 b n j l) = dR (fR (v74 (ix1 b)) (v73 (ix1 b))) (v70 (ix4 b n j l)) (v85 (ix4 b n j l)) := by
  pointwise [k0_pay16, k0_pay14, k0_pay13]
  rfl

/-- The greatest of 128 values. -/
def topR (f : Fin 128 → EReal) : EReal := (Finset.univ : Finset (Fin 128)).fold max (Ideal.ofBits FTy.f32 0xFF800000#32) f

/-- The scale of a block from its greatest absolute value. -/
def scaleR (x : EReal) : EReal :=
  if x * ((1 / 448 : ℝ) : EReal) < Ideal.ofBits FTy.f32 0x7F000000#32 then
    Ideal.exp2 (if x * ((1 / 448 : ℝ) : EReal) < Ideal.ofBits FTy.f32 0x00800000#32 then 0
      else Ideal.liftRound Int.floor (Ideal.div (Ideal.log (x * ((1 / 448 : ℝ) : EReal))) ((Real.log 2 : ℝ) : EReal)) + 1)
  else if x * ((1 / 448 : ℝ) : EReal) < ⊤ then ⊤ else 0

/-- A product, entry by entry. -/
theorem mul_at {s : Shape} (X Y : FVec Ideal s .f32) (i : s.Idx) : mulf X Y i = (X i : EReal) * (Y i : EReal) := rfl

/-- The greatest absolute value of a block over the largest code. -/
theorem pay17_apply (v : FVec Ideal S24x320x48x128 .f32) (b : Fin 24) (q : Fin 320) (j : Fin 48) :
    k0_pay17 (F := Ideal) v (ix3 b q j) = topR (fun l => FloatOps.absf (F := Ideal) (φ := FTy.f32) (v (ix4 b q j l))) * ((1 / 448 : ℝ) : EReal) := by
  refine (mul_at (multiReduction .maximumf [3] S24x320x48 (absf v) 0xFF800000#32 reduces_S24x320x48x128_S24x320x48 (.inl rfl) rfl) (broadcast S24x320x48 (Named.named κ "inv_fp8_max" 0x3B124925#32 : Ideal .f32)) (ix3 b q j)).trans ?_
  refine congrArg (· * ((1 / 448 : ℝ) : EReal)) ?_
  refine (Ideal.multiReduction_maximumf_single _ _ _ _ _ _).trans ?_
  refine congrArg (Finset.fold max (Ideal.ofBits FTy.f32 0xFF800000#32) · Finset.univ) (funext fun l => ?_)
  refine congrArg (fun y => FloatOps.absf (F := Ideal) (φ := FTy.f32) (v y)) (funext fun a => Fin.ext ?_)
  refine (Shape.Reduces.lift_val _ _ _ _).trans ?_
  match a with
  | ⟨0, _⟩ => rfl
  | ⟨1, _⟩ => rfl
  | ⟨2, _⟩ => rfl
  | ⟨3, _⟩ => rfl

/-- A choice by a comparison, entry by entry. -/
theorem sel_lt {s : Shape} (X Z A B : FVec Ideal s .f32) (i : s.Idx) : select (cmpf .olt X Z) A B i = if (X i : EReal) < (Z i : EReal) then A i else B i := by
  show Scalar.select (BitVec.ofBool (decide ((X i : EReal) < (Z i : EReal)))) (A i) (B i) = _
  by_cases h : (X i : EReal) < (Z i : EReal)
  · rw [decide_eq_true h, if_pos h]
    rfl
  · rw [decide_eq_false h, if_neg h]
    rfl

/-- A constant, entry by entry. -/
theorem bits_at {s : Shape} (b : BitVec 32) (i : s.Idx) : broadcast s (Scalar.ofBits (F := Ideal) .f32 b) i = Ideal.ofBits FTy.f32 b := rfl

/-- The scale of a block, entry by entry. -/
theorem scale_at {s : Shape} (Y B T Z L O I I' Z' : FVec Ideal s .f32) (i : s.Idx) (x : EReal) (h : Y i = x * ((1 / 448 : ℝ) : EReal))
    (hB : B i = Ideal.ofBits FTy.f32 0x7F000000#32) (hT : T i = Ideal.ofBits FTy.f32 0x00800000#32) (hZ : Z i = (0 : EReal)) (hL : L i = ((Real.log 2 : ℝ) : EReal))
    (hO : O i = (1 : EReal)) (hI : I i = (⊤ : EReal)) (hI' : I' i = (⊤ : EReal)) (hZ' : Z' i = (0 : EReal)) :
    select (cmpf .olt Y B) (exp2 (select (cmpf .olt Y T) Z (addf (floor (divf (log Y) L)) O))) (select (cmpf .olt Y I) I' Z') i = scaleR x := by
  have e1 : addf (floor (divf (log Y) L)) O i = Ideal.liftRound Int.floor (Ideal.div (Ideal.log (x * ((1 / 448 : ℝ) : EReal))) ((Real.log 2 : ℝ) : EReal)) + 1 := by
    show Ideal.liftRound Int.floor (Ideal.div (Ideal.log (Y i)) (L i)) + (O i : EReal) = _
    rw [h, hL, hO]
  have e2 : exp2 (select (cmpf .olt Y T) Z (addf (floor (divf (log Y) L)) O)) i = Ideal.exp2 (select (cmpf .olt Y T) Z (addf (floor (divf (log Y) L)) O) i) := rfl
  rw [sel_lt, e2, sel_lt, sel_lt, e1, h, hB, hT, hZ, hI, hI', hZ']
  rfl

/-- The scale of a block from the value it is over, by place. -/
theorem pay22_apply (v : FVec Ideal S24x320x48x128 .f32) (x : EReal) (i : S24x320x48.Idx) (h : k0_pay17 (F := Ideal) v i = x * ((1 / 448 : ℝ) : EReal)) :
    k0_pay22 (F := Ideal) (k0_pay17 v) (k0_pay19 v) (k0_pay20 v) k0_pay21 i = scaleR x := by
  have one : Ideal.ofBits FTy.f32 0x3F800000#32 = 1 := by simp [Ideal.ofBits, Ideal.ieee]; rw [← EReal.coe_mul]; norm_num
  have zero : Ideal.ofBits FTy.f32 0x00000000#32 = 0 := by simp [Ideal.ofBits, Ideal.ieee]
  have top : Ideal.ofBits FTy.f32 0x7F800000#32 = ⊤ := by simp [Ideal.ofBits, Ideal.ieee]
  unfold k0_pay22 k0_pay21 k0_pay20 k0_pay19 k0_pay18
  generalize k0_pay17 (F := Ideal) v = Y at h ⊢
  exact scale_at Y _ _ _ _ _ _ _ _ i x h (bits_at _ i) (bits_at _ i) ((bits_at _ i).trans zero) rfl ((bits_at _ i).trans one) ((bits_at _ i).trans top) ((bits_at _ i).trans top) ((bits_at _ i).trans zero)

end Cert.ReferenceIdeal.Value
-- ==== Proof.Arithmetic.lean ====
module

public import proofs.«01_k».proof.Proof.KernelIdealReads
public import proofs.«01_k».proof.Proof.ReferenceIdealValue

@[expose] public section
set_option maxRecDepth 16384
noncomputable section

/-! The arithmetic on the extended reals by which the kernel's scale of a column, its norm and its
update equal the reference's. -/

namespace Cert.Arithmetic
open Idealize.ShloMosaic
open Cert.KernelIdeal.Track (mS vS qS rtS sS bcS)
open Cert.ReferenceIdeal.Value (mR b2R v0R vR bc1R bc2R rtR sR)

/-- The smallest positive normal number. -/
theorem tiny_eq : Ideal.ofBits FTy.f32 8388608#32 = (((2 : ℝ) ^ (-126 : ℤ) : ℝ) : EReal) := by
  simp [Ideal.ofBits, Ideal.ieee]
  rw [← EReal.coe_mul]
  norm_num

/-- A thousand times the smallest positive normal number. -/
theorem bound_eq : Ideal.ofBits FTy.f32 0x057A0000#32 = ((1000 * (2 : ℝ) ^ (-126 : ℤ) : ℝ) : EReal) := by
  simp [Ideal.ofBits, Ideal.ieee]
  rw [← EReal.coe_mul, ← EReal.coe_mul]
  norm_num

/-- A square is not negative. -/
theorem sq_nonneg (x : EReal) : 0 ≤ x * x := by
  induction x with
  | bot => simp
  | top => simp
  | coe x => exact_mod_cast mul_self_nonneg x

/-- The root of a number that is not negative, squared, is the number. -/
theorem sqrt_mul_sqrt {x : EReal} (h : 0 ≤ x) : Ideal.sqrt x * Ideal.sqrt x = x := by
  induction x with
  | bot => simp at h
  | top => simp
  | coe x =>
    have hx : 0 ≤ x := by exact_mod_cast h
    rw [Ideal.sqrt_coe, if_neg (not_lt.mpr hx)]
    exact_mod_cast Real.mul_self_sqrt hx

/-- The root of a number times the square of a positive real. -/
theorem sqrt_mul_sq {x : EReal} (h : 0 ≤ x) {k : ℝ} (hk : 0 < k) : Ideal.sqrt (x * ((k * k : ℝ) : EReal)) = Ideal.sqrt x * (k : EReal) := by
  induction x with
  | bot => simp at h
  | top =>
    rw [EReal.top_mul_coe_of_pos (mul_pos hk hk), Ideal.sqrt_top, EReal.top_mul_coe_of_pos hk]
  | coe x =>
    have hx : 0 ≤ x := by exact_mod_cast h
    rw [← EReal.coe_mul, Ideal.sqrt_coe, if_neg (not_lt.mpr (mul_nonneg hx (mul_pos hk hk).le)), Ideal.sqrt_coe, if_neg (not_lt.mpr hx),
      ← EReal.coe_mul, Real.sqrt_mul hx, Real.sqrt_mul_self hk.le]

/-- A sum of numbers that are not negative, times a number: term by term. -/
theorem mul_sum_nonneg {ι : Type*} (s : Finset ι) (f : ι → EReal) (h : ∀ i, 0 ≤ f i) (c : EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- The square of a product of four factors, regrouped. -/
theorem sq_regroup (a b k : EReal) : (a * (b * k)) * (a * (b * k)) = (k * k) * ((a * b) * (a * b)) := by
  ac_rfl

/-- One bias correction is a positive real. -/
theorem bc_pos (t : BitVec 32) (ht : 0 < t.toInt) (β : ℝ) (h0 : 0 < β) (h1 : β < 1) :
    ∃ B : ℝ, 0 < B ∧ bcS (Real.log β : ℝ) t = (B : EReal) ∧ 1 - Ideal.pow (β : EReal) ((t.toInt : ℝ) : EReal) = (B : EReal) := by
  refine ⟨1 - Real.exp ((t.toInt : ℝ) * Real.log β), ?_, ?_, ?_⟩
  · have : (t.toInt : ℝ) * Real.log β < 0 := mul_neg_of_pos_of_neg (by exact_mod_cast ht) (Real.log_neg h0 h1)
    have := Real.exp_lt_exp.mpr this
    rw [Real.exp_zero] at this
    linarith
  · unfold bcS
    rw [← EReal.coe_mul, Ideal.exp_coe, EReal.coe_sub, EReal.coe_one]
  · rw [Ideal.pow_coe_coe, EReal.coe_sub, EReal.coe_one]
    congr 2
    show β ^ (t.toInt : ℝ) = _
    rw [Real.rpow_def_of_pos h0, mul_comm]

/-- The second rate is a real. -/
theorem b2R_eq : b2R = ((999 / 1000 : ℝ) : EReal) := by
  unfold b2R
  rw [← EReal.coe_one, ← EReal.coe_sub]
  norm_num

/-- The two first moments agree. -/
theorem m_eq (mc ms r : EReal) : mS mc (ms * ((9 / 10 : ℝ) : EReal)) r = mR mc ms r := by
  unfold mS mR
  congr 1
  ac_rfl

/-- The two second moments agree, before the guard. -/
theorem v_eq (vc vs r : EReal) : vS vc (vs * Ideal.sqrt (1 - ((1 / 1000 : ℝ) : EReal))) r = v0R vc vs r := by
  unfold vS v0R
  rw [sq_regroup, show (1 : EReal) - ((1 / 1000 : ℝ) : EReal) = b2R from rfl, sqrt_mul_sqrt]
  rw [b2R_eq]
  exact_mod_cast (by norm_num : (0 : ℝ) ≤ 999 / 1000)

/-- What is asked of an entry: its projected gradient is not so small that its square loses its
root, or nothing is stored there. -/
def Settled (r vs : EReal) : Prop := Ideal.ofBits FTy.f32 0x057A0000#32 ≤ r * r ∨ (r = 0 ∧ vs = 0)

/-- The second moment of a settled entry is nought, or is no smaller than the smallest normal number. -/
theorem v_settled (vc vs r : EReal) (h : Settled r vs) : v0R vc vs r = 0 ∨ (((2 : ℝ) ^ (-126 : ℤ) : ℝ) : EReal) ≤ v0R vc vs r := by
  rcases h with h | ⟨rfl, rfl⟩
  · right
    rw [bound_eq] at h
    unfold v0R
    have h1 : 0 ≤ b2R * ((vc * vs) * (vc * vs)) := by
      rw [b2R_eq]
      exact mul_nonneg (by exact_mod_cast (by norm_num : (0 : ℝ) ≤ 999 / 1000)) (sq_nonneg _)
    have h2 : (((2 : ℝ) ^ (-126 : ℤ) : ℝ) : EReal) ≤ ((1 / 1000 : ℝ) : EReal) * (r * r) := by
      have := mul_le_mul_of_nonneg_left h (show (0 : EReal) ≤ ((1 / 1000 : ℝ) : EReal) by exact_mod_cast (by norm_num : (0 : ℝ) ≤ 1 / 1000))
      refine le_trans (le_of_eq ?_) this
      rw [← EReal.coe_mul]
      congr 1
      ring
    calc _ ≤ _ := h2
      _ = 0 + _ := (zero_add _).symm
      _ ≤ _ := add_le_add_left h1 _
  · left
    unfold v0R
    simp

/-- The kernel's root of a second moment is the root of the guarded second moment, a real. -/
theorem q_eq (vc vs r : EReal) (h : Settled r vs) : ∃ v : ℝ, 0 ≤ v ∧ vR vc vs r = (v : EReal) ∧ qS (v0R vc vs r) = ((Real.sqrt v : ℝ) : EReal) := by
  have hv := v_settled vc vs r h
  unfold vR qS
  rw [tiny_eq]
  generalize v0R vc vs r = w at hv ⊢
  rcases hv with rfl | hv
  · exact ⟨0, le_rfl, by simp, by simp⟩
  · have hp : (0 : ℝ) < (2 : ℝ) ^ (-126 : ℤ) := by positivity
    induction w with
    | bot => simp at hv
    | top => exact ⟨0, le_rfl, by simp, by simp⟩
    | coe w =>
      have hw : (2 : ℝ) ^ (-126 : ℤ) ≤ w := by exact_mod_cast hv
      have hw0 : 0 < w := lt_of_lt_of_le hp hw
      refine ⟨w, hw0.le, by rw [if_pos (EReal.coe_lt_top w)], ?_⟩
      rw [max_eq_left hv, Ideal.rsqrt_coe, if_neg (not_lt.mpr hw0.le), if_neg hw0.ne', ← EReal.coe_mul]
      congr 1
      rw [← div_eq_mul_inv, Real.div_sqrt]

/-- The scaled gradients differ by one positive real. -/
theorem rt_eq (t : BitVec 32) (B1 B2 : ℝ) (h1 : 0 < B1) (h2 : 0 < B2) (e1 : bc1R t = (B1 : EReal)) (e2 : bc2R t = (B2 : EReal)) (mc ms vc vs r : EReal)
    (h : Settled r vs) :
    rtR t (mR mc ms r) (vR vc vs r)
      = rtS (Ideal.sqrt (B2 : EReal) * ((1 / 100000000 : ℝ) : EReal)) mc (ms * ((9 / 10 : ℝ) : EReal)) vc (vs * Ideal.sqrt (1 - ((1 / 1000 : ℝ) : EReal))) r
        * ((Real.sqrt B2 / B1 : ℝ) : EReal) := by
  obtain ⟨v, hv, ev, eq⟩ := q_eq vc vs r h
  have hs : 0 < Real.sqrt B2 := Real.sqrt_pos.mpr h2
  have hsv : 0 ≤ Real.sqrt v := Real.sqrt_nonneg v
  unfold rtR rtS
  rw [m_eq, v_eq, e1, e2, ev, eq, Ideal.div_coe h1.ne', Ideal.div_coe h2.ne', ← EReal.coe_mul, Ideal.sqrt_coe, Ideal.sqrt_coe,
    if_neg (not_lt.mpr (mul_nonneg hv (by positivity))), if_neg (not_lt.mpr h2.le), ← EReal.coe_mul, ← EReal.coe_add, ← EReal.coe_add,
    Ideal.div_coe (by positivity), Ideal.div_coe (by positivity), mul_assoc, mul_assoc, ← EReal.coe_mul, ← EReal.coe_mul]
  congr 2
  rw [Real.sqrt_mul hv, Real.sqrt_div zero_le_one, Real.sqrt_one]
  have : Real.sqrt v + Real.sqrt B2 * (1 / 100000000) ≠ 0 := by positivity
  have : Real.sqrt v * (1 / Real.sqrt B2) + 1 / 100000000 ≠ 0 := by positivity
  field_simp

/-- The scale of a column whose entries are settled, at a positive step. -/
theorem s_eq (t : BitVec 32) (ht : 0 < t.toInt) (mc ms vc vs r : Fin 320 → EReal) (h : ∀ q, Settled (r q) (vs q)) :
    sS (bcS (Real.log (9 / 10) : ℝ) t) (bcS (Real.log (999 / 1000) : ℝ) t)
      (∑ q, rtS (Ideal.sqrt (bcS (Real.log (999 / 1000) : ℝ) t) * ((1 / 100000000 : ℝ) : EReal)) (mc q) (ms q * ((9 / 10 : ℝ) : EReal)) (vc q)
          (vs q * Ideal.sqrt (1 - ((1 / 1000 : ℝ) : EReal))) (r q)
        * rtS (Ideal.sqrt (bcS (Real.log (999 / 1000) : ℝ) t) * ((1 / 100000000 : ℝ) : EReal)) (mc q) (ms q * ((9 / 10 : ℝ) : EReal)) (vc q)
          (vs q * Ideal.sqrt (1 - ((1 / 1000 : ℝ) : EReal))) (r q))
      (∑ q, r q * r q)
    = sR t r (fun q => mR (mc q) (ms q) (r q)) (fun q => vR (vc q) (vs q) (r q)) := by
  obtain ⟨B1, p1, k1, r1⟩ := bc_pos t ht (9 / 10) (by norm_num) (by norm_num)
  obtain ⟨B2, p2, k2, r2⟩ := bc_pos t ht (999 / 1000) (by norm_num) (by norm_num)
  have e1 : bc1R t = (B1 : EReal) := r1
  have e2 : bc2R t = (B2 : EReal) := by unfold bc2R; rw [b2R_eq]; exact r2
  have hk : 0 < Real.sqrt B2 / B1 := div_pos (Real.sqrt_pos.mpr p2) p1
  unfold sS sR
  simp only [k1, k2]
  congr 1
  have hd : Ideal.div (Ideal.sqrt (B2 : EReal)) (B1 : EReal) = ((Real.sqrt B2 / B1 : ℝ) : EReal) := by
    rw [Ideal.div_coe p1.ne', Ideal.sqrt_coe, if_neg (not_lt.mpr p2.le), ← EReal.coe_mul]
    congr 1
    ring
  rw [hd, ← sqrt_mul_sq (Finset.sum_nonneg fun q _ => sq_nonneg _) hk, mul_comm, mul_sum_nonneg _ _ (fun q => sq_nonneg _)]
  congr 1
  refine Finset.sum_congr rfl fun q _ => ?_
  rw [rt_eq t B1 B2 p1 p2 e1 e2 _ _ _ _ _ (h q), EReal.coe_mul]
  ac_rfl

/-- The weights' change as the kernel adds it up is the reference's, where the weight is a real number. -/
theorem change_eq (f g s : EReal) (w : ℝ) :
    g * (s * -(((1 / 1000 : ℝ) : EReal) * f)) + (w : EReal) * ((-1 / 10000 : ℝ) : EReal)
      = 0 - ((1 / 1000 : ℝ) : EReal) * (f * (g * s) + ((1 / 10 : ℝ) : EReal) * (w : EReal)) := by
  have h : g * (s * -(((1 / 1000 : ℝ) : EReal) * f)) = -(((1 / 1000 : ℝ) : EReal) * (f * (g * s))) := by
    rw [mul_neg, mul_neg]
    exact congrArg Neg.neg (by ac_rfl)
  rw [h, zero_sub]
  generalize f * (g * s) = a
  have hp : (0 : ℝ) < 1 / 1000 := by norm_num
  induction a using EReal.rec with
  | bot =>
    rw [EReal.coe_mul_bot_of_pos hp, ← EReal.coe_mul, ← EReal.coe_mul, EReal.bot_add, EReal.coe_mul_bot_of_pos hp, EReal.neg_bot, EReal.top_add_coe]
  | top =>
    rw [EReal.coe_mul_top_of_pos hp, ← EReal.coe_mul, ← EReal.coe_mul, EReal.top_add_coe, EReal.coe_mul_top_of_pos hp, EReal.neg_top, EReal.bot_add]
  | coe a =>
    rw [← EReal.coe_mul, ← EReal.coe_mul, ← EReal.coe_mul, ← EReal.coe_add, ← EReal.coe_mul, ← EReal.coe_neg, ← EReal.coe_neg, ← EReal.coe_add]
    exact congrArg _ (by ring)

end Cert.Arithmetic
-- ==== Proof.KernelIdealClosed.lean ====
module

public import proofs.«01_k».proof.Proof.KernelIdealFinal
public import proofs.«01_k».proof.Proof.Arithmetic

@[expose] public section
set_option maxRecDepth 16384
set_option pp.maxSteps 600
noncomputable section

/-! The kernel's scales and norm in the terms of the whole arrays. -/

namespace Cert.KernelIdeal.Track
open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The gradient, as extended reals. -/
abbrev GK (c : Dev nD) : S24x1024x6144.Idx → EReal := m ((c : Thread nD τ).loc main_arg1)
/-- The projection. -/
abbrev PK (c : Dev nD) : S24x320x1024.Idx → EReal := m ((c : Thread nD τ).loc main_arg2)
/-- The codes of the first moments. -/
abbrev MCK (c : Dev nD) : S24x320x6144.Idx → EReal := m ((c : Thread nD τ).loc main_arg3)
/-- The scales of the first moments. -/
abbrev MSK (c : Dev nD) : S24x320x48.Idx → EReal := m ((c : Thread nD τ).loc main_arg4)
/-- The codes of the second moments. -/
abbrev VCK (c : Dev nD) : S24x320x6144.Idx → EReal := m ((c : Thread nD τ).loc main_arg5)
/-- The scales of the second moments. -/
abbrev VSK (c : Dev nD) : S24x320x48.Idx → EReal := m ((c : Thread nD τ).loc main_arg6)
/-- The steps. -/
abbrev TK (c : Dev nD) : S24.Idx → BitVec 32 := m ((c : Thread nD τ).loc main_arg7)

/-- An entry of the projected gradient. -/
abbrev RK (c : Dev nD) (b : Fin 24) (q : Fin 320) (d : Fin 6144) : EReal := ∑ n : Fin 1024, PK m c (ix3 b q n) * GK m c (ix3 b n d)

/-- A scaled gradient. -/
abbrev XK (c : Dev nD) (b : Fin 24) (q : Fin 320) (d : Fin 6144) : EReal :=
  rtS (Ideal.sqrt (bcS (Real.log (999 / 1000)) (TK m c (ix1 b))) * ((1 / 100000000 : ℝ) : EReal)) (MCK m c (ix3 b q d))
    (MSK m c (ix3 b q ⟨d.val / 128, by omega⟩) * ((9 / 10 : ℝ) : EReal)) (VCK m c (ix3 b q d))
    (VSK m c (ix3 b q ⟨d.val / 128, by omega⟩) * Ideal.sqrt (1 - ((1 / 1000 : ℝ) : EReal))) (RK m c b q d)

/-- The scale of a column, in the terms of the whole arrays. -/
theorem S_at (c : Dev nD) (b : Fin 24) (j : Fin 6) (e : Fin 1024) :
    (insOf m c).S (6 * b.val + j.val) e.val
      = sS (bcS (Real.log (9 / 10)) (TK m c (ix1 b))) (bcS (Real.log (999 / 1000)) (TK m c (ix1 b)))
          (∑ q, XK m c b q (colOf j e) * XK m c b q (colOf j e)) (∑ q, RK m c b q (colOf j e) * RK m c b q (colOf j e)) := by
  have hdiv : (6 * b.val + j.val) / 6 = b.val := by omega
  have hmod : (6 * b.val + j.val) % 6 = j.val := by omega
  have h24 : at24 b.val = b := Fin.ext (Nat.mod_eq_of_lt b.isLt)
  have hlane : (8 * j.val + e.val / 128) = (colOf j e).val / 128 := by show _ = (1024 * j.val + e.val) / 128; omega
  have hl48 : 8 * j.val + e.val / 128 < 48 := by omega
  have hr : ∀ q, rS ((insOf m c).p (6 * b.val + j.val)) ((insOf m c).g (6 * b.val + j.val)) q e = RK m c b q (colOf j e) := fun q =>
    Finset.sum_congr rfl fun n _ => congrArg₂ (· * ·) (p_at m c b j q n) (g_at m c b j n e)
  have hm : ∀ q, msx ((insOf m c).ms (6 * b.val)) (ix2 q (⟨8 * j.val + e.val / 128, by omega⟩ : Fin 128))
      = MSK m c (ix3 b q ⟨(colOf j e).val / 128, by omega⟩) * ((9 / 10 : ℝ) : EReal) := fun q =>
    (dif_pos (show ((ix2 q (⟨8 * j.val + e.val / 128, by omega⟩ : Fin 128)) 1).val < 48 from hl48)).trans
      (congrArg (· * ((9 / 10 : ℝ) : EReal)) ((ms_at m c b q ⟨8 * j.val + e.val / 128, hl48⟩).trans
        (congrArg (fun l => MSK m c (ix3 b q l)) (Fin.ext hlane))))
  have hv : ∀ q, vsx ((insOf m c).vs (6 * b.val)) (ix2 q (⟨8 * j.val + e.val / 128, by omega⟩ : Fin 128))
      = VSK m c (ix3 b q ⟨(colOf j e).val / 128, by omega⟩) * Ideal.sqrt (1 - ((1 / 1000 : ℝ) : EReal)) := fun q =>
    (dif_pos (show ((ix2 q (⟨8 * j.val + e.val / 128, by omega⟩ : Fin 128)) 1).val < 48 from hl48)).trans
      (congrArg (· * Ideal.sqrt (1 - ((1 / 1000 : ℝ) : EReal))) ((vs_at m c b q ⟨8 * j.val + e.val / 128, hl48⟩).trans
        (congrArg (fun l => VSK m c (ix3 b q l)) (Fin.ext hlane))))
  have ht : (insOf m c).st (6 * b.val + j.val) (ix1 b) = TK m c (ix1 b) := st_at m c _ b
  have hmc : ∀ q, (insOf m c).mc (6 * b.val + j.val) (ix3 0 q e) = MCK m c (ix3 b q (colOf j e)) := fun q => mc_at m c b j q e
  have hvc : ∀ q, (insOf m c).vc (6 * b.val + j.val) (ix3 0 q e) = VCK m c (ix3 b q (colOf j e)) := fun q => vc_at m c b j q e
  unfold Ins.S scol
  rw [hdiv, hmod, dif_pos ⟨e.isLt, j.isLt⟩, h24, ht]
  unfold colS
  simp only [hr, hm, hv, hmc, hvc]

/-- A new first moment. -/
abbrev MK (c : Dev nD) (b : Fin 24) (q : Fin 320) (d : Fin 6144) : EReal :=
  mS (MCK m c (ix3 b q d)) (MSK m c (ix3 b q ⟨d.val / 128, by omega⟩) * ((9 / 10 : ℝ) : EReal)) (RK m c b q d)

/-- The greatest absolute value of a block of new first moments, in the terms of the whole arrays. -/
theorem T_at (c : Dev nD) (b : Fin 24) (q : Fin 320) (l : Fin 48) :
    (insOf m c).T (6 * b.val + l.val / 8) (l.val % 8) q
      = topOf fun k => FloatOps.absf (F := Ideal) (φ := FTy.f32) (MK m c b q ⟨l.val * 128 + k.val, by omega⟩) := by
  have hj : l.val / 8 < 6 := by omega
  have hdiv : (6 * b.val + l.val / 8) / 6 = b.val := by omega
  have hmod : (6 * b.val + l.val / 8) % 6 = l.val / 8 := by omega
  unfold Ins.T mtop
  rw [hdiv, hmod, dif_pos ⟨by omega, hj⟩]
  refine congrArg topOf (funext fun k => congrArg (FloatOps.absf (F := Ideal) (φ := FTy.f32)) ?_)
  have hcol : colOf ⟨l.val / 8, hj⟩ ⟨128 * (l.val % 8) + k.val, by omega⟩ = ⟨l.val * 128 + k.val, by omega⟩ :=
    Fin.ext (by show 1024 * (l.val / 8) + (128 * (l.val % 8) + k.val) = l.val * 128 + k.val; omega)
  have hr : rS ((insOf m c).p (6 * b.val + l.val / 8)) ((insOf m c).g (6 * b.val + l.val / 8)) q ⟨128 * (l.val % 8) + k.val, by omega⟩ = RK m c b q ⟨l.val * 128 + k.val, by omega⟩ := by
    rw [← hcol]
    exact Finset.sum_congr rfl fun n _ => congrArg₂ (· * ·) (p_at m c b ⟨l.val / 8, hj⟩ q n) (g_at m c b ⟨l.val / 8, hj⟩ n _)
  have hmc : (insOf m c).mc (6 * b.val + l.val / 8) (ix3 0 q ⟨128 * (l.val % 8) + k.val, by omega⟩) = MCK m c (ix3 b q ⟨l.val * 128 + k.val, by omega⟩) := by
    rw [← hcol]
    exact mc_at m c b ⟨l.val / 8, hj⟩ q _
  have h48 : 8 * (l.val / 8) + l.val % 8 < 48 := by omega
  have hm : msx ((insOf m c).ms (6 * b.val)) (ix2 q (⟨8 * (l.val / 8) + l.val % 8, by omega⟩ : Fin 128))
      = MSK m c (ix3 b q ⟨(l.val * 128 + k.val) / 128, by omega⟩) * ((9 / 10 : ℝ) : EReal) :=
    (dif_pos (show ((ix2 q (⟨8 * (l.val / 8) + l.val % 8, by omega⟩ : Fin 128)) 1).val < 48 from h48)).trans
      (congrArg (· * ((9 / 10 : ℝ) : EReal)) ((ms_at m c b q ⟨8 * (l.val / 8) + l.val % 8, h48⟩).trans
        (congrArg (fun x => MSK m c (ix3 b q x)) (Fin.ext (by show 8 * (l.val / 8) + l.val % 8 = (l.val * 128 + k.val) / 128; omega)))))
  rw [hr, hmc, hm]

/-- The sum of the squares of a column of the gradient. -/
theorem gcol_at (c : Dev nD) (b : Fin 24) (j : Fin 6) (e : Fin 1024) :
    gcol ((insOf m c).g (6 * b.val + j.val)) e.val = ∑ n : Fin 1024, GK m c (ix3 b n (colOf j e)) * GK m c (ix3 b n (colOf j e)) := by
  unfold gcol
  rw [dif_pos e.isLt]
  exact Finset.sum_congr rfl fun n _ => congrArg₂ (· * ·) (g_at m c b j n e) (g_at m c b j n e)

/-- The square of what a column adds to the norm: the squares of its entries, each times the scale. -/
theorem SG_at (c : Dev nD) (b : Fin 24) (j : Fin 6) (e : Fin 1024) (s : EReal) (hs : (insOf m c).S (6 * b.val + j.val) e.val = s) :
    (insOf m c).SG (6 * b.val + j.val) e.val * (insOf m c).SG (6 * b.val + j.val) e.val
      = ∑ n : Fin 1024, (GK m c (ix3 b n (colOf j e)) * s) * (GK m c (ix3 b n (colOf j e)) * s) := by
  unfold Ins.SG
  rw [hs, gcol_at]
  have h0 : ∀ n : Fin 1024, (0 : EReal) ≤ GK m c (ix3 b n (colOf j e)) * GK m c (ix3 b n (colOf j e)) := fun n => Cert.Arithmetic.sq_nonneg _
  rw [mul_mul_mul_comm, Cert.Arithmetic.sqrt_mul_sqrt (Finset.sum_nonneg fun n _ => h0 n), Cert.Arithmetic.mul_sum_nonneg _ _ h0]
  refine Finset.sum_congr rfl fun n _ => ?_
  ac_rfl

/-- Three sums in the opposite order. -/
theorem swap3 {α β γ : Type} [Fintype α] [Fintype β] [Fintype γ] (f : α → β → γ → EReal) :
    ∑ a, ∑ b, ∑ c, f a b c = ∑ c, ∑ b, ∑ a, f a b c := by
  rw [Finset.sum_comm]
  rw [Finset.sum_congr rfl fun b _ => Finset.sum_comm (f := fun a c => f a b c)]
  rw [Finset.sum_comm]

/-- The norm of a matrix before the limit, in the terms of the whole arrays: over all rows and columns,
the columns counted in groups of a hundred and twenty-eight. -/
theorem norm_at (c : Dev nD) (b : Fin 24) (s : Fin 6144 → EReal)
    (hs : ∀ (j : Fin 6) (e : Fin 1024), (insOf m c).S (6 * b.val + j.val) e.val = s (colOf j e)) :
    normS (fun l => (insOf m c).N b.val 6 l.val)
      = Ideal.sqrt (∑ n : Fin 1024, ∑ j : Fin 48, ∑ l : Fin 128,
          (GK m c (ix3 b n ⟨j.val * 128 + l.val, by omega⟩) * s ⟨j.val * 128 + l.val, by omega⟩)
            * (GK m c (ix3 b n ⟨j.val * 128 + l.val, by omega⟩) * s ⟨j.val * 128 + l.val, by omega⟩)) := by
  unfold normS
  congr 1
  have h1 : ∀ l : Fin 128, (insOf m c).N b.val 6 l.val
      = ∑ j : Fin 48, ∑ n : Fin 1024, (GK m c (ix3 b n ⟨j.val * 128 + l.val, by omega⟩) * s ⟨j.val * 128 + l.val, by omega⟩)
            * (GK m c (ix3 b n ⟨j.val * 128 + l.val, by omega⟩) * s ⟨j.val * 128 + l.val, by omega⟩) := by
    intro l
    unfold Ins.N
    rw [Finset.sum_range]
    rw [← (finProdFinEquiv (m := 6) (n := 8)).sum_comp, Fintype.sum_prod_type]
    refine Finset.sum_congr rfl fun x _ => ?_
    rw [Finset.sum_range]
    refine Finset.sum_congr rfl fun y _ => ?_
    have hc : (⟨(finProdFinEquiv (x, y)).val * 128 + l.val, by have := (finProdFinEquiv (x, y)).isLt; omega⟩ : Fin 6144)
        = colOf x ⟨128 * y.val + l.val, by omega⟩ :=
      Fin.ext (by show (y.val + 8 * x.val) * 128 + l.val = 1024 * x.val + (128 * y.val + l.val); omega)
    refine (SG_at m c b x ⟨128 * y.val + l.val, by omega⟩ _ (hs x _)).trans ?_
    refine Finset.sum_congr rfl fun n _ => ?_
    exact congrArg (fun d => (GK m c (ix3 b n d) * s d) * (GK m c (ix3 b n d) * s d)) hc.symm
  rw [Finset.sum_congr rfl fun l _ => h1 l]
  exact swap3 fun (l : Fin 128) (j : Fin 48) (n : Fin 1024) =>
    (GK m c (ix3 b n ⟨j.val * 128 + l.val, by omega⟩) * s ⟨j.val * 128 + l.val, by omega⟩)
      * (GK m c (ix3 b n ⟨j.val * 128 + l.val, by omega⟩) * s ⟨j.val * 128 + l.val, by omega⟩)

end Cert.KernelIdeal.Track
-- ==== Proof.ReferenceIdealRun.lean ====
module

public import proofs.«01_k».proof.Proof.ReferenceIdealValue
public import Idealize.ShloMosaic.Lib.StableHlo.ReadAt

@[expose] public section
set_option maxRecDepth 16384
set_option pp.maxSteps 600
noncomputable section

namespace Cert.ReferenceIdeal.Value
open Cert.ReferenceIdeal Cert.ReferenceIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- A column of the whole array from its block and its lane. -/
abbrev colOf (j : Fin 48) (l : Fin 128) : Fin 6144 := ⟨j.val * 128 + l.val, by omega⟩

/-- The projected gradient. -/
def rA (p : S24x320x1024.Idx → EReal) (g : S24x1024x6144.Idx → EReal) (b : Fin 24) (q : Fin 320) (d : Fin 6144) : EReal :=
  ∑ n : Fin 1024, p (ix3 b q n) * g (ix3 b n d)

/-- The projected gradient, in blocks, as the region finds it. -/
theorem r_entry (c : Dev nD) (b : Fin 24) (q : Fin 320) (j : Fin 48) (l : Fin 128) :
    V m c main_v3 (ix4 b q j l) = rA (m ((c : Thread nD τ).loc main_arg2)) (m ((c : Thread nD τ).loc main_arg1)) b q (colOf j l) := by
  unfold V
  after_reads_at
  rfl

/-- An argument in blocks, as the region finds it. -/
theorem arg0_entry (c : Dev nD) (b : Fin 24) (q : Fin 1024) (j : Fin 48) (l : Fin 128) :
    V m c main_v1 (ix4 b q j l) = m ((c : Thread nD τ).loc main_arg0) (ix3 b q (colOf j l)) := by
  unfold V
  after_reads_at

/-- An argument in blocks, as the region finds it. -/
theorem arg1_entry (c : Dev nD) (b : Fin 24) (q : Fin 1024) (j : Fin 48) (l : Fin 128) :
    V m c main_v2 (ix4 b q j l) = m ((c : Thread nD τ).loc main_arg1) (ix3 b q (colOf j l)) := by
  unfold V
  after_reads_at

/-- An argument in blocks, as the region finds it. -/
theorem arg3_entry (c : Dev nD) (b : Fin 24) (q : Fin 320) (j : Fin 48) (l : Fin 128) :
    V m c main_v4 (ix4 b q j l) = m ((c : Thread nD τ).loc main_arg3) (ix3 b q (colOf j l)) := by
  unfold V
  after_reads_at

/-- An argument in blocks, as the region finds it. -/
theorem arg5_entry (c : Dev nD) (b : Fin 24) (q : Fin 320) (j : Fin 48) (l : Fin 128) :
    V m c main_v5 (ix4 b q j l) = m ((c : Thread nD τ).loc main_arg5) (ix3 b q (colOf j l)) := by
  unfold V
  after_reads_at

/-- The one block of a window is its whole array. -/
theorem whole0 (c : Dev nD) (t : Fin cfg0.N) : iblk m c 0 t = V m c main_v1 := by
  have hi : win0_0.index t = ![0, 0, 0, 0] := by rcases fin_N0 t with rfl; decide +kernel
  funext y
  blk_ext [iblk, hi]

/-- The one block of a window is its whole array. -/
theorem whole1 (c : Dev nD) (t : Fin cfg0.N) : iblk m c 1 t = V m c main_v2 := by
  have hi : win0_1.index t = ![0, 0, 0, 0] := by rcases fin_N0 t with rfl; decide +kernel
  funext y
  blk_ext [iblk, hi]

/-- The one block of a window is its whole array. -/
theorem whole2 (c : Dev nD) (t : Fin cfg0.N) : iblk m c 2 t = V m c main_v3 := by
  have hi : win0_2.index t = ![0, 0, 0, 0] := by rcases fin_N0 t with rfl; decide +kernel
  funext y
  blk_ext [iblk, hi]

/-- The one block of a window is its whole array. -/
theorem whole3 (c : Dev nD) (t : Fin cfg0.N) : iblk m c 3 t = V m c main_v4 := by
  have hi : win0_3.index t = ![0, 0, 0, 0] := by rcases fin_N0 t with rfl; decide +kernel
  funext y
  blk_ext [iblk, hi]

/-- The one block of a window is its whole array. -/
theorem whole4 (c : Dev nD) (t : Fin cfg0.N) : iblk m c 4 t = V m c main_arg4 := by
  have hi : win0_4.index t = ![0, 0, 0] := by rcases fin_N0 t with rfl; decide +kernel
  funext y
  blk_ext [iblk, hi]

/-- The one block of a window is its whole array. -/
theorem whole5 (c : Dev nD) (t : Fin cfg0.N) : iblk m c 5 t = V m c main_v5 := by
  have hi : win0_5.index t = ![0, 0, 0, 0] := by rcases fin_N0 t with rfl; decide +kernel
  funext y
  blk_ext [iblk, hi]

/-- The one block of a window is its whole array. -/
theorem whole6 (c : Dev nD) (t : Fin cfg0.N) : iblk m c 6 t = V m c main_arg6 := by
  have hi : win0_6.index t = ![0, 0, 0] := by rcases fin_N0 t with rfl; decide +kernel
  funext y
  blk_ext [iblk, hi]

/-- The one block of a window is its whole array. -/
theorem whole7 (c : Dev nD) (t : Fin cfg0.N) : iblk m c 7 t = V m c main_arg7 := by
  have hi : win0_7.index t = ![0] := by rcases fin_N0 t with rfl; decide +kernel
  funext y
  blk_ext [iblk, hi]

/-- The one block of a window is its whole array. -/
theorem whole8 (c : Dev nD) (t : Fin cfg0.N) : iblk m c 8 t = V m c main_arg8 := by
  have hi : win0_8.index t = ![0] := by rcases fin_N0 t with rfl; decide +kernel
  funext y
  blk_ext [iblk, hi]

/-- The scale of column `d` of matrix `b`, from the whole arrays. -/
def SA (p : S24x320x1024.Idx → EReal) (g : S24x1024x6144.Idx → EReal) (mc : S24x320x6144.Idx → EReal) (ms : S24x320x48.Idx → EReal) (vc : S24x320x6144.Idx → EReal) (vs : S24x320x48.Idx → EReal) (st : S24.Idx → BitVec 32) (b : Fin 24) (d : Fin 6144) : EReal :=
  sR (st (ix1 b)) (fun q => rA p g b q d) (fun q => mR (mc (ix3 b q d)) (ms (ix3 b q ⟨d.val / 128, by omega⟩)) (rA p g b q d))
    (fun q => vR (vc (ix3 b q d)) (vs (ix3 b q ⟨d.val / 128, by omega⟩)) (rA p g b q d))

/-- The norm of matrix `b` before the limit, from its gradient and its scales. -/
def NA (g : S24x1024x6144.Idx → EReal) (s : Fin 24 → Fin 6144 → EReal) (b : Fin 24) : EReal :=
  Ideal.sqrt (∑ n : Fin 1024, ∑ j : Fin 48, ∑ l : Fin 128, (g (ix3 b n (colOf j l)) * s b (colOf j l)) * (g (ix3 b n (colOf j l)) * s b (colOf j l)))

/-- The gradient of device `c`. -/
abbrev GM (c : Dev nD) : S24x1024x6144.Idx → EReal := m ((c : Thread nD τ).loc main_arg1)

/-- The weights of device `c`. -/
abbrev WM (c : Dev nD) : S24x1024x6144.Idx → EReal := m ((c : Thread nD τ).loc main_arg0)

/-- The scales of device `c`. -/
abbrev SM (c : Dev nD) : Fin 24 → Fin 6144 → EReal :=
  SA (m ((c : Thread nD τ).loc main_arg2)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))

/-- The norm before the limit, on device `c`. -/
abbrev NM (c : Dev nD) (b : Fin 24) : EReal := NA (m ((c : Thread nD τ).loc main_arg1)) (SM m c) b

/-- The factor that limits the norm, on device `c`. -/
abbrev FM (c : Dev nD) (b : Fin 24) : EReal := fR (m ((c : Thread nD τ).loc main_arg8) (ix1 b)) (NM m c b)

/-- The offsets of a whole array are zero. -/
theorem hz4 : (![0, 0, 0, 0] : Fin 4 → Nat) = fun _ => 0 := funext fun a => by fin_cases a <;> rfl
/-- The offsets of a whole array are zero. -/
theorem hz3 : (![0, 0, 0] : Fin 3 → Nat) = fun _ => 0 := funext fun a => by fin_cases a <;> rfl
/-- The offsets of a whole array are zero. -/
theorem hz1 : (![0] : Fin 1 → Nat) = fun _ => 0 := funext fun a => by fin_cases a; rfl

/-- A load of a whole buffer is the buffer. -/
theorem ld0 {e : EltTy} (X : Vec Ideal S24x320x48x128 e) : View.ld X r0_0 = X := View.ld_unit_zero hz4 _ _
/-- A load of a whole array is the array. -/
theorem ld1 {e : EltTy} (X : Vec Ideal S24x320x48 e) : View.ld X r0_1 = X := View.ld_unit_zero hz3 _ _
/-- A load of a whole array is the array. -/
theorem ld2 {e : EltTy} (X : Vec Ideal S24 e) : View.ld X r0_2 = X := View.ld_unit_zero hz1 _ _
/-- A load of a whole array is the array. -/
theorem ld4 {e : EltTy} (X : Vec Ideal S24x1024x48x128 e) : View.ld X r0_4 = X := View.ld_unit_zero hz4 _ _

/-- The scales that the body computes, by block and lane. -/
theorem scale_apply (c : Dev nD) (b : Fin 24) (j : Fin 48) (l : Fin 128) :
    k0_pay10 (F := Ideal) (k0_pay3 (V m c main_v3)) (k0_pay4 (V m c main_v3) (V m c main_v4) (V m c main_arg4)) k0_pay5
      (k0_pay6 (V m c main_v3) (V m c main_v5) (V m c main_arg6)) (k0_pay7 (V m c main_v3) (V m c main_v5) (V m c main_arg6)) k0_pay8 (V m c main_arg7) (ix3 b j l)
      = SM m c b (colOf j l) := by
  have hj : (⟨(j.val * 128 + l.val) / 128, by omega⟩ : Fin 48) = j := Fin.ext (by show (j.val * 128 + l.val) / 128 = j.val; omega)
  refine (pay10_apply _ _ _ _ _ _ b j l).trans ?_
  unfold SM SA
  simp only [hj]
  rw [V_main_arg7]
  congr 1
  · funext q
    exact (congrArg (fun f => f (ix4 b q j l)) (shapeCast_self _ _)).trans (r_entry m c b q j l)
  · funext q
    refine (pay4_apply _ _ _ b q j l).trans ?_
    rw [r_entry, arg3_entry, V_main_arg4]
  · funext q
    refine (pay9_apply _ _ _ b q j l).trans ?_
    rw [r_entry, arg5_entry, V_main_arg6]

/-- What the body leaves for the scales. -/
theorem out10_apply (c : Dev nD) (t : Fin cfg0.N) (b : Fin 24) (j : Fin 48) (l : Fin 128) : (dats m 0 c).after 10 t (ix3 b j l) = SM m c b (colOf j l) := by
  rw [after0_10, whole0, whole1, whole2, whole3, whole4, whole5, whole6, whole7, whole8]
  unfold_out out0_10
  rw [View.canon_unit_zero hz3]
  simp only [ld0, ld1, ld2, ld4]
  exact scale_apply m c b j l

/-- The scaled gradient that the body computes. -/
theorem grad_apply (c : Dev nD) (b : Fin 24) (n : Fin 1024) (j : Fin 48) (l : Fin 128) :
    k0_pay11 (F := Ideal) (k0_pay3 (V m c main_v3)) (k0_pay4 (V m c main_v3) (V m c main_v4) (V m c main_arg4)) k0_pay5
      (k0_pay6 (V m c main_v3) (V m c main_v5) (V m c main_arg6)) (k0_pay7 (V m c main_v3) (V m c main_v5) (V m c main_arg6)) k0_pay8 (V m c main_arg7) (V m c main_v2) (ix4 b n j l)
      = GM m c (ix3 b n (colOf j l)) * SM m c b (colOf j l) := by
  refine (pay11_apply _ _ _ _ _ _ _ _ b n j l).trans ?_
  rw [scale_apply, arg1_entry]

/-- The norm before the limit that the body computes. -/
theorem norm_apply (c : Dev nD) (b : Fin 24) :
    k0_pay12 (F := Ideal) (k0_pay3 (V m c main_v3)) (k0_pay4 (V m c main_v3) (V m c main_v4) (V m c main_arg4)) k0_pay5
      (k0_pay6 (V m c main_v3) (V m c main_v5) (V m c main_arg6)) (k0_pay7 (V m c main_v3) (V m c main_v5) (V m c main_arg6)) k0_pay8 (V m c main_arg7) (V m c main_v2) (ix1 b)
      = NM m c b := by
  refine (pay12_apply _ _ _ _ _ _ _ _ b).trans ?_
  exact congrArg Ideal.sqrt (Finset.sum_congr rfl fun n _ => Finset.sum_congr rfl fun j _ => Finset.sum_congr rfl fun l _ => congrArg₂ (· * ·) (grad_apply m c b n j l) (grad_apply m c b n j l))

/-- What the body leaves for the norms. -/
theorem out11_apply (c : Dev nD) (t : Fin cfg0.N) (b : Fin 24) : (dats m 0 c).after 11 t (ix1 b) = FM m c b * NM m c b := by
  rw [after0_11, whole0, whole1, whole2, whole3, whole4, whole5, whole6, whole7, whole8]
  unfold_out out0_11
  rw [View.canon_unit_zero hz1]
  simp only [ld0, ld1, ld2, ld4]
  refine (pay15_apply _ _ b).trans ?_
  rw [norm_apply, V_main_arg8]

/-- What the body leaves for the weights' change. -/
theorem out9_apply (c : Dev nD) (t : Fin cfg0.N) (b : Fin 24) (n : Fin 1024) (j : Fin 48) (l : Fin 128) : (dats m 0 c).after 9 t (ix4 b n j l)
    = dR (FM m c b) (GM m c (ix3 b n (colOf j l)) * SM m c b (colOf j l)) (WM m c (ix3 b n (colOf j l))) := by
  rw [after0_9, whole0, whole1, whole2, whole3, whole4, whole5, whole6, whole7, whole8]
  unfold_out out0_9
  rw [View.canon_unit_zero hz4]
  simp only [ld0, ld1, ld2, ld4]
  refine (pay16_apply _ _ _ _ b n j l).trans ?_
  rw [norm_apply, grad_apply, V_main_arg8, arg0_entry]

/-- A new first moment, on device `c`. -/
abbrev MM (c : Dev nD) (b : Fin 24) (q : Fin 320) (d : Fin 6144) : EReal :=
  mR (m ((c : Thread nD τ).loc main_arg3) (ix3 b q d)) (m ((c : Thread nD τ).loc main_arg4) (ix3 b q ⟨d.val / 128, by omega⟩))
    (rA (m ((c : Thread nD τ).loc main_arg2)) (m ((c : Thread nD τ).loc main_arg1)) b q d)

/-- The scale of a block of new first moments, on device `c`. -/
abbrev OM (c : Dev nD) (b : Fin 24) (q : Fin 320) (j : Fin 48) : EReal :=
  scaleR (topR fun l => FloatOps.absf (F := Ideal) (φ := FTy.f32) (MM m c b q (colOf j l)))

/-- What the body leaves for the scales of the first moments. -/
theorem out13_apply (c : Dev nD) (t : Fin cfg0.N) (b : Fin 24) (q : Fin 320) (j : Fin 48) : (dats m 0 c).after 13 t (ix3 b q j) = OM m c b q j := by
  rw [after0_13, whole0, whole1, whole2, whole3, whole4, whole5, whole6, whole7, whole8]
  unfold_out out0_13
  rw [View.canon_unit_zero hz3]
  simp only [ld0, ld1, ld2, ld4]
  refine pay22_apply _ _ _ ((pay17_apply _ b q j).trans (congrArg (fun f => topR f * ((1 / 448 : ℝ) : EReal)) (funext fun l => congrArg (FloatOps.absf (F := Ideal) (φ := FTy.f32)) ?_)))
  have hj : (⟨(j.val * 128 + l.val) / 128, by omega⟩ : Fin 48) = j := Fin.ext (by show (j.val * 128 + l.val) / 128 = j.val; omega)
  refine (pay4_apply _ _ _ b q j l).trans ?_
  rw [r_entry, arg3_entry, V_main_arg4]
  exact congrArg (fun x => mR (m ((c : Thread nD τ).loc main_arg3) (ix3 b q (colOf j l))) (m ((c : Thread nD τ).loc main_arg4) (ix3 b q x)) (rA (m ((c : Thread nD τ).loc main_arg2)) (m ((c : Thread nD τ).loc main_arg1)) b q (colOf j l))) hj.symm

/-- The array of scales of the first moments after the region. -/
theorem final13 (c : Dev nD) : (dats m 0 c).arrAt 13 cfg0.N = fun y : S24x320x48.Idx => OM m c (y 0) (y 1) (y 2) := by
  refine (dats m 0 c).arrAt_eq_of_covers 13 _ (by decide +kernel) fun t hf y => ?_
  have hi : win0_13.index t = ![0, 0, 0] := by rcases fin_N0 t with rfl; decide +kernel
  have hw : ∀ G : S24x320x48.Idx → EReal, ∀ y : S24x320x48.Idx, G ((win0_13.blk t).view.emb y) = G y := fun G y => by blk_ext [hi]
  refine Eq.trans ?_ (hw (fun y => OM m c (y 0) (y 1) (y 2)) y).symm
  exact (congrArg ((dats m 0 c).after 13 t) (eq_ix3 y)).trans (out13_apply m c t (y 0) (y 1) (y 2))

/-- The array of scales, in blocks, after the region. -/
theorem final10 (c : Dev nD) : (dats m 0 c).arrAt 10 cfg0.N = fun y : S24x48x128.Idx => SM m c (y 0) (colOf (y 1) (y 2)) := by
  refine (dats m 0 c).arrAt_eq_of_covers 10 _ (by decide +kernel) fun t hf y => ?_
  have hi : win0_10.index t = ![0, 0, 0] := by rcases fin_N0 t with rfl; decide +kernel
  have hw : ∀ G : S24x48x128.Idx → EReal, ∀ y : S24x48x128.Idx, G ((win0_10.blk t).view.emb y) = G y := fun G y => by blk_ext [hi]
  refine Eq.trans ?_ (hw (fun y => SM m c (y 0) (colOf (y 1) (y 2))) y).symm
  exact (congrArg ((dats m 0 c).after 10 t) (eq_ix3 y)).trans (out10_apply m c t (y 0) (y 1) (y 2))

/-- The array of norms after the region. -/
theorem final11 (c : Dev nD) : (dats m 0 c).arrAt 11 cfg0.N = fun y : S24.Idx => FM m c (y 0) * NM m c (y 0) := by
  refine (dats m 0 c).arrAt_eq_of_covers 11 _ (by decide +kernel) fun t hf y => ?_
  have hi : win0_11.index t = ![0] := by rcases fin_N0 t with rfl; decide +kernel
  have hw : ∀ G : S24.Idx → EReal, ∀ y : S24.Idx, G ((win0_11.blk t).view.emb y) = G y := fun G y => by blk_ext [hi]
  refine Eq.trans ?_ (hw (fun y => FM m c (y 0) * NM m c (y 0)) y).symm
  exact (congrArg ((dats m 0 c).after 11 t) (eq_ix1 y)).trans (out11_apply m c t (y 0))

/-- The array of the weights' change, in blocks, after the region. -/
theorem final9 (c : Dev nD) : (dats m 0 c).arrAt 9 cfg0.N = fun y : S24x1024x48x128.Idx =>
    dR (FM m c (y 0)) (GM m c (ix3 (y 0) (y 1) (colOf (y 2) (y 3))) * SM m c (y 0) (colOf (y 2) (y 3))) (WM m c (ix3 (y 0) (y 1) (colOf (y 2) (y 3)))) := by
  refine (dats m 0 c).arrAt_eq_of_covers 9 _ (by decide +kernel) fun t hf y => ?_
  have hi : win0_9.index t = ![0, 0, 0, 0] := by rcases fin_N0 t with rfl; decide +kernel
  have hw : ∀ G : S24x1024x48x128.Idx → EReal, ∀ y : S24x1024x48x128.Idx, G ((win0_9.blk t).view.emb y) = G y := fun G y => by blk_ext [hi]
  refine Eq.trans ?_ (hw (fun y => dR (FM m c (y 0)) (GM m c (ix3 (y 0) (y 1) (colOf (y 2) (y 3))) * SM m c (y 0) (colOf (y 2) (y 3))) (WM m c (ix3 (y 0) (y 1) (colOf (y 2) (y 3))))) y).symm
  exact (congrArg ((dats m 0 c).after 9 t) (eq_ix4 y)).trans (out9_apply m c t (y 0) (y 1) (y 2) (y 3))

/-- The weights' change after the last host lines is the region's, out of its blocks. -/
theorem tail7 (c : Dev nD) : Pipeline.afterTail₀ cfgs (dats m) 0 (V0 m) [hostOps1] c main_v7 = shapeCast S24x1024x6144 ((dats m 0 c).arrAt 9 cfg0.N) shapeCasts_S24x1024x48x128_S24x1024x6144 := by
  unfold Pipeline.afterTail₀
  after_reads_simp
  exact congrArg (fun A : FVec Ideal S24x1024x48x128 .f32 => shapeCast S24x1024x6144 A shapeCasts_S24x1024x48x128_S24x1024x6144)
    (Pipeline.withArrays_arr spec0 (by decide +kernel) c (V0 m c) (fun w => (dats m 0 c).arrAt w cfg0.N) 9)

/-- The scales after the last host lines are the region's, out of their blocks. -/
theorem tail8 (c : Dev nD) : Pipeline.afterTail₀ cfgs (dats m) 0 (V0 m) [hostOps1] c main_v8 = shapeCast S24x6144 ((dats m 0 c).arrAt 10 cfg0.N) shapeCasts_S24x48x128_S24x6144 := by
  unfold Pipeline.afterTail₀
  after_reads_simp
  exact congrArg (fun A : FVec Ideal S24x48x128 .f32 => shapeCast S24x6144 A shapeCasts_S24x48x128_S24x6144)
    (Pipeline.withArrays_arr spec0 (by decide +kernel) c (V0 m c) (fun w => (dats m 0 c).arrAt w cfg0.N) 10)

/-- A column is its block's place and its lane. -/
theorem col_eq (d : Fin 6144) : colOf ⟨d.val / 128, by omega⟩ ⟨d.val % 128, by omega⟩ = d :=
  Fin.ext (by show d.val / 128 * 128 + d.val % 128 = d.val; omega)

/-- Entry `d` of a row out of its blocks. -/
theorem blocks9 (X : FVec Ideal S24x1024x48x128 .f32) (b : Fin 24) (n : Fin 1024) (d : Fin 6144) :
    shapeCast S24x1024x6144 X shapeCasts_S24x1024x48x128_S24x1024x6144 (ix3 b n d) = X (ix4 b n ⟨d.val / 128, by omega⟩ ⟨d.val % 128, by omega⟩) := by
  pointwise []

/-- Entry `d` of a row out of its blocks. -/
theorem blocks10 (X : FVec Ideal S24x48x128 .f32) (b : Fin 24) (d : Fin 6144) :
    shapeCast S24x6144 X shapeCasts_S24x48x128_S24x6144 (ix2 b d) = X (ix3 b ⟨d.val / 128, by omega⟩ ⟨d.val % 128, by omega⟩) := by
  pointwise []

/-- What the run leaves: the change, the scales, the norms and the scales of the first moments, and the arguments as they were. -/
theorem run_values : θ_run defs (onTc (τ := τ) (main (F := Ideal))) ⟨m, fun _ => 0, ρ⟩ (fun r => ∀ c : Dev nD,
    ((∀ (b : Fin 24) (n : Fin 1024) (d : Fin 6144), r.2.mem ((c : Thread nD τ).loc main_v7) (ix3 b n d) = dR (FM m c b) (GM m c (ix3 b n d) * SM m c b d) (WM m c (ix3 b n d)))
      ∧ (∀ (b : Fin 24) (d : Fin 6144), r.2.mem ((c : Thread nD τ).loc main_v8) (ix2 b d) = SM m c b d)
      ∧ (∀ b : Fin 24, r.2.mem ((c : Thread nD τ).loc main_v6_2) (ix1 b) = FM m c b * NM m c b)
      ∧ (∀ (b : Fin 24) (q : Fin 320) (j : Fin 48), r.2.mem ((c : Thread nD τ).loc main_v6_4) (ix3 b q j) = OM m c b q j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) := by
  refine (θ_run defs _ _).mono (fun r h c => ?_) (run_main m ρ)
  refine ⟨fun b n d => ?_, fun b d => ?_, fun b => ?_, fun b q j => ?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩
  · refine (congrFun ((h c).2 main_v7 (by decide +kernel)) (ix3 b n d)).trans ?_
    refine (congrFun (tail7 m c) (ix3 b n d)).trans ?_
    rw [final9]
    refine (blocks9 _ b n d).trans ?_
    exact congrArg (fun e => dR (FM m c b) (GM m c (ix3 b n e) * SM m c b e) (WM m c (ix3 b n e))) (col_eq d)
  · refine (congrFun ((h c).2 main_v8 (by decide +kernel)) (ix2 b d)).trans ?_
    refine (congrFun (tail8 m c) (ix2 b d)).trans ?_
    rw [final10]
    refine (blocks10 _ b d).trans ?_
    exact congrArg (SM m c b) (col_eq d)
  · exact (congrFun ((h c).1 11) (ix1 b)).trans (congrFun (final11 m c) (ix1 b))
  · exact (congrFun ((h c).1 13) (ix3 b q j)).trans (congrFun (final13 m c) (ix3 b q j))

end Cert.ReferenceIdeal.Value
-- ==== Proof.Covered.lean ====
module

public import proofs.«01_k».proof.Proof.Arithmetic
public import proofs.«01_k».proof.Proof.Gen.On_covered
public import Idealize.ShloMosaic.Lib.ReduceAll

@[expose] public section
set_option maxRecDepth 16384
noncomputable section

/-! What the predicate `covered` says, where it holds, of the arrays it reads. -/

namespace Cert.Covered
open Idealize.ShloMosaic Idealize.ShloMosaic.Tactic
open Cert.On_covered
open Cert.Arithmetic (Settled)

/-- A truth value printed as one bit. -/
theorem ofBool_one {b : Bool} : BitVec.ofBool b = 1#1 ↔ b = true := by cases b <;> decide

/-- A fold by `and` from true that comes out true met only trues. -/
theorem fold_andi {ι : Type} [Fintype ι] (f : ι → BitVec 1) (h : Finset.fold IntOp.andi (1#1) f Finset.univ = 1#1) (i : ι) : f i = 1#1 :=
  ((Finset.fold_op_rel_iff_and (op := IntOp.andi) (r := fun (_ : BitVec 1) (y : BitVec 1) => y = 1#1) (fun {_ _ _} => IntOp.andi_eq_one) (c := 0#1)).1 h).2 i (Finset.mem_univ i)

variable (a0 : FVec Ideal S24x1024x6144 .f32) (a1 : FVec Ideal S24x1024x6144 .bf16) (a2 : FVec Ideal S24x320x1024 .bf16)
  (a3 : FVec Ideal S24x320x6144 .fp8e4m3) (a4 : FVec Ideal S24x320x48 .f32) (a5 : FVec Ideal S24x320x6144 .fp8e4m3) (a6 : FVec Ideal S24x320x48 .f32)
  (a7 : IVec S24 32) (a8 : FVec Ideal S24 .f32)

/-- Where a column is covered, the step is positive and every entry of the column is settled. -/
theorem columns_at (b : Fin 24) (d : Fin 6144) (h : (fn (F := Ideal) a0 a1 a2 a3 a4 a5 a6 a7 a8).2.1 (ix2 b d) = 1#1) :
    0 < (a7 (ix1 b)).toInt
      ∧ ∀ q : Fin 320, Settled (∑ n : Fin 1024, (a2 (ix3 b q n) : EReal) * (a1 (ix3 b n d) : EReal)) (a6 (ix3 b q ⟨d.val / 128, by omega⟩)) := by
  dsimp only [fn, fn_part1] at h
  obtain ⟨h1, h2⟩ := IntOp.andi_eq_one.1 h
  constructor
  · revert h2
    pointwise
    intro h2
    have h := IntOp.cmpi_sgt.1 h2
    exact h
  · intro q
    have h3 := h1
    revert h3
    pointwise
    intro h3
    have h4 := fold_andi _ h3 q
    have ed : (⟨d.val / 128 * 128 + d.val % 128, by omega⟩ : Fin 6144) = d := Fin.ext (by show d.val / 128 * 128 + d.val % 128 = d.val; omega)
    have er : (∑ n : Fin 1024, (a2 (ix3 b q n) : EReal) * (a1 (ix3 b n (⟨d.val / 128 * 128 + d.val % 128, by omega⟩ : Fin 6144)) : EReal))
        = ∑ n : Fin 1024, (a2 (ix3 b q n) : EReal) * (a1 (ix3 b n d) : EReal) :=
      Finset.sum_congr rfl fun n _ => congrArg (fun y => (a2 (ix3 b q n) : EReal) * (a1 (ix3 b n y) : EReal)) ed
    rcases IntOp.ori_eq_one.1 h4 with h5 | h5
    · left
      have h6 := of_decide_eq_true (ofBool_one.1 h5)
      exact le_of_le_of_eq h6 (congrArg₂ (· * ·) er er)
    · right
      obtain ⟨h6, h7⟩ := IntOp.andi_eq_one.1 h5
      exact ⟨er.symm.trans (of_decide_eq_true (ofBool_one.1 h6)), of_decide_eq_true (ofBool_one.1 h7)⟩

/-- Where a matrix is covered, every column of it is. -/
theorem matrices_at (b : Fin 24) (d : Fin 6144) (h : (fn (F := Ideal) a0 a1 a2 a3 a4 a5 a6 a7 a8).2.2.1 (ix1 b) = 1#1) :
    (fn (F := Ideal) a0 a1 a2 a3 a4 a5 a6 a7 a8).2.1 (ix2 b d) = 1#1 := by
  dsimp only [fn, fn_part1] at h ⊢
  refine Host.reduce_andi_eq_one _ _ _ _ (ix1 b) h (ix2 b d) ?_
  funext a
  fin_cases a
  exact Fin.ext (Shape.ReducesTo.drop_apply_val_of_eq _ (ix2 b d) 0 0)

/-- Where an entry of the update is covered, its matrix is and the weight is finite. -/
theorem entries_at (b : Fin 24) (n : Fin 1024) (d : Fin 6144) (h : (fn (F := Ideal) a0 a1 a2 a3 a4 a5 a6 a7 a8).1 (ix3 b n d) = 1#1) :
    (fn (F := Ideal) a0 a1 a2 a3 a4 a5 a6 a7 a8).2.2.1 (ix1 b) = 1#1 ∧ ∃ w : ℝ, (a0 (ix3 b n d) : EReal) = (w : EReal) := by
  dsimp only [fn, fn_part1] at h ⊢
  obtain ⟨h1, h2⟩ := IntOp.andi_eq_one.1 h
  constructor
  · revert h1
    pointwise
    exact id
  · revert h2
    pointwise
    intro h2
    have h3 : max (a0 (ix3 b n d) : EReal) (-(a0 (ix3 b n d) : EReal)) < Ideal.ofBits FTy.f32 2139095040#32 := of_decide_eq_true (ofBool_one.1 h2)
    rw [show Ideal.ofBits FTy.f32 2139095040#32 = ⊤ by simp [Ideal.ofBits, Ideal.ieee]] at h3
    revert h3
    generalize h : (a0 (ix3 b n d) : EReal) = w
    intro h3
    clear h
    induction w using EReal.rec with
    | bot => simp at h3
    | top => simp at h3
    | coe w => exact ⟨w, rfl⟩

/-- Nothing is claimed of the stored codes of the first moments. -/
theorem no_codes (i : S24x320x6144.Idx) : (fn (F := Ideal) a0 a1 a2 a3 a4 a5 a6 a7 a8).2.2.2.1 i ≠ 1#1 := by
  dsimp only [fn, fn_part1]
  intro h
  exact absurd (show (0#1 : BitVec 1) = 1#1 from h) (by decide)

/-- Nothing is claimed of the stored codes of the second moments. -/
theorem no_codes' (i : S24x320x6144.Idx) : (fn (F := Ideal) a0 a1 a2 a3 a4 a5 a6 a7 a8).2.2.2.2.2.1 i ≠ 1#1 := by
  dsimp only [fn, fn_part1]
  intro h
  exact absurd (show (0#1 : BitVec 1) = 1#1 from h) (by decide)

/-- Nothing is claimed of the stored scales of the codes of the second moments. -/
theorem no_code_scales' (i : S24x320x48.Idx) : (fn (F := Ideal) a0 a1 a2 a3 a4 a5 a6 a7 a8).2.2.2.2.2.2 i ≠ 1#1 := by
  dsimp only [fn, fn_part1]
  intro h
  exact absurd (show (0#1 : BitVec 1) = 1#1 from h) (by decide)

end Cert.Covered
-- ==== Proof.ScaleOf.lean ====
module

public import proofs.«01_k».proof.Proof.KernelIdealPeaksValue
public import proofs.«01_k».proof.Proof.ReferenceIdealValue

@[expose] public section
set_option maxRecDepth 16384
noncomputable section

/-! The search by which the kernel finds the scale of a block finds the power of two that the reference
computes by a logarithm. -/

namespace Cert.ScaleOf
open Idealize.ShloMosaic
open Cert.KernelIdeal.Track (expoStep expoS scaleS)
open Cert.ReferenceIdeal.Value (scaleR)

/-- The float whose exponent field is `k` and whose other bits are zero. -/
theorem field_eq (k : ℕ) (h1 : 1 ≤ k) (h2 : k ≤ 254) :
    Ideal.ofBits FTy.f32 (BitVec.ofNat 32 k <<< 23) = (((2 : ℝ) ^ ((k : ℤ) - 127) : ℝ) : EReal) := by
  have hx : ∀ k : Fin 255, (((BitVec.ofNat 32 k.val <<< 23).extractLsb' 23 8).toNat = k.val)
      ∧ ((BitVec.ofNat 32 k.val <<< 23).extractLsb' 0 23).toNat = 0 ∧ ((BitVec.ofNat 32 k.val <<< 23).extractLsb' 31 1 == 1#1) = false := by decide +kernel
  obtain ⟨a, b, c⟩ := hx ⟨k, by omega⟩
  dsimp only at a b c
  show Ideal.ieee 8 23 _ = _
  unfold Ideal.ieee
  simp only [a, b, c]
  rw [if_neg (by omega), if_neg (by omega)]
  refine congrArg _ ?_
  have e : ((k : ℤ) - (2 ^ (8 - 1) - 1) - (23 : ℕ)) = ((k : ℤ) - 127) - 23 := by norm_num
  rw [e, zpow_sub₀ (by norm_num : (2 : ℝ) ≠ 0) _ 23]
  norm_num
  ring

/-- The float whose exponent field is full is infinite. -/
theorem field_top : Ideal.ofBits FTy.f32 (BitVec.ofNat 32 255 <<< 23) = ⊤ := by simp [Ideal.ofBits, Ideal.ieee]

/-- The float past the last exponent field is zero. -/
theorem field_past : Ideal.ofBits FTy.f32 (BitVec.ofNat 32 256 <<< 23) = 0 := by simp [Ideal.ofBits, Ideal.ieee]

/-- One step of a search for a number `n`. -/
def seekStep (n : ℕ) (e : BitVec 32) (k : ℕ) : BitVec 32 := if (e + 128#32 >>> k).toNat ≤ n then e + 128#32 >>> k else e

/-- The search finds every number below 256. -/
theorem seek_eq : ∀ n : Fin 256, (List.range 8).foldl (seekStep n.val) 0#32 = BitVec.ofNat 32 n.val := by decide +kernel

/-- Every candidate of the search lies from 1 to 255. -/
theorem seek_cand : ∀ n : Fin 256, ∀ k : Fin 8, 1 ≤ ((List.range k.val).foldl (seekStep n.val) 0#32 + 128#32 >>> k.val).toNat
    ∧ ((List.range k.val).foldl (seekStep n.val) 0#32 + 128#32 >>> k.val).toNat ≤ 255 := by decide +kernel

/-- The search for the exponent of `x` is the search for the number of powers of two up to it. -/
theorem expo_eq (x : EReal) (n : ℕ) (hn : n ≤ 255)
    (h : ∀ k : ℕ, 1 ≤ k → k ≤ 255 → (Ideal.ofBits FTy.f32 (BitVec.ofNat 32 k <<< 23) ≤ x * ((1 / 448 : ℝ) : EReal) ↔ k ≤ n)) :
    expoS x = BitVec.ofNat 32 n := by
  have key : ∀ j : ℕ, j ≤ 8 → (List.range j).foldl (expoStep x) 0#32 = (List.range j).foldl (seekStep n) 0#32 := by
    intro j
    induction j with
    | zero => intro _; rfl
    | succ j ih =>
      intro hj
      rw [List.range_succ, List.foldl_append, List.foldl_append, ih (by omega)]
      obtain ⟨c1, c2⟩ := seek_cand ⟨n, by omega⟩ ⟨j, by omega⟩
      dsimp only at c1 c2
      show expoStep x _ j = seekStep n _ j
      generalize (List.range j).foldl (seekStep n) 0#32 = e at c1 c2 ⊢
      have hk := h (e + 128#32 >>> j).toNat c1 c2
      rw [BitVec.ofNat_toNat, BitVec.setWidth_eq] at hk
      unfold expoStep seekStep
      exact if_congr hk rfl rfl
  exact (key 8 le_rfl).trans (seek_eq ⟨n, by omega⟩)

/-- The scale by the number found. -/
theorem scale_of (x : EReal) (n : ℕ) (hn : n ≤ 255) (h : expoS x = BitVec.ofNat 32 n) :
    scaleS x = if n = 0 then 1 else Ideal.ofBits FTy.f32 (BitVec.ofNat 32 (n + 1) <<< 23) := by
  unfold scaleS
  rw [h]
  by_cases h0 : n = 0
  · subst h0
    rfl
  · rw [if_neg h0, if_neg (fun e => h0 (by have := congrArg BitVec.toNat e; simpa [Nat.mod_eq_of_lt (show n < 4294967296 by omega)] using this)), BitVec.ofNat_add]

/-- Every candidate is at least the smallest normal float. -/
theorem field_ge (k : ℕ) (h1 : 1 ≤ k) (h2 : k ≤ 255) : (((2 : ℝ) ^ (-126 : ℤ) : ℝ) : EReal) ≤ Ideal.ofBits FTy.f32 (BitVec.ofNat 32 k <<< 23) := by
  rcases Nat.lt_or_ge k 255 with h | h
  · rw [field_eq k h1 (by omega), EReal.coe_le_coe_iff]
    exact zpow_le_zpow_right₀ (by norm_num) (by omega)
  · obtain rfl : k = 255 := by omega
    rw [field_top]
    exact le_top

/-- The kernel's scale of a maximum is the scale that mathematics gives it. -/
theorem scale_eq (x : EReal) : scaleS x = scaleR x := by
  have t1 : Ideal.ofBits FTy.f32 0x00800000#32 = (((2 : ℝ) ^ (-126 : ℤ) : ℝ) : EReal) := (field_eq 1 (by norm_num) (by norm_num)).trans (by norm_num)
  have t2 : Ideal.ofBits FTy.f32 0x7F000000#32 = (((2 : ℝ) ^ (127 : ℤ) : ℝ) : EReal) := (field_eq 254 (by norm_num) (by norm_num)).trans (by norm_num)
  have hs := expo_eq x
  unfold scaleR
  rw [t1, t2]
  generalize x * ((1 / 448 : ℝ) : EReal) = y at hs ⊢
  by_cases hy : y < (((2 : ℝ) ^ (-126 : ℤ) : ℝ) : EReal)
  · rw [scale_of x 0 (by norm_num) (hs 0 (by norm_num) fun k h1 h2 => ⟨fun h => absurd (lt_of_lt_of_le hy ((field_ge k h1 h2).trans h)) (lt_irrefl _), fun h => by omega⟩), if_pos rfl, if_pos hy,
      if_pos (hy.trans (EReal.coe_lt_coe_iff.2 (zpow_lt_zpow_right₀ (by norm_num) (by norm_num))))]
    show (1 : EReal) = Ideal.exp2 ((0 : ℝ) : EReal)
    rw [Ideal.exp2_coe]
    show (1 : EReal) = (((2 : ℝ) ^ (0 : ℝ) : ℝ) : EReal)
    rw [Real.rpow_zero]
    rfl
  · rw [if_neg hy]
    induction y using EReal.rec with
    | bot => exact absurd (EReal.bot_lt_coe _) hy
    | top =>
      rw [scale_of x 255 le_rfl (hs 255 le_rfl fun k h1 h2 => ⟨fun _ => h2, fun _ => le_top⟩), if_neg (by norm_num), if_neg (not_lt.2 le_top), if_neg (lt_irrefl _)]
      exact field_past
    | coe r =>
      have hr : (2 : ℝ) ^ (-126 : ℤ) ≤ r := EReal.coe_le_coe_iff.1 (not_lt.1 hy)
      have h0 : 0 < r := lt_of_lt_of_le (zpow_pos (by norm_num) _) hr
      have hlog : ∀ z : ℤ, (2 : ℝ) ^ z ≤ r ↔ z ≤ ⌊Real.log r / Real.log 2⌋ := fun z => by
        rw [Int.le_floor, le_div_iff₀ (Real.log_pos (by norm_num)), ← Real.log_zpow, Real.log_le_log_iff (zpow_pos (by norm_num) z) h0]
      have hlo : -126 ≤ ⌊Real.log r / Real.log 2⌋ := (hlog _).1 hr
      generalize hf : ⌊Real.log r / Real.log 2⌋ = f at hlog hlo
      have hn := hs (min (f + 127).toNat 254) (by omega) fun k h1 h2 => by
        rcases Nat.lt_or_ge k 255 with h | h
        · rw [field_eq k h1 (by omega), EReal.coe_le_coe_iff, hlog]
          omega
        · obtain rfl : k = 255 := by omega
          rw [field_top]
          exact ⟨fun h => absurd (top_le_iff.1 h) (EReal.coe_ne_top r), fun h => by omega⟩
      rw [scale_of x _ (by omega) hn, if_neg (by omega)]
      by_cases hb : r < (2 : ℝ) ^ (127 : ℤ)
      · have hf2 : f ≤ 126 := by
          by_contra h
          exact absurd ((hlog 127).2 (by omega)) (not_le.2 hb)
        rw [if_pos (EReal.coe_lt_coe_iff.2 hb), field_eq _ (by omega) (by omega), Ideal.log_coe, if_neg (not_le.2 h0), Ideal.div_coe (Real.log_pos (by norm_num)).ne', ← EReal.coe_mul,
          show Real.log r * (1 / Real.log 2) = Real.log r / Real.log 2 by ring]
        show _ = Ideal.exp2 (((⌊Real.log r / Real.log 2⌋ : ℝ) : EReal) + ((1 : ℝ) : EReal))
        rw [hf, ← EReal.coe_add, Ideal.exp2_coe]
        show _ = (((2 : ℝ) ^ ((f : ℝ) + 1) : ℝ) : EReal)
        refine congrArg _ ?_
        rw [show ((f : ℝ) + 1) = ((f + 1 : ℤ) : ℝ) by push_cast; rfl, Real.rpow_intCast]
        refine congrArg _ ?_
        omega
      · have hf2 : 127 ≤ f := (hlog 127).1 (not_lt.1 hb)
        rw [if_neg (fun h => hb (EReal.coe_lt_coe_iff.1 h)), if_pos (EReal.coe_lt_top r), show min (f + 127).toNat 254 + 1 = 255 by omega]
        exact field_top

end Cert.ScaleOf
-- ==== Proof.Agree.lean ====
module

public import proofs.«01_k».proof.Defs
public import proofs.«01_k».proof.Proof.KernelIdealClosed
public import proofs.«01_k».proof.Proof.ReferenceIdealRun
public import proofs.«01_k».proof.Proof.Covered
public import proofs.«01_k».proof.Proof.ScaleOf

@[expose] public section
set_option maxRecDepth 16384
set_option pp.maxSteps 600
noncomputable section

/-! The kernel's scales, norm and update are the reference's, wherever `covered` holds. -/

namespace Cert.Agree
open Idealize.ShloMosaic Idealize.ShloMosaic.TcCoe Idealize.ShloMosaic.Tactic
open Idealize.SL.Sem
open Cert.Arithmetic (Settled)
open Cert.KernelIdeal.Track (GK PK MCK MSK VCK VSK TK RK insOf colOf)
open Cert.ReferenceIdeal.Value (SA NA fR dR mR rA scaleR topR)

variable (m : (ℓ : Loc Cert.KernelIdeal.nD Cert.KernelIdeal.τ Cert.KernelIdeal.sig) → Buf (Elt Ideal) ℓ)

/-- The limits of the norm, as extended reals. -/
abbrev VK (c : Dev Cert.KernelIdeal.nD) : Cert.KernelIdeal.S24.Idx → EReal := m ((c : Thread Cert.KernelIdeal.nD Cert.KernelIdeal.τ).loc Cert.KernelIdeal.main_arg8)

/-- The weights, as extended reals. -/
abbrev WK (c : Dev Cert.KernelIdeal.nD) : Cert.KernelIdeal.S24x1024x6144.Idx → EReal := m ((c : Thread Cert.KernelIdeal.nD Cert.KernelIdeal.τ).loc Cert.KernelIdeal.main_arg0)

/-- The reference's scales on the kernel's arguments. -/
abbrev SR (c : Dev Cert.KernelIdeal.nD) : Fin 24 → Fin 6144 → EReal := SA (PK m c) (GK m c) (MCK m c) (MSK m c) (VCK m c) (VSK m c) (TK m c)

/-- The reference's norm before the limit, on the kernel's arguments. -/
abbrev NR (c : Dev Cert.KernelIdeal.nD) (b : Fin 24) : EReal := NA (GK m c) (SR m c) b

/-- The reference's factor, on the kernel's arguments. -/
abbrev FR (c : Dev Cert.KernelIdeal.nD) (b : Fin 24) : EReal := fR (VK m c (ix1 b)) (NR m c b)

/-- The reference's scale of a block of new first moments, on the kernel's arguments. -/
abbrev OR (c : Dev Cert.KernelIdeal.nD) (b : Fin 24) (q : Fin 320) (j : Fin 48) : EReal :=
  scaleR (topR fun l => FloatOps.absf (F := Ideal) (φ := FTy.f32) (mR (MCK m c (ix3 b q (Cert.ReferenceIdeal.Value.colOf j l)))
    (MSK m c (ix3 b q ⟨(Cert.ReferenceIdeal.Value.colOf j l).val / 128, by omega⟩)) (rA (PK m c) (GK m c) b q (Cert.ReferenceIdeal.Value.colOf j l))))

/-- The kernel's scale of a block of new first moments is the reference's. -/
theorem outs_eq (c : Dev Cert.KernelIdeal.nD) (b : Fin 24) (q : Fin 320) (j : Fin 48) :
    Cert.KernelIdeal.Track.scaleS ((insOf m c).T (6 * b.val + j.val / 8) (j.val % 8) q) = OR m c b q j := by
  rw [Cert.KernelIdeal.Track.T_at, Cert.ScaleOf.scale_eq]
  refine congrArg scaleR (congrArg topR (funext fun k => congrArg (FloatOps.absf (F := Ideal) (φ := FTy.f32)) ?_))
  exact Cert.Arithmetic.m_eq _ _ _

/-- The predicate on the kernel's arguments. -/
abbrev covered [Cert.On_covered.Facts] (c : Dev Cert.KernelIdeal.nD) :=
  Cert.On_covered.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The kernel's scale of a covered column is the reference's. -/
theorem scale_eq (c : Dev Cert.KernelIdeal.nD) (b : Fin 24) (j : Fin 6) (e : Fin 1024) (h : (covered m c).2.1 (ix2 b (colOf j e)) = 1#1) :
    (insOf m c).S (6 * b.val + j.val) e.val = SR m c b (colOf j e) := by
  obtain ⟨ht, hs⟩ := Cert.Covered.columns_at _ _ _ _ _ _ _ _ _ b (colOf j e) h
  exact (Cert.KernelIdeal.Track.S_at m c b j e).trans (Cert.Arithmetic.s_eq (TK m c (ix1 b)) ht (fun q => MCK m c (ix3 b q (colOf j e)))
    (fun q => MSK m c (ix3 b q ⟨(colOf j e).val / 128, by omega⟩)) (fun q => VCK m c (ix3 b q (colOf j e)))
    (fun q => VSK m c (ix3 b q ⟨(colOf j e).val / 128, by omega⟩)) (fun q => RK m c b q (colOf j e)) hs)

/-- The kernel's norm of a covered matrix, before the limit, is the reference's. -/
theorem norm_eq (c : Dev Cert.KernelIdeal.nD) (b : Fin 24) (h : (covered m c).2.2.1 (ix1 b) = 1#1) :
    Cert.KernelIdeal.Track.normS (fun l => (insOf m c).N b.val 6 l.val) = NR m c b :=
  Cert.KernelIdeal.Track.norm_at m c b (SR m c b) fun j e => scale_eq m c b j e (Cert.Covered.matrices_at _ _ _ _ _ _ _ _ _ b (colOf j e) h)

/-- The kernel's factor of a covered matrix is the reference's. -/
theorem factor_eq (c : Dev Cert.KernelIdeal.nD) (b : Fin 24) (h : (covered m c).2.2.1 (ix1 b) = 1#1) : (insOf m c).F b.val = FR m c b := by
  have h24 : Cert.KernelIdeal.Track.at24 b.val = b := Fin.ext (Nat.mod_eq_of_lt b.isLt)
  have hp : (insOf m c).pv (6 * b.val + 5) (ix1 b) = VK m c (ix1 b) := Cert.KernelIdeal.Track.pv_at m c _ b
  unfold Cert.KernelIdeal.Track.Ins.F Cert.KernelIdeal.Track.factorS FR fR
  rw [norm_eq m c b h, h24, hp]

/-- The kernel's weights' change of a covered entry is the reference's. -/
theorem change_at (c : Dev Cert.KernelIdeal.nD) (b : Fin 24) (j : Fin 6) (n e : Fin 1024) (hi : (covered m c).1 (ix3 b n (colOf j e)) = 1#1) :
    (insOf m c).g (6 * b.val + j.val) (ix3 0 n e) * ((insOf m c).S (6 * b.val + j.val) e.val * -(((1 / 1000 : ℝ) : EReal) * (insOf m c).F b.val))
        + (insOf m c).w (6 * b.val + j.val + 6) (ix3 0 n e) * ((-1 / 10000 : ℝ) : EReal)
      = dR (FR m c b) (GK m c (ix3 b n (colOf j e)) * SR m c b (colOf j e)) (WK m c (ix3 b n (colOf j e))) := by
  obtain ⟨hb, w, hw⟩ := Cert.Covered.entries_at _ _ _ _ _ _ _ _ _ b n (colOf j e) hi
  have hw' : WK m c (ix3 b n (colOf j e)) = (w : EReal) := hw
  rw [Cert.KernelIdeal.Track.g_at m c b j n e, Cert.KernelIdeal.Track.w_at m c b j n e, scale_eq m c b j e (Cert.Covered.matrices_at _ _ _ _ _ _ _ _ _ b (colOf j e) hb), factor_eq m c b hb]
  unfold dR
  rw [hw']
  refine Eq.trans ?_ (Cert.Arithmetic.change_eq (FR m c b) (GK m c (ix3 b n (colOf j e))) (SR m c b (colOf j e)) w)
  exact congrArg (_ + · * _) hw'

/-- An index of a matrix from its two coordinates. -/
theorem eta2 {n0 n1 : ℕ} (i : (⟨2, ![n0, n1]⟩ : Shape).Idx) : i = ix2 (i 0) (i 1) := by
  funext a; fin_cases a <;> rfl

/-- An index of a list from its coordinate. -/
theorem eta1 {n0 : ℕ} (i : (⟨1, ![n0]⟩ : Shape).Idx) : i = ix1 (i 0) := by
  funext a; fin_cases a; rfl

/-- An index of an array of rank three from its three coordinates. -/
theorem eta3 {n0 n1 n2 : ℕ} (i : (⟨3, ![n0, n1, n2]⟩ : Shape).Idx) : i = ix3 (i 0) (i 1) (i 2) := by
  funext a; fin_cases a <;> rfl

/-- Both programs end with the same updates, scales, norms and scales of the first moments wherever `covered` holds, and leave their
arguments as they were. -/
theorem algebraic : Cert.algebraic_KernelIdeal_ReferenceIdeal_on_covered (hKernelIdeal := Cert.KernelIdeal.Gen.facts)
    (hReferenceIdeal := Cert.ReferenceIdeal.Gen.facts) (hOn_covered := Cert.On_covered.Gen.facts) := by
  intro m ρ m' ρ' _ hagree
  refine ⟨fun c i => dR (FR m c (i 0)) (GK m c i * SR m c (i 0) (i 2)) (WK m c i), fun c i => SR m c (i 0) (i 1), fun c i => FR m c (i 0) * NR m c (i 0), fun c => m ((c.tc : Thread Cert.KernelIdeal.nD Cert.KernelIdeal.τ).loc Cert.KernelIdeal.main_v0_3), fun c i => OR m c (i 0) (i 1) (i 2), fun c => m ((c.tc : Thread Cert.KernelIdeal.nD Cert.KernelIdeal.τ).loc Cert.KernelIdeal.main_v0_5), fun c => m ((c.tc : Thread Cert.KernelIdeal.nD Cert.KernelIdeal.τ).loc Cert.KernelIdeal.main_v0_6), ?_, ?_⟩
  · refine (θ_run Cert.KernelIdeal.defs _ _).mono (fun r h c => ⟨fun i hi => ?_, fun i hi => ?_, fun i hi => ?_, fun i hi => absurd hi (Cert.Covered.no_codes _ _ _ _ _ _ _ _ _ i), fun i _ => ?_, fun i hi => absurd hi (Cert.Covered.no_codes' _ _ _ _ _ _ _ _ _ i), fun i hi => absurd hi (Cert.Covered.no_code_scales' _ _ _ _ _ _ _ _ _ i), ?_⟩) (Cert.KernelIdeal.Track.run_main m ρ)
    · have hc : colOf ⟨(i 2).val / 1024, by have := (i 2).isLt; change _ < 6144 at this; omega⟩ ⟨(i 2).val % 1024, by omega⟩ = i 2 :=
        Fin.ext (by show 1024 * ((i 2).val / 1024) + (i 2).val % 1024 = (i 2).val; omega)
      have hx : ix3 (i 0) (i 1) (colOf ⟨(i 2).val / 1024, by have := (i 2).isLt; change _ < 6144 at this; omega⟩ ⟨(i 2).val % 1024, by omega⟩) = i :=
        (congrArg (ix3 (i 0) (i 1)) hc).trans (eta3 i).symm
      have key := (Cert.KernelIdeal.Track.delta_final m c r h.1 (i 0) ⟨(i 2).val / 1024, by have := (i 2).isLt; change _ < 6144 at this; omega⟩ (i 1) ⟨(i 2).val % 1024, by omega⟩).trans (change_at m c (i 0) ⟨(i 2).val / 1024, by have := (i 2).isLt; change _ < 6144 at this; omega⟩ (i 1) ⟨(i 2).val % 1024, by omega⟩ ((congrArg (covered m c).1 hx).trans hi))
      refine (congrArg _ hx.symm).trans (key.trans ?_)
      exact congrArg₂ (fun x d => dR (FR m c (i 0)) (GK m c x * SR m c (i 0) d) (WK m c x)) hx hc
    · have hi' : (covered m c).2.1 (ix2 (i 0) (i 1)) = 1#1 := (congrArg (covered m c).2.1 (eta2 i)).symm.trans hi
      have hc : colOf ⟨(i 1).val / 1024, by have := (i 1).isLt; change _ < 6144 at this; omega⟩ ⟨(i 1).val % 1024, by omega⟩ = i 1 :=
        Fin.ext (by show 1024 * ((i 1).val / 1024) + (i 1).val % 1024 = (i 1).val; omega)
      refine (congrArg _ (eta2 i)).trans ((Cert.KernelIdeal.Track.scales_final m c r h.1 (i 0) (i 1)).trans ?_)
      refine (scale_eq m c (i 0) ⟨(i 1).val / 1024, by have := (i 1).isLt; change _ < 6144 at this; omega⟩ ⟨(i 1).val % 1024, by omega⟩ ?_).trans ?_
      · exact (congrArg (fun d => (covered m c).2.1 (ix2 (i 0) d)) hc).trans hi'
      · exact congrArg (SR m c (i 0)) hc
    · have hi' : (covered m c).2.2.1 (ix1 (i 0)) = 1#1 := (congrArg (covered m c).2.2.1 (eta1 i)).symm.trans hi
      refine (congrArg _ (eta1 i)).trans ((Cert.KernelIdeal.Track.norms_final m c r h.1 (i 0)).trans ?_)
      exact congrArg₂ (· * ·) (factor_eq m c (i 0) hi') (norm_eq m c (i 0) hi')
    · exact (congrArg _ (eta3 i)).trans ((Cert.KernelIdeal.Track.outs_final m c r h.1 (i 0) (i 1) (i 2)).trans (outs_eq m c (i 0) (i 1) (i 2)))
    · exact ⟨(h.1.arr_in c 2 rfl).trans ((Cert.KernelIdeal.Track.A_eq m c 2).trans (Cert.KernelIdeal.Gen.V_main_arg0 m c)), (h.1.arr_in c 3 rfl).trans ((Cert.KernelIdeal.Track.A_eq m c 3).trans (Cert.KernelIdeal.Gen.V_main_arg1 m c)), (h.1.arr_in c 4 rfl).trans ((Cert.KernelIdeal.Track.A_eq m c 4).trans (Cert.KernelIdeal.Gen.V_main_arg2 m c)), (h.1.arr_in c 5 rfl).trans ((Cert.KernelIdeal.Track.A_eq m c 5).trans (Cert.KernelIdeal.Gen.V_main_arg3 m c)), (h.1.arr_in c 6 rfl).trans ((Cert.KernelIdeal.Track.A_eq m c 6).trans (Cert.KernelIdeal.Gen.V_main_arg4 m c)), (h.1.arr_in c 7 rfl).trans ((Cert.KernelIdeal.Track.A_eq m c 7).trans (Cert.KernelIdeal.Gen.V_main_arg5 m c)), (h.1.arr_in c 8 rfl).trans ((Cert.KernelIdeal.Track.A_eq m c 8).trans (Cert.KernelIdeal.Gen.V_main_arg6 m c)), (h.1.arr_in c 0 rfl).trans ((Cert.KernelIdeal.Track.A_eq m c 0).trans (Cert.KernelIdeal.Gen.V_main_arg7 m c)), (h.1.arr_in c 1 rfl).trans ((Cert.KernelIdeal.Track.A_eq m c 1).trans (Cert.KernelIdeal.Gen.V_main_arg8 m c))⟩
  · refine (θ_run Cert.ReferenceIdeal.defs _ _).mono (fun r h c => ?_) (Cert.ReferenceIdeal.Value.run_values m' ρ')
    obtain ⟨h0, h1, h2, h3, h4, h5, h6, h7, h8⟩ := hagree c
    obtain ⟨hd, hs, hn, ho, hargs⟩ := h c
    have eS : Cert.ReferenceIdeal.Value.SM m' c = SR m c := by
      unfold Cert.ReferenceIdeal.Value.SM
      rw [h1, h2, h3, h4, h5, h6, h7]
    have eN : ∀ b, Cert.ReferenceIdeal.Value.NM m' c b = NR m c b := fun b => congrArg₂ (fun g s => NA g s b) h1 eS
    have eF : ∀ b, Cert.ReferenceIdeal.Value.FM m' c b = FR m c b := fun b => congrArg₂ fR (congrFun h8 (ix1 b)) (eN b)
    have eD : ∀ (b : Fin 24) (n : Fin 1024) (d : Fin 6144),
        dR (Cert.ReferenceIdeal.Value.FM m' c b) (Cert.ReferenceIdeal.Value.GM m' c (ix3 b n d) * Cert.ReferenceIdeal.Value.SM m' c b d) (Cert.ReferenceIdeal.Value.WM m' c (ix3 b n d))
          = dR (FR m c b) (GK m c (ix3 b n d) * SR m c b d) (WK m c (ix3 b n d)) := fun b n d => by
      rw [eF, eS]
      exact congrArg₂ (fun g w => dR (FR m c b) (g * SR m c b d) w) (congrFun h1 (ix3 b n d)) (congrFun h0 (ix3 b n d))
    have eO : ∀ (b : Fin 24) (q : Fin 320) (j : Fin 48), Cert.ReferenceIdeal.Value.OM m' c b q j = OR m c b q j := fun b q j => by
      unfold Cert.ReferenceIdeal.Value.OM Cert.ReferenceIdeal.Value.MM
      rw [h1, h2, h3, h4]
    refine ⟨fun i hi => ?_, fun i hi => ?_, fun i hi => ?_, fun i hi => absurd hi (Cert.Covered.no_codes _ _ _ _ _ _ _ _ _ i), fun i _ => ?_, fun i hi => absurd hi (Cert.Covered.no_codes' _ _ _ _ _ _ _ _ _ i), fun i hi => absurd hi (Cert.Covered.no_code_scales' _ _ _ _ _ _ _ _ _ i), hargs⟩
    · exact (congrArg _ (eta3 i)).trans ((hd (i 0) (i 1) (i 2)).trans ((eD (i 0) (i 1) (i 2)).trans
        (congrArg (fun y => dR (FR m c (i 0)) (GK m c y * SR m c (i 0) (i 2)) (WK m c y)) (eta3 i).symm)))
    · exact (congrArg _ (eta2 i)).trans ((hs (i 0) (i 1)).trans (congrFun (congrFun eS (i 0)) (i 1)))
    · exact (congrArg _ (eta1 i)).trans ((hn (i 0)).trans (congrArg₂ (· * ·) (eF (i 0)) (eN (i 0))))
    · exact (congrArg _ (eta3 i)).trans ((ho (i 0) (i 1) (i 2)).trans (eO (i 0) (i 1) (i 2)))

end Cert.Agree
-- ==== Proof.lean ====
/-
  The proof of `Cert.Claim`: the programs' frames (Proof/KernelFrame.lean, Proof/KernelIdealFrame.lean and the generated one of
  the reference), the named constants, each the rounding of the real number it is given, and the agreement of the kernel with
  the reference (Proof/Agree.lean).
-/
module

public import proofs.«01_k».proof.Defs
public import proofs.«01_k».proof.Proof.KernelFrame
public import proofs.«01_k».proof.Proof.KernelIdealFrame
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.On_covered
public import proofs.«01_k».proof.Proof.Gen.ReferenceIdeal.Frame
public import proofs.«01_k».proof.Proof.Gen.ReferenceIdeal.Points
public import proofs.«01_k».proof.Proof.Gen.ReferenceIdeal.Launch
public import proofs.«01_k».proof.Proof.Gen.ReferenceIdeal.Skeleton
public import Idealize.ShloMosaic.Adequacy
public import Idealize.ShloMosaic.Init

@[expose] public section

noncomputable section

namespace Cert.Proof

open Idealize.ShloMosaic Idealize.SL.Sem

/-- Each named constant is the rounding of the number it names. -/
theorem preserves : Cert.preserves_Kernel_KernelIdeal :=
  ⟨IdealRules.named_const.statement Cert.KernelIdeal.κ "thousandth" .f32 _ _ rfl,
    IdealRules.named_const.statement Cert.KernelIdeal.κ "neg_lr_wd" .f32 _ _ rfl,
    IdealRules.named_const.statement Cert.KernelIdeal.κ "beta1" .f32 _ _ rfl,
    IdealRules.named_const.statement Cert.KernelIdeal.κ "log_beta1" .f32 _ _ rfl,
    IdealRules.named_const.statement Cert.KernelIdeal.κ "log_beta2" .f32 _ _ rfl,
    IdealRules.named_const.statement Cert.KernelIdeal.κ "eps" .f32 _ _ rfl,
    IdealRules.named_const.statement Cert.KernelIdeal.κ "tenth" .f32 _ _ rfl,
    IdealRules.named_const.statement Cert.KernelIdeal.κ "inv_fp8_max" .f32 _ _ rfl,
    IdealRules.named_const.statement Cert.KernelIdeal.κ "gamma" .f32 _ _ rfl⟩

/-- Everything the certificate claims. -/
theorem claim : Cert.Claim :=
  ⟨Cert.Kernel.Gen.facts, Cert.KernelIdeal.Gen.facts, Cert.ReferenceIdeal.Gen.facts, Cert.On_covered.Gen.facts,
    fun m ρ _ => Cert.Kernel.Step.frame m ρ,
    fun m ρ _ => Cert.KernelIdeal.Step.frame m ρ,
    fun m ρ _ => Cert.ReferenceIdeal.Gen.frame m ρ,
    preserves,
    Cert.Agree.algebraic⟩

end Cert.Proof

end
